-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S5x20000 : Shape := ⟨2, ![5, 20000]⟩
abbrev S_ : Shape := ⟨0, ![]⟩

class Facts : Prop where
  bcast_S_S5x20000 : S_.BroadcastsInDim S5x20000 (![] : Fin 0 → Fin S5x20000.rank)
  reducesTo_S5x20000_S_d0_1 : S5x20000.ReducesTo [0, 1] S_
  h_S_ : 0 < S_.numel

variable [Facts]

def fn {F : FTy → Type} [FloatOps F] (main_arg0 : FVec F S5x20000 .f32) : IVec S_ 1 :=
  let main_v0 : FVec F S5x20000 .f32 := Host.absf main_arg0
  let main_cst : FVec F S_ .f32 := constant S_ .f32 0x7F800000#32
  let main_v1 : FVec F S5x20000 .f32 := broadcastInDim S5x20000 ![] bcast_S_S5x20000 main_cst
  let main_v2 : IVec S5x20000 1 := cmpf .olt main_v0 main_v1
  let main_c : IVec S_ 1 := constantI S_ 1 1#1
  let main_v3 : IVec S_ 1 := (fun x v => Host.reduce IntOp.andi x v reducesTo_S5x20000_S_d0_1 h_S_) main_v2 main_c
  main_v3
-- ==== Kernel.lean ====
abbrev S5x20000 : Shape := ⟨2, ![5, 20000]⟩
abbrev S1x20000 : Shape := ⟨2, ![1, 20000]⟩
abbrev S20000 : Shape := ⟨1, ![20000]⟩
abbrev S_ : Shape := ⟨0, ![]⟩
abbrev S2048 : Shape := ⟨1, ![2048]⟩
abbrev S64 : Shape := ⟨1, ![64]⟩
abbrev S16x128 : Shape := ⟨2, ![16, 128]⟩
abbrev S304x8 : Shape := ⟨2, ![304, 8]⟩
abbrev S1 : Shape := ⟨1, ![1]⟩
abbrev S128x128 : Shape := ⟨2, ![128, 128]⟩
abbrev S1x128 : Shape := ⟨2, ![1, 128]⟩
abbrev S128x1 : Shape := ⟨2, ![128, 1]⟩
abbrev S128 : Shape := ⟨1, ![128]⟩
abbrev S1x1x128 : Shape := ⟨3, ![1, 1, 128]⟩
abbrev S1x1x1 : Shape := ⟨3, ![1, 1, 1]⟩
abbrev S16x1 : Shape := ⟨2, ![16, 1]⟩
abbrev S16x16 : Shape := ⟨2, ![16, 16]⟩
abbrev S128x16 : Shape := ⟨2, ![128, 16]⟩
abbrev S1x304 : Shape := ⟨2, ![1, 304]⟩
abbrev S128x3 : Shape := ⟨2, ![128, 3]⟩
abbrev S128x304 : Shape := ⟨2, ![128, 304]⟩
abbrev S128x8 : Shape := ⟨2, ![128, 8]⟩
abbrev S300x5 : Shape := ⟨2, ![300, 5]⟩

abbrev nBuf : Table → Nat
  | .hbm => 34
  | .local .tc .vmem => 12
  | .local .tc .smem => 1
  | .local .scVector .vmem => 2
  | _ => 0

abbrev bufTy : (tb : Table) → Fin (nBuf tb) → BufTy
  | .hbm, ⟨0, _⟩ => ⟨S5x20000, .f32⟩
  | .hbm, ⟨1, _⟩ => ⟨S1x20000, .f32⟩
  | .hbm, ⟨2, _⟩ => ⟨S20000, .f32⟩
  | .hbm, ⟨3, _⟩ => ⟨S_, .f32⟩
  | .hbm, ⟨4, _⟩ => ⟨S20000, .f32⟩
  | .hbm, ⟨5, _⟩ => ⟨S20000, .i1⟩
  | .hbm, ⟨6, _⟩ => ⟨S_, .f32⟩
  | .hbm, ⟨7, _⟩ => ⟨S_, .f32⟩
  | .hbm, ⟨8, _⟩ => ⟨S20000, .f32⟩
  | .hbm, ⟨9, _⟩ => ⟨S20000, .f32⟩
  | .hbm, ⟨10, _⟩ => ⟨S2048, .f32⟩
  | .hbm, ⟨11, _⟩ => ⟨S2048, .i32⟩
  | .hbm, ⟨12, _⟩ => ⟨S1x20000, .f32⟩
  | .hbm, ⟨13, _⟩ => ⟨S20000, .f32⟩
  | .hbm, ⟨14, _⟩ => ⟨S1x20000, .f32⟩
  | .hbm, ⟨15, _⟩ => ⟨S20000, .f32⟩
  | .hbm, ⟨16, _⟩ => ⟨S1x20000, .f32⟩
  | .hbm, ⟨17, _⟩ => ⟨S20000, .f32⟩
  | .hbm, ⟨18, _⟩ => ⟨S1x20000, .f32⟩
  | .hbm, ⟨19, _⟩ => ⟨S20000, .f32⟩
  | .hbm, ⟨20, _⟩ => ⟨S1x20000, .f32⟩
  | .hbm, ⟨21, _⟩ => ⟨S20000, .f32⟩
  | .hbm, ⟨22, _⟩ => ⟨S2048, .f32⟩
  | .hbm, ⟨23, _⟩ => ⟨S2048, .f32⟩
  | .hbm, ⟨24, _⟩ => ⟨S2048, .f32⟩
  | .hbm, ⟨25, _⟩ => ⟨S2048, .f32⟩
  | .hbm, ⟨26, _⟩ => ⟨S2048, .f32⟩
  | .hbm, ⟨27, _⟩ => ⟨S16x128, .f32⟩
  | .hbm, ⟨28, _⟩ => ⟨S16x128, .f32⟩
  | .hbm, ⟨29, _⟩ => ⟨S16x128, .f32⟩
  | .hbm, ⟨30, _⟩ => ⟨S16x128, .f32⟩
  | .hbm, ⟨31, _⟩ => ⟨S16x128, .f32⟩
  | .hbm, ⟨32, _⟩ => ⟨S304x8, .f32⟩
  | .hbm, ⟨33, _⟩ => ⟨S300x5, .f32⟩
  | .local .tc .vmem, ⟨0, _⟩ => ⟨S16x128, .f32⟩
  | .local .tc .vmem, ⟨1, _⟩ => ⟨S16x128, .f32⟩
  | .local .tc .vmem, ⟨2, _⟩ => ⟨S16x128, .f32⟩
  | .local .tc .vmem, ⟨3, _⟩ => ⟨S16x128, .f32⟩
  | .local .tc .vmem, ⟨4, _⟩ => ⟨S16x128, .f32⟩
  | .local .tc .vmem, ⟨5, _⟩ => ⟨S304x8, .f32⟩
  | .local .tc .vmem, ⟨6, _⟩ => ⟨S16x128, .f32⟩
  | .local .tc .vmem, ⟨7, _⟩ => ⟨S16x128, .f32⟩
  | .local .tc .vmem, ⟨8, _⟩ => ⟨S16x128, .f32⟩
  | .local .tc .vmem, ⟨9, _⟩ => ⟨S16x128, .f32⟩
  | .local .tc .vmem, ⟨10, _⟩ => ⟨S16x128, .f32⟩
  | .local .tc .vmem, ⟨11, _⟩ => ⟨S16x128, .f32⟩
  | .local .tc .smem, ⟨0, _⟩ => ⟨S1, .i32⟩
  | .local .scVector .vmem, ⟨0, _⟩ => ⟨S64, .i32⟩
  | .local .scVector .vmem, ⟨1, _⟩ => ⟨S64, .f32⟩
  | _, _ => ⟨S5x20000, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 13 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => true
  | ⟨8, _⟩ => true
  | ⟨9, _⟩ => true
  | ⟨10, _⟩ => true
  | ⟨11, _⟩ => true
  | ⟨12, _⟩ => true
  | _ => false

abbrev sig : RefSig :=
  ofTables nBuf rfl bufTy 4 13 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_call0_v0 : Ref sig .tc := ⟨.hbm, 7, rfl⟩
abbrev main_call0_v1 : Ref sig .tc := ⟨.hbm, 8, rfl⟩
abbrev main_v4 : Ref sig .tc := ⟨.hbm, 9, rfl⟩
abbrev main_values : Ref sig .tc := ⟨.hbm, 10, rfl⟩
abbrev main_indices : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15_0 : Ref sig .tc := ⟨.hbm, 22, rfl⟩
abbrev main_v15_1 : Ref sig .tc := ⟨.hbm, 23, rfl⟩
abbrev main_v15_2 : Ref sig .tc := ⟨.hbm, 24, rfl⟩
abbrev main_v15_3 : Ref sig .tc := ⟨.hbm, 25, rfl⟩
abbrev main_v15_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v6_scv : Ref sig .scVector := ⟨.hbm, 13, rfl⟩
abbrev main_v8_scv : Ref sig .scVector := ⟨.hbm, 15, rfl⟩
abbrev main_v10_scv : Ref sig .scVector := ⟨.hbm, 17, rfl⟩
abbrev main_v12_scv : Ref sig .scVector := ⟨.hbm, 19, rfl⟩
abbrev main_v14_scv : Ref sig .scVector := ⟨.hbm, 21, rfl⟩
abbrev main_indices_scv : Ref sig .scVector := ⟨.hbm, 11, rfl⟩
abbrev main_v15_0_scv : Ref sig .scVector := ⟨.hbm, 22, rfl⟩
abbrev main_v15_1_scv : Ref sig .scVector := ⟨.hbm, 23, rfl⟩
abbrev main_v15_2_scv : Ref sig .scVector := ⟨.hbm, 24, rfl⟩
abbrev main_v15_3_scv : Ref sig .scVector := ⟨.hbm, 25, rfl⟩
abbrev main_v15_4_scv : Ref sig .scVector := ⟨.hbm, 26, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc1_stg3_0 : Ref sig .tc := ⟨.vmem, 3, rfl⟩
abbrev cc1_stg4_0 : Ref sig .tc := ⟨.vmem, 4, rfl⟩
abbrev cc1_stg5_0 : Ref sig .tc := ⟨.vmem, 5, rfl⟩
abbrev cc1_scratch0 : Ref sig .tc := ⟨.vmem, 6, rfl⟩
abbrev cc1_scratch1 : Ref sig .tc := ⟨.vmem, 7, rfl⟩
abbrev cc1_scratch2 : Ref sig .tc := ⟨.vmem, 8, rfl⟩
abbrev cc1_scratch3 : Ref sig .tc := ⟨.vmem, 9, rfl⟩
abbrev cc1_scratch4 : Ref sig .tc := ⟨.vmem, 10, rfl⟩
abbrev cc1_scratch5 : Ref sig .tc := ⟨.vmem, 11, rfl⟩
abbrev cc1_scratch6 : Ref sig .tc := ⟨.smem, 0, rfl⟩
abbrev cc0_scratch0 : Ref sig .scVector := ⟨.vmem, 0, rfl⟩
abbrev cc0_scratch1 : Ref sig .scVector := ⟨.vmem, 1, rfl⟩
abbrev cc1_sem0_0 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  ![v2.toNat]
abbrev grid1 : Pipeline.Grid := ⟨1, ![16], ![false]⟩

def k1_off1 (i : grid1.Coords) : Fin 2 → Nat :=
  let arg0 : BitVec 32 := BitVec.ofNat 32 (i 0).val
  let v15 : Index := Scalar.indexCast arg0
  let c0_3 : Index := 0#32
  ![v15.toNat, 0]
@[reducible] def k1_t1_loop (i : grid1.Coords) : Scf.Loop 32 :=
  let c0_i32_13 : BitVec 32 := 0#32
  let arg0 : BitVec 32 := BitVec.ofNat 32 (i 0).val
  let v31 : BitVec 32 := Scalar.subi arg0 c0_i32_13
  let c1_i32 : BitVec 32 := 1#32
  let v33 : BitVec 32 := Scalar.divsi v31 c1_i32
  let v34 : BitVec 32 := Scalar.muli v33 c1_i32
  let v35 : BitVec 32 := Scalar.addi c0_i32_13 v34
  let c1_i32_14 : BitVec 32 := 1#32
  ⟨c0_i32_13, v35, c1_i32_14⟩
def k1_off2 (i : grid1.Coords) (k1_t1 : Fin (k1_t1_loop i).trips) : Fin 2 → Nat :=
  let c0_i32_13 : BitVec 32 := 0#32
  let c1_i32_14 : BitVec 32 := 1#32
  let arg14 : BitVec 32 := Scf.iv c0_i32_13 c1_i32_14 k1_t1
  let v95 : Index := Scalar.indexCast arg14
  let c0_33 : Index := 0#32
  ![v95.toNat, 0]
@[reducible] def k1_t2_loop (i : grid1.Coords) : Scf.Loop 32 :=
  let c0_i32_13 : BitVec 32 := 0#32
  let arg0 : BitVec 32 := BitVec.ofNat 32 (i 0).val
  let v31 : BitVec 32 := Scalar.subi arg0 c0_i32_13
  let c1_i32 : BitVec 32 := 1#32
  let v33 : BitVec 32 := Scalar.divsi v31 c1_i32
  let v34 : BitVec 32 := Scalar.muli v33 c1_i32
  let v35 : BitVec 32 := Scalar.addi c0_i32_13 v34
  let v32 : BitVec 32 := Scalar.addi c0_i32_13 v31
  let c1_i32_15 : BitVec 32 := 1#32
  ⟨v35, v32, c1_i32_15⟩
def k1_off3 (i : grid1.Coords) (k1_t2 : Fin (k1_t2_loop i).trips) : Fin 2 → Nat :=
  let c0_i32_13 : BitVec 32 := 0#32
  let arg0 : BitVec 32 := BitVec.ofNat 32 (i 0).val
  let v31 : BitVec 32 := Scalar.subi arg0 c0_i32_13
  let c1_i32 : BitVec 32 := 1#32
  let v33 : BitVec 32 := Scalar.divsi v31 c1_i32
  let v34 : BitVec 32 := Scalar.muli v33 c1_i32
  let v35 : BitVec 32 := Scalar.addi c0_i32_13 v34
  let c1_i32_15 : BitVec 32 := 1#32
  let arg14 : BitVec 32 := Scf.iv v35 c1_i32_15 k1_t2
  let v95 : Index := Scalar.indexCast arg14
  let c0_33 : Index := 0#32
  ![v95.toNat, 0]
@[reducible] def k1_t3_loop : Scf.Loop 32 :=
  let c0_i32_24 : BitVec 32 := 0#32
  let c128_i32 : BitVec 32 := 128#32
  let v74 : BitVec 32 := Scalar.addi c0_i32_24 c128_i32
  let c1_i32_25 : BitVec 32 := 1#32
  ⟨c0_i32_24, v74, c1_i32_25⟩
def k1_cond4 (i : grid1.Coords) : BitVec 1 :=
  let arg0 : BitVec 32 := BitVec.ofNat 32 (i 0).val
  let c15_i32 : BitVec 32 := 15#32
  let v7 : BitVec 1 := Scalar.cmpi .eq arg0 c15_i32
  let v8 : BitVec 32 := Scalar.extui v7
  let c0_i32_2 : BitVec 32 := 0#32
  let v9 : BitVec 1 := Scalar.cmpi .ne v8 c0_i32_2
  v9

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S16x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S16x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S16x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S16x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S16x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S304x8 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S5x20000 : Shape := ⟨2, ![5, 20000]⟩
abbrev S4 : Shape := ⟨1, ![4]⟩
abbrev S20000x5 : Shape := ⟨2, ![20000, 5]⟩
abbrev S20000x1 : Shape := ⟨2, ![20000, 1]⟩
abbrev S20000 : Shape := ⟨1, ![20000]⟩
abbrev S_ : Shape := ⟨0, ![]⟩
abbrev S2048 : Shape := ⟨1, ![2048]⟩
abbrev S2048x1 : Shape := ⟨2, ![2048, 1]⟩
abbrev S2048x5 : Shape := ⟨2, ![2048, 5]⟩
abbrev S2048x4 : Shape := ⟨2, ![2048, 4]⟩
abbrev S2048x2 : Shape := ⟨2, ![2048, 2]⟩
abbrev S1x2048 : Shape := ⟨2, ![1, 2048]⟩
abbrev S2048x2048 : Shape := ⟨2, ![2048, 2048]⟩
abbrev S1 : Shape := ⟨1, ![1]⟩
abbrev S300 : Shape := ⟨1, ![300]⟩
abbrev S300x1 : Shape := ⟨2, ![300, 1]⟩
abbrev S300x5 : Shape := ⟨2, ![300, 5]⟩
abbrev S300x4 : Shape := ⟨2, ![300, 4]⟩
abbrev S300x2 : Shape := ⟨2, ![300, 2]⟩
abbrev S1x4 : Shape := ⟨2, ![1, 4]⟩

abbrev nBuf : Space → Nat
  | .hbm => 203
  | .vmem => 0
  | .smem => 0
  | _ => 0

abbrev hbmTy0_0 (i : Nat) : BufTy := match i % 128 with
  | 0 => ⟨S5x20000, .f32⟩
  | 1 => ⟨S4, .f32⟩
  | 2 => ⟨S4, .f32⟩
  | 3 => ⟨S20000x5, .f32⟩
  | 4 => ⟨S20000x1, .f32⟩
  | 5 => ⟨S20000, .f32⟩
  | 6 => ⟨S_, .f32⟩
  | 7 => ⟨S20000, .f32⟩
  | 8 => ⟨S20000, .i1⟩
  | 9 => ⟨S_, .f32⟩
  | 10 => ⟨S_, .f32⟩
  | 11 => ⟨S20000, .f32⟩
  | 12 => ⟨S20000, .f32⟩
  | 13 => ⟨S2048, .f32⟩
  | 14 => ⟨S2048, .i32⟩
  | 15 => ⟨S_, .i32⟩
  | 16 => ⟨S2048, .i32⟩
  | 17 => ⟨S2048, .i1⟩
  | 18 => ⟨S_, .i32⟩
  | 19 => ⟨S2048, .i32⟩
  | 20 => ⟨S2048, .i32⟩
  | 21 => ⟨S2048, .i32⟩
  | 22 => ⟨S2048x1, .i32⟩
  | 23 => ⟨S2048x5, .f32⟩
  | 24 => ⟨S2048x4, .f32⟩
  | 25 => ⟨S2048x2, .f32⟩
  | 26 => ⟨S2048x2, .f32⟩
  | 27 => ⟨S_, .f32⟩
  | 28 => ⟨S2048x2, .f32⟩
  | 29 => ⟨S2048x2, .f32⟩
  | 30 => ⟨S2048x2, .f32⟩
  | 31 => ⟨S2048x2, .f32⟩
  | 32 => ⟨S2048x4, .f32⟩
  | 33 => ⟨S2048x1, .f32⟩
  | 34 => ⟨S2048, .f32⟩
  | 35 => ⟨S2048x1, .f32⟩
  | 36 => ⟨S2048, .f32⟩
  | 37 => ⟨S2048x1, .f32⟩
  | 38 => ⟨S2048, .f32⟩
  | 39 => ⟨S2048x1, .f32⟩
  | 40 => ⟨S2048, .f32⟩
  | 41 => ⟨S2048, .f32⟩
  | 42 => ⟨S2048, .f32⟩
  | 43 => ⟨S2048, .f32⟩
  | 44 => ⟨S2048x1, .f32⟩
  | 45 => ⟨S1x2048, .f32⟩
  | 46 => ⟨S2048x2048, .f32⟩
  | 47 => ⟨S2048x2048, .f32⟩
  | 48 => ⟨S2048x2048, .f32⟩
  | 49 => ⟨S2048x1, .f32⟩
  | 50 => ⟨S1x2048, .f32⟩
  | 51 => ⟨S2048x2048, .f32⟩
  | 52 => ⟨S2048x2048, .f32⟩
  | 53 => ⟨S2048x2048, .f32⟩
  | 54 => ⟨S2048x1, .f32⟩
  | 55 => ⟨S1x2048, .f32⟩
  | 56 => ⟨S2048x2048, .f32⟩
  | 57 => ⟨S2048x2048, .f32⟩
  | 58 => ⟨S2048x2048, .f32⟩
  | 59 => ⟨S2048x1, .f32⟩
  | 60 => ⟨S1x2048, .f32⟩
  | 61 => ⟨S2048x2048, .f32⟩
  | 62 => ⟨S2048x2048, .f32⟩
  | 63 => ⟨S2048x2048, .f32⟩
  | 64 => ⟨S2048x2048, .f32⟩
  | 65 => ⟨S_, .f32⟩
  | 66 => ⟨S2048x2048, .f32⟩
  | 67 => ⟨S2048x2048, .f32⟩
  | 68 => ⟨S2048x2048, .f32⟩
  | 69 => ⟨S_, .f32⟩
  | 70 => ⟨S2048x2048, .f32⟩
  | 71 => ⟨S2048x2048, .f32⟩
  | 72 => ⟨S2048x2048, .f32⟩
  | 73 => ⟨S2048x1, .f32⟩
  | 74 => ⟨S1x2048, .f32⟩
  | 75 => ⟨S2048x2048, .f32⟩
  | 76 => ⟨S2048x2048, .f32⟩
  | 77 => ⟨S2048x2048, .f32⟩
  | 78 => ⟨S2048x2048, .f32⟩
  | 79 => ⟨S_, .f32⟩
  | 80 => ⟨S2048x2048, .f32⟩
  | 81 => ⟨S2048x2048, .i1⟩
  | 82 => ⟨S2048x2048, .f32⟩
  | 83 => ⟨S_, .f32⟩
  | 84 => ⟨S_, .f32⟩
  | 85 => ⟨S2048x2048, .f32⟩
  | 86 => ⟨S2048x2048, .f32⟩
  | 87 => ⟨S2048, .i32⟩
  | 88 => ⟨S_, .i1⟩
  | 89 => ⟨S2048, .i1⟩
  | 90 => ⟨S_, .i32⟩
  | 91 => ⟨S_, .i32⟩
  | 92 => ⟨S2048x2048, .f32⟩
  | 93 => ⟨S2048, .i32⟩
  | 94 => ⟨S_, .i32⟩
  | 95 => ⟨S_, .i32⟩
  | 96 => ⟨S2048, .i1⟩
  | 97 => ⟨S_, .i32⟩
  | 98 => ⟨S_, .i1⟩
  | 99 => ⟨S_, .i32⟩
  | 100 => ⟨S_, .i32⟩
  | 101 => ⟨S_, .i32⟩
  | 102 => ⟨S_, .i32⟩
  | 103 => ⟨S_, .i1⟩
  | 104 => ⟨S_, .i32⟩
  | 105 => ⟨S_, .i32⟩
  | 106 => ⟨S_, .i32⟩
  | 107 => ⟨S_, .i32⟩
  | 108 => ⟨S_, .i32⟩
  | 109 => ⟨S_, .i1⟩
  | 110 => ⟨S_, .i32⟩
  | 111 => ⟨S_, .i32⟩
  | 112 => ⟨S_, .i32⟩
  | 113 => ⟨S_, .i32⟩
  | 114 => ⟨S_, .i32⟩
  | 115 => ⟨S1x2048, .f32⟩
  | 116 => ⟨S2048, .f32⟩
  | 117 => ⟨S_, .f32⟩
  | 118 => ⟨S2048, .f32⟩
  | 119 => ⟨S2048, .i1⟩
  | 120 => ⟨S2048, .i1⟩
  | 121 => ⟨S_, .i32⟩
  | 122 => ⟨S2048, .i32⟩
  | 123 => ⟨S2048, .i1⟩
  | 124 => ⟨S2048, .i1⟩
  | 125 => ⟨S_, .i1⟩
  | 126 => ⟨S_, .i1⟩
  | 127 => ⟨S_, .i32⟩
  | _ => ⟨S5x20000, .f32⟩

abbrev hbmTy0_1 (i : Nat) : BufTy := match i % 128 with
  | 0 => ⟨S_, .i1⟩
  | 1 => ⟨S_, .i32⟩
  | 2 => ⟨S_, .i32⟩
  | 3 => ⟨S_, .i32⟩
  | 4 => ⟨S_, .i32⟩
  | 5 => ⟨S1, .i1⟩
  | 6 => ⟨S_, .i1⟩
  | 7 => ⟨S_, .i1⟩
  | 8 => ⟨S_, .i1⟩
  | 9 => ⟨S_, .i32⟩
  | 10 => ⟨S_, .i1⟩
  | 11 => ⟨S_, .i32⟩
  | 12 => ⟨S_, .i32⟩
  | 13 => ⟨S_, .i32⟩
  | 14 => ⟨S_, .i32⟩
  | 15 => ⟨S1, .i32⟩
  | 16 => ⟨S2048, .i1⟩
  | 17 => ⟨S_, .i32⟩
  | 18 => ⟨S_, .i32⟩
  | 19 => ⟨S_, .f32⟩
  | 20 => ⟨S2048, .f32⟩
  | 21 => ⟨S2048, .i1⟩
  | 22 => ⟨S2048, .i1⟩
  | 23 => ⟨S_, .f32⟩
  | 24 => ⟨S_, .f32⟩
  | 25 => ⟨S2048, .f32⟩
  | 26 => ⟨S2048, .f32⟩
  | 27 => ⟨S300, .f32⟩
  | 28 => ⟨S300, .i32⟩
  | 29 => ⟨S_, .i32⟩
  | 30 => ⟨S300, .i32⟩
  | 31 => ⟨S300, .i1⟩
  | 32 => ⟨S_, .i32⟩
  | 33 => ⟨S300, .i32⟩
  | 34 => ⟨S300, .i32⟩
  | 35 => ⟨S300, .i32⟩
  | 36 => ⟨S300x1, .i32⟩
  | 37 => ⟨S300x5, .f32⟩
  | 38 => ⟨S300x4, .f32⟩
  | 39 => ⟨S300x2, .f32⟩
  | 40 => ⟨S300x2, .f32⟩
  | 41 => ⟨S_, .f32⟩
  | 42 => ⟨S300x2, .f32⟩
  | 43 => ⟨S300x2, .f32⟩
  | 44 => ⟨S300x2, .f32⟩
  | 45 => ⟨S300x2, .f32⟩
  | 46 => ⟨S300x4, .f32⟩
  | 47 => ⟨S4, .f32⟩
  | 48 => ⟨S1x4, .f32⟩
  | 49 => ⟨S300x4, .f32⟩
  | 50 => ⟨S300x4, .f32⟩
  | 51 => ⟨S_, .f32⟩
  | 52 => ⟨S300x4, .f32⟩
  | 53 => ⟨S300x4, .f32⟩
  | 54 => ⟨S300x2, .f32⟩
  | 55 => ⟨S300x2, .f32⟩
  | 56 => ⟨S300x2, .f32⟩
  | 57 => ⟨S_, .f32⟩
  | 58 => ⟨S300x2, .f32⟩
  | 59 => ⟨S300x2, .f32⟩
  | 60 => ⟨S300x2, .f32⟩
  | 61 => ⟨S300x2, .f32⟩
  | 62 => ⟨S300x2, .f32⟩
  | 63 => ⟨S300x4, .f32⟩
  | 64 => ⟨S300x1, .f32⟩
  | 65 => ⟨S300x5, .f32⟩
  | 66 => ⟨S_, .f32⟩
  | 67 => ⟨S300, .f32⟩
  | 68 => ⟨S300, .i1⟩
  | 69 => ⟨S300x1, .i1⟩
  | 70 => ⟨S_, .f32⟩
  | 71 => ⟨S_, .f32⟩
  | 72 => ⟨S300x5, .i1⟩
  | 73 => ⟨S300x5, .f32⟩
  | 74 => ⟨S300x5, .f32⟩
  | _ => ⟨S5x20000, .f32⟩

abbrev hbmTy (i : Nat) : BufTy := match i / 128 with
  | 0 => hbmTy0_0 i
  | 1 => hbmTy0_1 i
  | _ => ⟨S5x20000, .f32⟩

abbrev bufTy : (tb : Table) → Fin (tcTables nBuf tb) → BufTy
  | .hbm, ⟨i, _⟩ => hbmTy i
  | _, _ => ⟨S5x20000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_cst_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_1 : Ref sig .tc := ⟨.hbm, 6, rfl⟩
abbrev main_v3 : Ref sig .tc := ⟨.hbm, 7, rfl⟩
abbrev main_v4 : Ref sig .tc := ⟨.hbm, 8, rfl⟩
abbrev main_cst_2 : Ref sig .tc := ⟨.hbm, 9, rfl⟩
abbrev main_call0_v0 : Ref sig .tc := ⟨.hbm, 10, rfl⟩
abbrev main_call0_v1 : Ref sig .tc := ⟨.hbm, 11, rfl⟩
abbrev main_v5 : Ref sig .tc := ⟨.hbm, 12, rfl⟩
abbrev main_values : Ref sig .tc := ⟨.hbm, 13, rfl⟩
abbrev main_indices : Ref sig .tc := ⟨.hbm, 14, rfl⟩
abbrev main_c : Ref sig .tc := ⟨.hbm, 15, rfl⟩
abbrev main_v6 : Ref sig .tc := ⟨.hbm, 16, rfl⟩
abbrev main_v7 : Ref sig .tc := ⟨.hbm, 17, rfl⟩
abbrev main_c_3 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_cst_5 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_cst_6 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_cst_7 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_cst_8 : Ref sig .tc := ⟨.hbm, 83, rfl⟩
abbrev main_call1_v0 : Ref sig .tc := ⟨.hbm, 84, rfl⟩
abbrev main_call1_v1 : Ref sig .tc := ⟨.hbm, 85, rfl⟩
abbrev main_v68 : Ref sig .tc := ⟨.hbm, 86, rfl⟩
abbrev main_v69 : Ref sig .tc := ⟨.hbm, 87, rfl⟩
abbrev main_c_9 : Ref sig .tc := ⟨.hbm, 88, rfl⟩
abbrev main_v70 : Ref sig .tc := ⟨.hbm, 89, rfl⟩
abbrev main_c_10 : Ref sig .tc := ⟨.hbm, 90, rfl⟩
abbrev main_c_11 : Ref sig .tc := ⟨.hbm, 91, rfl⟩
abbrev main_v71_0 : Ref sig .tc := ⟨.hbm, 92, rfl⟩
abbrev main_v71_1 : Ref sig .tc := ⟨.hbm, 93, rfl⟩
abbrev main_v71_2 : Ref sig .tc := ⟨.hbm, 94, rfl⟩
abbrev main_v71_3 : Ref sig .tc := ⟨.hbm, 95, rfl⟩
abbrev main_v71_4 : Ref sig .tc := ⟨.hbm, 96, rfl⟩
abbrev main_while0c_c_27 : Ref sig .tc := ⟨.hbm, 97, rfl⟩
abbrev main_while0c_v112 : Ref sig .tc := ⟨.hbm, 98, rfl⟩
abbrev main_while0b_c_27 : Ref sig .tc := ⟨.hbm, 99, rfl⟩
abbrev main_while0b_v112 : Ref sig .tc := ⟨.hbm, 100, rfl⟩
abbrev main_while0b_v113 : Ref sig .tc := ⟨.hbm, 101, rfl⟩
abbrev main_while0b_c_28 : Ref sig .tc := ⟨.hbm, 102, rfl⟩
abbrev main_while0b_v114 : Ref sig .tc := ⟨.hbm, 103, rfl⟩
abbrev main_while0b_c_29 : Ref sig .tc := ⟨.hbm, 104, rfl⟩
abbrev main_while0b_v115 : Ref sig .tc := ⟨.hbm, 105, rfl⟩
abbrev main_while0b_v116 : Ref sig .tc := ⟨.hbm, 106, rfl⟩
abbrev main_while0b_c_30 : Ref sig .tc := ⟨.hbm, 107, rfl⟩
abbrev main_while0b_c_31 : Ref sig .tc := ⟨.hbm, 108, rfl⟩
abbrev main_while0b_v117 : Ref sig .tc := ⟨.hbm, 109, rfl⟩
abbrev main_while0b_c_32 : Ref sig .tc := ⟨.hbm, 110, rfl⟩
abbrev main_while0b_c_33 : Ref sig .tc := ⟨.hbm, 111, rfl⟩
abbrev main_while0b_v118 : Ref sig .tc := ⟨.hbm, 112, rfl⟩
abbrev main_while0b_c_34 : Ref sig .tc := ⟨.hbm, 113, rfl⟩
abbrev main_while0b_v119 : Ref sig .tc := ⟨.hbm, 114, rfl⟩
abbrev main_while0b_v120 : Ref sig .tc := ⟨.hbm, 115, rfl⟩
abbrev main_while0b_v121 : Ref sig .tc := ⟨.hbm, 116, rfl⟩
abbrev main_while0b_cst_35 : Ref sig .tc := ⟨.hbm, 117, rfl⟩
abbrev main_while0b_v122 : Ref sig .tc := ⟨.hbm, 118, rfl⟩
abbrev main_while0b_v123 : Ref sig .tc := ⟨.hbm, 119, rfl⟩
abbrev main_while0b_v124 : Ref sig .tc := ⟨.hbm, 120, rfl⟩
abbrev main_while0b_v125 : Ref sig .tc := ⟨.hbm, 121, rfl⟩
abbrev main_while0b_v126 : Ref sig .tc := ⟨.hbm, 122, rfl⟩
abbrev main_while0b_v127 : Ref sig .tc := ⟨.hbm, 123, rfl⟩
abbrev main_while0b_v128 : Ref sig .tc := ⟨.hbm, 124, rfl⟩
abbrev main_while0b_c_36 : Ref sig .tc := ⟨.hbm, 125, rfl⟩
abbrev main_while0b_v129 : Ref sig .tc := ⟨.hbm, 126, rfl⟩
abbrev main_while0b_c_37 : Ref sig .tc := ⟨.hbm, 127, rfl⟩
abbrev main_while0b_v130 : Ref sig .tc := ⟨.hbm, 128, rfl⟩
abbrev main_while0b_v131 : Ref sig .tc := ⟨.hbm, 129, rfl⟩
abbrev main_while0b_c_38 : Ref sig .tc := ⟨.hbm, 130, rfl⟩
abbrev main_while0b_v132 : Ref sig .tc := ⟨.hbm, 131, rfl⟩
abbrev main_while0b_v133 : Ref sig .tc := ⟨.hbm, 132, rfl⟩
abbrev main_while0b_v134 : Ref sig .tc := ⟨.hbm, 133, rfl⟩
abbrev main_while0b_v135 : Ref sig .tc := ⟨.hbm, 134, rfl⟩
abbrev main_while0b_v136 : Ref sig .tc := ⟨.hbm, 135, rfl⟩
abbrev main_while0b_v137 : Ref sig .tc := ⟨.hbm, 136, rfl⟩
abbrev main_while0b_c_39 : Ref sig .tc := ⟨.hbm, 137, rfl⟩
abbrev main_while0b_v138 : Ref sig .tc := ⟨.hbm, 138, rfl⟩
abbrev main_while0b_c_40 : Ref sig .tc := ⟨.hbm, 139, rfl⟩
abbrev main_while0b_v139 : Ref sig .tc := ⟨.hbm, 140, rfl⟩
abbrev main_while0b_v140 : Ref sig .tc := ⟨.hbm, 141, rfl⟩
abbrev main_while0b_v141 : Ref sig .tc := ⟨.hbm, 142, rfl⟩
abbrev main_while0b_v142 : Ref sig .tc := ⟨.hbm, 143, rfl⟩
abbrev main_while0b_v143 : Ref sig .tc := ⟨.hbm, 144, rfl⟩
abbrev main_while0b_c_41 : Ref sig .tc := ⟨.hbm, 145, rfl⟩
abbrev main_while0b_v144 : Ref sig .tc := ⟨.hbm, 146, rfl⟩
abbrev main_cst_12 : Ref sig .tc := ⟨.hbm, 147, rfl⟩
abbrev main_v72 : Ref sig .tc := ⟨.hbm, 148, rfl⟩
abbrev main_v73 : Ref sig .tc := ⟨.hbm, 149, rfl⟩
abbrev main_v74 : Ref sig .tc := ⟨.hbm, 150, rfl⟩
abbrev main_cst_13 : Ref sig .tc := ⟨.hbm, 151, rfl⟩
abbrev main_call2_v0 : Ref sig .tc := ⟨.hbm, 152, rfl⟩
abbrev main_call2_v1 : Ref sig .tc := ⟨.hbm, 153, rfl⟩
abbrev main_v75 : Ref sig .tc := ⟨.hbm, 154, rfl⟩
abbrev main_values_14 : Ref sig .tc := ⟨.hbm, 155, rfl⟩
abbrev main_indices_15 : Ref sig .tc := ⟨.hbm, 156, rfl⟩
abbrev main_c_16 : Ref sig .tc := ⟨.hbm, 157, rfl⟩
abbrev main_v76 : Ref sig .tc := ⟨.hbm, 158, rfl⟩
abbrev main_v77 : Ref sig .tc := ⟨.hbm, 159, rfl⟩
abbrev main_c_17 : Ref sig .tc := ⟨.hbm, 160, rfl⟩
abbrev main_v78 : Ref sig .tc := ⟨.hbm, 161, rfl⟩
abbrev main_v79 : Ref sig .tc := ⟨.hbm, 162, rfl⟩
abbrev main_v80 : Ref sig .tc := ⟨.hbm, 163, rfl⟩
abbrev main_v81 : Ref sig .tc := ⟨.hbm, 164, rfl⟩
abbrev main_v82 : Ref sig .tc := ⟨.hbm, 165, rfl⟩
abbrev main_v83 : Ref sig .tc := ⟨.hbm, 166, rfl⟩
abbrev main_v84 : Ref sig .tc := ⟨.hbm, 167, rfl⟩
abbrev main_v85 : Ref sig .tc := ⟨.hbm, 168, rfl⟩
abbrev main_cst_18 : Ref sig .tc := ⟨.hbm, 169, rfl⟩
abbrev main_v86 : Ref sig .tc := ⟨.hbm, 170, rfl⟩
abbrev main_v87 : Ref sig .tc := ⟨.hbm, 171, rfl⟩
abbrev main_v88 : Ref sig .tc := ⟨.hbm, 172, rfl⟩
abbrev main_v89 : Ref sig .tc := ⟨.hbm, 173, rfl⟩
abbrev main_v90 : Ref sig .tc := ⟨.hbm, 174, rfl⟩
abbrev main_v91 : Ref sig .tc := ⟨.hbm, 175, rfl⟩
abbrev main_v92 : Ref sig .tc := ⟨.hbm, 176, rfl⟩
abbrev main_v93 : Ref sig .tc := ⟨.hbm, 177, rfl⟩
abbrev main_v94 : Ref sig .tc := ⟨.hbm, 178, rfl⟩
abbrev main_cst_19 : Ref sig .tc := ⟨.hbm, 179, rfl⟩
abbrev main_v95 : Ref sig .tc := ⟨.hbm, 180, rfl⟩
abbrev main_v96 : Ref sig .tc := ⟨.hbm, 181, rfl⟩
abbrev main_v97 : Ref sig .tc := ⟨.hbm, 182, rfl⟩
abbrev main_v98 : Ref sig .tc := ⟨.hbm, 183, rfl⟩
abbrev main_v99 : Ref sig .tc := ⟨.hbm, 184, rfl⟩
abbrev main_cst_20 : Ref sig .tc := ⟨.hbm, 185, rfl⟩
abbrev main_v100 : Ref sig .tc := ⟨.hbm, 186, rfl⟩
abbrev main_v101 : Ref sig .tc := ⟨.hbm, 187, rfl⟩
abbrev main_v102 : Ref sig .tc := ⟨.hbm, 188, rfl⟩
abbrev main_v103 : Ref sig .tc := ⟨.hbm, 189, rfl⟩
abbrev main_v104 : Ref sig .tc := ⟨.hbm, 190, rfl⟩
abbrev main_v105 : Ref sig .tc := ⟨.hbm, 191, rfl⟩
abbrev main_v106 : Ref sig .tc := ⟨.hbm, 192, rfl⟩
abbrev main_v107 : Ref sig .tc := ⟨.hbm, 193, rfl⟩
abbrev main_cst_21 : Ref sig .tc := ⟨.hbm, 194, rfl⟩
abbrev main_v108 : Ref sig .tc := ⟨.hbm, 195, rfl⟩
abbrev main_v109 : Ref sig .tc := ⟨.hbm, 196, rfl⟩
abbrev main_v110 : Ref sig .tc := ⟨.hbm, 197, rfl⟩
abbrev main_cst_22 : Ref sig .tc := ⟨.hbm, 198, rfl⟩
abbrev main_call3_v0 : Ref sig .tc := ⟨.hbm, 199, rfl⟩
abbrev main_call3_v1 : Ref sig .tc := ⟨.hbm, 200, rfl⟩
abbrev main_call3_v2 : Ref sig .tc := ⟨.hbm, 201, rfl⟩
abbrev main_v111 : Ref sig .tc := ⟨.hbm, 202, rfl⟩

abbrev nD : Nat := 1
abbrev τ : Topo := Topo.v7x

variable {F : FTy → Type} [FloatOps F]

abbrev main_while0_count : Scf.Loop 32 := ⟨0#32, 2048#32, 1#32⟩
-- ==== Proof.Base.lean ====
/-
  What the certificate's modules share: the resource algebra of the run (the SparseCore handshakes' rounds, the
  TensorCore pipeline's rounds and the transfers' counters), and the kernel's functions of its operands.

  The TensorCore body's functions are over the values the printed payloads `k1_payN` name: `stepKeep` and `stepCnt` say
  what one grid point makes of the keeps and of the count, `emitOf` what the last point writes.
-/
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import Idealize.ShloMosaic.Adequacy
public import Idealize.ShloMosaic.Init
public import Idealize.ShloMosaic.Lib.SparseCore.Quiescent
public import Idealize.ShloMosaic.Lib.SparseCore.Stream
public import Idealize.ShloMosaic.Lib.Pipeline.Regions
public import Idealize.ShloMosaic.Lib.Pipeline.RegionArrays

@[expose] public section

noncomputable section

namespace Cert.Proof

open Cert.KernelIdeal Cert.KernelIdeal.Gen

open Idealize.ShloMosaic Idealize.ShloMosaic.TcCoe
open Idealize.ShloMosaic.SparseCore.Cfg (HIx)
open Idealize.SL Idealize.SL.RA Idealize.SL.BI
open Idealize.ShloMosaic.Rounds

variable {F : FTy → Type} [FloatOps F]

/-! ## The algebra -/

/-- The handshakes' rounds; -/
abbrev UH : Type := URounds (GSem nD τ sig) ℕ
/-- the pipeline's rounds; -/
abbrev UP : Type := URounds (GSem nD τ sig) Unit
/-- and beside them the transfers' counters. -/
abbrev UU : Type := UH × (UP × Counters)

/-! ## The TensorCore body's functions -/

/-- Row `n` of an array, as one row. -/
def row (n : ℕ) (h : n < 16) (A : Vec F S16x128 .f32) : Vec F S1x128 .f32 := fun j => A (fun | 0 => ⟨n, h⟩ | 1 => j 1)

/-- The suppression of a block's candidates (its corners and areas the rows `vx1 … var`) by those kept in block `t`:
    one trip of the loop over the earlier blocks. -/
def supTrip (vx1 vy1 vx2 vy2 var : Vec F S1x128 .f32) (X1 Y1 X2 Y2 AR K : Vec F S16x128 .f32) (t : ℕ) (ht : t < 16) (acc : FVec F S128x1 .f32) :
    FVec F S128x1 .f32 :=
  k1_pay22 acc (k1_pay13 (k1_pay16 vx1) (k1_pay17 vy1) (k1_pay18 vx2) (k1_pay19 vy2) (k1_pay20 var)
    (row t ht X1) (row t ht Y1) (row t ht X2) (row t ht Y2) (row t ht AR) (row t ht K))

/-- The suppression by blocks before `t`. -/
def supAcc (vx1 vy1 vx2 vy2 var : Vec F S1x128 .f32) (X1 Y1 X2 Y2 AR K : Vec F S16x128 .f32) (init : FVec F S128x1 .f32) : ℕ → FVec F S128x1 .f32
  | 0 => init
  | t + 1 =>
    if ht : t < 16 then supTrip vx1 vy1 vx2 vy2 var X1 Y1 X2 Y2 AR K t ht (supAcc vx1 vy1 vx2 vy2 var X1 Y1 X2 Y2 AR K init t)
    else supAcc vx1 vy1 vx2 vy2 var X1 Y1 X2 Y2 AR K init t

/-- The two index arrays of the body. -/
def io0 : IVec S128x128 32 := iota .tc S128x128 32 [0] iota_S128x128_d0_w32
def io1 : IVec S128x128 32 := iota .tc S128x128 32 [1] iota_S128x128_d1_w32

/-- One trip of the loop to the fixpoint, on the keeps and the flag. -/
def fixTrip (v24 : Vec F S1x128 .f32) (v29 sup : FVec F S128x1 .f32) (v52 v53 : FVec F S128x128 .f32) (a : FVec F S1x128 .f32 × BitVec 1) :
    FVec F S1x128 .f32 × BitVec 1 :=
  if Scalar.cmpi .ne (Scalar.extui a.2 : BitVec 32) 0#32 = 1#1 then
    (k1_pay27 io0 io1 (k1_pay15 (F := F)) v24 v29 sup v52 v53 a.1,
      Scalar.cmpf .ogt (k1_pay28 io0 io1 (k1_pay15 (F := F)) v24 v29 sup v52 v53 a.1) (Scalar.ofBits .f32 0x00000000#32))
  else a

/-- The keeps of block `n`, given the keeps of the blocks before it. -/
def keepRow (n : ℕ) (h : n < 16) (X1 Y1 X2 Y2 AR K : Vec F S16x128 .f32) : FVec F S1x128 .f32 :=
  ((fixTrip (row n h AR) (k1_pay20 (row n h AR))
    (supAcc (row n h X1) (row n h Y1) (row n h X2) (row n h Y2) (row n h AR) X1 Y1 X2 Y2 AR K k1_pay21 n)
    (k1_pay24 (row n h X1) (row n h X2)) (k1_pay25 (row n h Y1) (row n h Y2)))^[128] (k1_pay26, 1#1)).1

/-- Row `n` replaced. -/
def setRow (n : ℕ) (A : Vec F S16x128 .f32) (v : Vec F S1x128 .f32) : Vec F S16x128 .f32 :=
  fun j => if (j 0).val = n then v (fun | 0 => ⟨0, by decide⟩ | 1 => j 1) else A j

/-- What the body keeps between grid points: the keeps and the count. -/
abbrev St (F : FTy → Type) : Type := Vec F S16x128 .f32 × BitVec 32

/-- One grid point on the keeps and the count. -/
def step (X1 Y1 X2 Y2 AR SC : Vec F S16x128 .f32) (n : ℕ) (h : n < 16) (s : St F) : St F :=
  if Scalar.cmpi .ne (Scalar.extui (Scalar.cmpi .slt s.2 300#32) : BitVec 32) 0#32 = 1#1 then
    (setRow n s.1 (k1_pay29 (keepRow n h X1 Y1 X2 Y2 AR s.1)),
      Scalar.addi s.2 (Scalar.fptosi 32 (k1_pay30 (keepRow n h X1 Y1 X2 Y2 AR s.1) (row n h SC))))
  else s

/-- The keeps and the count before grid point `n`. -/
def stAt (X1 Y1 X2 Y2 AR SC : Vec F S16x128 .f32) : ℕ → St F
  | 0 => (k1_pay2, 0#32)
  | n + 1 => if h : n < 16 then step X1 Y1 X2 Y2 AR SC n h (stAt X1 Y1 X2 Y2 AR SC n) else stAt X1 Y1 X2 Y2 AR SC n

/-- What the last grid point writes, from the scores, the keeps and the boxes. -/
def emitOf (CX CY W H SC K : Vec F S16x128 .f32) : FVec F S304x8 .f32 :=
  let v14 := k1_pay31 (F := F)
  let v48 := k1_pay32 SC K
  let v52 := k1_pay33 CX
  let v55 := k1_pay34 v14 v52
  let v62 := k1_pay35 v14 CY
  let v67 := k1_pay36 v14 W
  let v72 := k1_pay37 v14 H
  let v75 := k1_pay38 v14 SC
  let v77 := k1_pay39 (F := F)
  let v78 := k1_pay40 (F := F)
  let z : FVec F S304x8 .f32 := constant S304x8 .f32 0x00000000#32
  let v135 := k1_pay44 v48 v55 v62 v67 v72 v75 v77 v78 (k1_pay41 (F := F)) (k1_pay42 v48) (k1_pay43 v14 v52 CY W H SC) z
  let v191 := k1_pay47 v48 v55 v62 v67 v72 v75 v77 v78 v135 (k1_pay45 v48 v77) (k1_pay46 v55 v62 v67 v72 v75 v78) z
  let v247 := k1_pay50 v48 v55 v62 v67 v72 v75 v77 v78 v191 (k1_pay48 v48 v77) (k1_pay49 v55 v62 v67 v72 v75 v78) z
  k1_pay3 v48 v55 v62 v67 v72 v75 v77 v78 v247 (k1_pay51 v48 v77) (k1_pay52 v55 v62 v67 v72 v75 v78) z

/-- The boxes' corners and areas. -/
def x1Of (CX W : Vec F S16x128 .f32) : Vec F S16x128 .f32 := k1_pay8 CX W
def y1Of (CY H : Vec F S16x128 .f32) : Vec F S16x128 .f32 := k1_pay9 CY H
def x2Of (CX W : Vec F S16x128 .f32) : Vec F S16x128 .f32 := k1_pay10 CX W
def y2Of (CY H : Vec F S16x128 .f32) : Vec F S16x128 .f32 := k1_pay11 CY H
def arOf (CX CY W H : Vec F S16x128 .f32) : Vec F S16x128 .f32 :=
  k1_pay1 (k1_pay12 (x2Of CX W) (x1Of CX W)) (y2Of CY H) (y1Of CY H)

/-- The keeps after the sixteen grid points. -/
def keepsOf (CX CY W H SC : Vec F S16x128 .f32) : Vec F S16x128 .f32 :=
  (stAt (x1Of CX W) (y1Of CY H) (x2Of CX W) (y2Of CY H) (arOf CX CY W H) SC 16).1

/-- What the TensorCore kernel writes. -/
def nmsOut (CX CY W H SC : Vec F S16x128 .f32) : FVec F S304x8 .f32 := emitOf CX CY W H SC (keepsOf CX CY W H SC)

end Cert.Proof

end
-- ==== Proof.Enc.lean ====
/-
  Truth values among the extended reals: one for true and zero for false; folds, sums and comparisons of them.
-/
module

public import proofs.«01_k».proof.Proof.Base
public import Idealize.ShloMosaic.Lib.Pointwise
public import Idealize.ShloMosaic.Lib.WordCmp

@[expose] public section

noncomputable section

namespace Cert.Proof

open Cert.KernelIdeal Cert.KernelIdeal.Gen
open Idealize.ShloMosaic
open scoped Classical

/-- One for true, zero for false. -/
def enc (P : Prop) : EReal := if P then 1 else 0

theorem enc_true {P : Prop} (h : P) : enc P = 1 := if_pos h
theorem enc_false {P : Prop} (h : ¬ P) : enc P = 0 := if_neg h

theorem enc_inj {P Q : Prop} : enc P = enc Q ↔ (P ↔ Q) := by
  by_cases hP : P <;> by_cases hQ : Q <;> simp [enc, hP, hQ]

theorem enc_le_one (P : Prop) : enc P ≤ 1 := by
  by_cases hP : P <;> simp [enc, hP]

theorem enc_nonneg (P : Prop) : 0 ≤ enc P := by
  by_cases hP : P <;> simp [enc, hP]

theorem max_enc (P Q : Prop) : max (enc P) (enc Q) = enc (P ∨ Q) := by
  by_cases hP : P <;> by_cases hQ : Q <;> simp [enc, hP, hQ]

theorem not_enc (P : Prop) : 1 - min (enc P) 1 = enc (¬ P) := by
  have h11 : (1 : EReal) - 1 = 0 := by
    rw [← EReal.coe_one, ← EReal.coe_sub, sub_self, EReal.coe_zero]
  by_cases hP : P <;> simp [enc, hP, h11]

theorem ofBits_neg_inf : Ideal.ofBits .f32 0xFF800000#32 = ⊥ := by
  simp [Ideal.ofBits, Ideal.ieee]

theorem fold_max_enc {α : Type} [Fintype α] [Nonempty α] (P : α → Prop) :
    Finset.fold max (Ideal.ofBits .f32 0xFF800000#32) (fun x => enc (P x)) Finset.univ = enc (∃ x, P x) := by
  rw [ofBits_neg_inf]
  apply le_antisymm
  · rw [Finset.fold_max_le]
    refine ⟨bot_le, fun x _ => ?_⟩
    by_cases h : P x
    · rw [enc_true (P := ∃ x, P x) ⟨x, h⟩]; exact enc_le_one _
    · rw [enc_false h]; exact enc_nonneg _
  · rw [Finset.le_fold_max]
    right
    by_cases h : ∃ x, P x
    · obtain ⟨x, hx⟩ := h
      exact ⟨x, Finset.mem_univ _, by rw [enc_true (P := P x) hx]; exact enc_le_one _⟩
    · obtain ⟨x⟩ := (inferInstance : Nonempty α)
      exact ⟨x, Finset.mem_univ _, by rw [enc_false (P := ∃ x, P x) h]; exact enc_nonneg _⟩

theorem ite_enc (P : Prop) [Decidable P] : (if P then (1 : EReal) else 0) = enc P := by
  by_cases h : P <;> simp [enc, h]

theorem fold_max_ite {α : Type} [Fintype α] [Nonempty α] (P : α → Prop) [∀ x, Decidable (P x)] :
    Finset.fold max (Ideal.ofBits .f32 0xFF800000#32) (fun x => if P x then (1 : EReal) else 0) Finset.univ = enc (∃ x, P x) := by
  simp only [ite_enc]
  exact fold_max_enc P

/-- A truth value as a float. -/
theorem sitofp_bool (b : Bool) : (FloatOps.sitofp (F := Ideal) .f32 (BitVec.setWidth 32 (BitVec.ofBool b)) : EReal) = enc (b = true) := by
  cases b <;> simp [enc, FloatOps.sitofp]

/-- A small number as a float. -/
theorem sitofp_nat (n : ℕ) (h : n < 2 ^ 31) : (FloatOps.sitofp (F := Ideal) .f32 (BitVec.ofNat 32 n) : EReal) = (n : ℝ) := by
  have : (BitVec.ofNat 32 n).toInt = n := by
    rw [BitVec.toInt_ofNat', Int.bmod_eq_of_le] <;> omega
  show (((BitVec.ofNat 32 n).toInt : ℝ) : EReal) = _
  rw [this]; simp

theorem select_enc (c : BitVec 1) (x y : EReal) : Scalar.select c x y = if c = 1#1 then x else y := rfl

theorem andi_bool (a b : Bool) : IntOp.andi (BitVec.ofBool a) (BitVec.ofBool b) = BitVec.ofBool (a && b) := by
  cases a <;> cases b <;> rfl

theorem slt_nat (a b : ℕ) (ha : a < 2 ^ 31) (hb : b < 2 ^ 31) :
    IntOp.cmpi .slt (BitVec.ofNat 32 a) (BitVec.ofNat 32 b) = BitVec.ofBool (decide (a < b)) := WordCmp.cmpi_slt_ofNat ha hb

theorem eq_nat (a b : ℕ) (ha : a < 2 ^ 32) (hb : b < 2 ^ 32) :
    IntOp.cmpi .eq (BitVec.ofNat 32 a) (BitVec.ofNat 32 b) = BitVec.ofBool (decide (a = b)) := WordCmp.cmpi_eq_ofNat ha hb

/-- A sum with one term that counts. -/
theorem sum_enc_mul {n : ℕ} (a : Fin n) (f : Fin n → EReal) : ∑ x, enc (a = x) * f x = f a := by
  rw [Finset.sum_eq_single a]
  · simp [enc]
  · intro b _ hb; simp [enc, hb.symm]
  · simp

theorem sum_mul_enc {n : ℕ} (a : Fin n) (f : Fin n → EReal) : ∑ x, f x * enc (x = a) = f a := by
  rw [Finset.sum_eq_single a]
  · simp [enc]
  · intro b _ hb; simp [enc, hb]
  · simp

/-- A sum of truth values is a count. -/
theorem sum_enc {α : Type} (s : Finset α) (P : α → Prop) : ∑ x ∈ s, enc (P x) = (((s.filter P).card : ℝ) : EReal) := by
  classical
  induction s using Finset.induction_on with
  | empty => simp
  | insert a s ha ih =>
    rw [Finset.sum_insert ha, ih, Finset.filter_insert]
    by_cases h : P a
    · rw [if_pos h, Finset.card_insert_of_notMem (by simp [ha]), enc_true h]
      push_cast
      rw [add_comm]
    · rw [if_neg h, enc_false h, zero_add]

end Cert.Proof

end
-- ==== Proof.KRow.lean ====
/-
  The TensorCore body's functions of one block over the extended reals, where the keeps are truth values.
-/
module

public import proofs.«01_k».proof.Proof.Enc

@[expose] public section

noncomputable section

namespace Cert.Proof

open Cert.KernelIdeal Cert.KernelIdeal.Gen
open Idealize.ShloMosaic
open scoped Classical

/-- The two thresholds. -/
def tau : EReal := Ideal.ofBits .f32 0x3F333333#32
def conf : EReal := Ideal.ofBits .f32 0x3DCCCCCD#32

/-- The overlap of two boxes over their union, from corners and areas. -/
def iou (x1 y1 x2 y2 a x1' y1' x2' y2' a' : EReal) : EReal :=
  if 0 < a + a' - max (min x2 x2' - max x1 x1') 0 * max (min y2 y2' - max y1 y1') 0 then
    Ideal.div (max (min x2 x2' - max x1 x1') 0 * max (min y2 y2' - max y1 y1') 0)
      (a + a' - max (min x2 x2' - max x1 x1') 0 * max (min y2 y2' - max y1 y1') 0)
  else 0

theorem eye_apply (a b : Fin 128) : k1_pay15 (F := Ideal) (ix2 a b) = enc (a = b) := by
  pointwise [k1_pay15]
  rw [eq_nat _ _ (by omega) (by omega), sitofp_bool, decide_eq_true_eq, Fin.val_inj]

theorem pay16_apply (v : Vec Ideal S1x128 .f32) (i : Fin 128) : k1_pay16 (F := Ideal) v (ix2 i 0) = v (ix2 0 i) := by
  unfold k1_pay16
  pointwise
  simp only [eye_apply, sum_enc_mul]

theorem pay17_apply (v : Vec Ideal S1x128 .f32) (i : Fin 128) : k1_pay17 (F := Ideal) v (ix2 i 0) = v (ix2 0 i) := by
  unfold k1_pay17
  pointwise
  simp only [eye_apply, sum_enc_mul]

theorem pay18_apply (v : Vec Ideal S1x128 .f32) (i : Fin 128) : k1_pay18 (F := Ideal) v (ix2 i 0) = v (ix2 0 i) := by
  unfold k1_pay18
  pointwise
  simp only [eye_apply, sum_enc_mul]

theorem pay19_apply (v : Vec Ideal S1x128 .f32) (i : Fin 128) : k1_pay19 (F := Ideal) v (ix2 i 0) = v (ix2 0 i) := by
  unfold k1_pay19
  pointwise
  simp only [eye_apply, sum_enc_mul]

theorem pay20_apply (v : Vec Ideal S1x128 .f32) (i : Fin 128) : k1_pay20 (F := Ideal) v (ix2 i 0) = v (ix2 0 i) := by
  unfold k1_pay20
  pointwise
  simp only [eye_apply, sum_enc_mul]

theorem pay13_apply (a1 a2 a3 a4 a5 : FVec Ideal S128x1 .f32) (b1 b2 b3 b4 b5 k : Vec Ideal S1x128 .f32) (i j : Fin 128) :
    k1_pay13 (F := Ideal) a1 a2 a3 a4 a5 b1 b2 b3 b4 b5 k (ix2 i j)
      = if tau < iou (a1 (ix2 i 0)) (a2 (ix2 i 0)) (a3 (ix2 i 0)) (a4 (ix2 i 0)) (a5 (ix2 i 0))
          (b1 (ix2 0 j)) (b2 (ix2 0 j)) (b3 (ix2 0 j)) (b4 (ix2 0 j)) (b5 (ix2 0 j)) then k (ix2 0 j) else 0 := by
  pointwise [k1_pay13]
  rfl

theorem pay22_apply (acc : FVec Ideal S128x1 .f32) (v : FVec Ideal S128x128 .f32) (i : Fin 128) :
    k1_pay22 (F := Ideal) acc v (ix2 i 0)
      = max (acc (ix2 i 0)) (Finset.univ.fold max (Ideal.ofBits .f32 0xFF800000#32) fun j => v (ix2 i j)) := by
  pointwise [k1_pay22]

theorem pay21_apply (i : Fin 128) : k1_pay21 (F := Ideal) (ix2 i 0) = 0 := by
  pointwise [k1_pay21]

theorem pay26_apply (i : Fin 128) : k1_pay26 (F := Ideal) (ix2 0 i) = 1 := by
  pointwise [k1_pay26]

theorem pay29_apply (v : FVec Ideal S1x128 .f32) (i : Fin 128) : k1_pay29 (F := Ideal) v (ix2 0 i) = v (ix2 0 i) := by
  pointwise [k1_pay29]

theorem pay30_apply (k s : Vec Ideal S1x128 .f32) :
    k1_pay30 (F := Ideal) k s = ∑ l : Fin 128, if conf ≤ s (ix2 0 l) then k (ix2 0 l) else 0 := by
  pointwise [k1_pay30]
  rw [Fin.sum_univ_one]
  rfl

theorem pay24_apply (x1 x2 : Vec Ideal S1x128 .f32) (i j : Fin 128) :
    k1_pay24 (F := Ideal) x1 x2 (ix2 i j) = max (min (x2 (ix2 0 i)) (x2 (ix2 0 j)) - max (x1 (ix2 0 i)) (x1 (ix2 0 j))) 0 := by
  unfold k1_pay24
  pointwise
  rw [pay18_apply, pay16_apply]

theorem pay25_apply (y1 y2 : Vec Ideal S1x128 .f32) (i j : Fin 128) :
    k1_pay25 (F := Ideal) y1 y2 (ix2 i j) = min (y2 (ix2 0 i)) (y2 (ix2 0 j)) - max (y1 (ix2 0 i)) (y1 (ix2 0 j)) := by
  unfold k1_pay25
  pointwise
  rw [pay19_apply, pay17_apply]

/-- Candidate `i` of a block overlaps candidate `j` of another by more than the threshold, from the blocks' rows. -/
def over (x1 y1 x2 y2 ar x1' y1' x2' y2' ar' : Vec Ideal S1x128 .f32) (i j : Fin 128) : Prop :=
  tau < iou (x1 (ix2 0 i)) (y1 (ix2 0 i)) (x2 (ix2 0 i)) (y2 (ix2 0 i)) (ar (ix2 0 i))
    (x1' (ix2 0 j)) (y1' (ix2 0 j)) (x2' (ix2 0 j)) (y2' (ix2 0 j)) (ar' (ix2 0 j))

/-- One trip towards the fixpoint. -/
theorem pay27_enc (x1 y1 x2 y2 ar : Vec Ideal S1x128 .f32) (sup : FVec Ideal S128x1 .f32) (k : FVec Ideal S1x128 .f32)
    (S P : Fin 128 → Prop) (hS : ∀ i, sup (ix2 i 0) = enc (S i)) (hk : ∀ i, k (ix2 0 i) = enc (P i)) (i : Fin 128) :
    k1_pay27 (F := Ideal) io0 io1 k1_pay15 ar (k1_pay20 ar) sup (k1_pay24 x1 x2) (k1_pay25 y1 y2) k (ix2 0 i)
      = enc (¬ ((∃ j, (over x1 y1 x2 y2 ar x1 y1 x2 y2 ar i j ∧ j < i) ∧ P j) ∨ S i)) := by
  unfold k1_pay27 io0 io1
  pointwise
  simp only [eye_apply, sum_mul_enc, pay24_apply, pay25_apply, pay20_apply, hS, hk]
  have e : ∀ j : Fin 128, Scalar.select (IntOp.andi (BitVec.ofBool (decide (Ideal.ofBits .f32 0x3F333333#32 <
        if 0 < ar (ix2 0 i) + ar (ix2 0 j) - max (min (x2 (ix2 0 i)) (x2 (ix2 0 j)) - max (x1 (ix2 0 i)) (x1 (ix2 0 j))) 0 *
              max (min (y2 (ix2 0 i)) (y2 (ix2 0 j)) - max (y1 (ix2 0 i)) (y1 (ix2 0 j))) 0 then
          Ideal.div (max (min (x2 (ix2 0 i)) (x2 (ix2 0 j)) - max (x1 (ix2 0 i)) (x1 (ix2 0 j))) 0 *
              max (min (y2 (ix2 0 i)) (y2 (ix2 0 j)) - max (y1 (ix2 0 i)) (y1 (ix2 0 j))) 0)
            (ar (ix2 0 i) + ar (ix2 0 j) - max (min (x2 (ix2 0 i)) (x2 (ix2 0 j)) - max (x1 (ix2 0 i)) (x1 (ix2 0 j))) 0 *
              max (min (y2 (ix2 0 i)) (y2 (ix2 0 j)) - max (y1 (ix2 0 i)) (y1 (ix2 0 j))) 0)
        else 0))) (IntOp.cmpi .slt (BitVec.ofNat 32 j) (BitVec.ofNat 32 i))) (enc (P j)) 0
      = enc ((over x1 y1 x2 y2 ar x1 y1 x2 y2 ar i j ∧ j < i) ∧ P j) := by
    intro j
    rw [slt_nat _ _ (by omega) (by omega), andi_bool, WordCmp.select_ofBool]
    by_cases h1 : over x1 y1 x2 y2 ar x1 y1 x2 y2 ar i j <;> by_cases h2 : j < i <;> by_cases h3 : P j <;>
      simp only [over, iou, tau, not_lt] at h1 <;> simp [enc, h1, h2, h3, over, iou, tau, not_lt.mpr, Fin.lt_def.mp]
  simp only [e]
  rw [fold_max_enc, max_enc, not_enc]

/-- Whether that trip changed anything. -/
theorem pay28_enc (x1 y1 x2 y2 ar : Vec Ideal S1x128 .f32) (sup : FVec Ideal S128x1 .f32) (k : FVec Ideal S1x128 .f32)
    (v29 : FVec Ideal S128x1 .f32) (v52 v53 : FVec Ideal S128x128 .f32) :
    k1_pay28 (F := Ideal) io0 io1 k1_pay15 ar v29 sup v52 v53 k
      = enc (∃ i : Fin 128, k1_pay27 (F := Ideal) io0 io1 k1_pay15 ar v29 sup v52 v53 k (ix2 0 i) ≠ k (ix2 0 i)) := by
  unfold k1_pay28
  pointwise
  refine (fold_max_ite _).trans ?_
  exact enc_inj.mpr ⟨fun ⟨x, hx⟩ => ⟨x.2, hx⟩, fun ⟨i, hi⟩ => ⟨(0, i), hi⟩⟩

end Cert.Proof

end
-- ==== Proof.Greedy.lean ====
/-
  Greedy suppression: a candidate is kept when no earlier kept candidate overlaps it. And a count of candidates.
-/
module

public import proofs.«01_k».proof.Proof.Enc

@[expose] public section

noncomputable section

namespace Cert.Proof

open scoped Classical

/-- Candidate `i` is kept, where `M i j` says that `j` overlaps `i`. -/
def greedy (M : ℕ → ℕ → Prop) (i : ℕ) : Prop := ¬ ∃ j, ∃ _ : j < i, M i j ∧ greedy M j
termination_by i

theorem greedy_iff (M : ℕ → ℕ → Prop) (i : ℕ) : greedy M i ↔ ¬ ∃ j, j < i ∧ M i j ∧ greedy M j := by
  rw [greedy]
  simp only [exists_prop]

/-- Whatever satisfies the same rule below `n` is the greedy choice there. -/
theorem greedy_unique (M : ℕ → ℕ → Prop) (n : ℕ) (P : ℕ → Prop) (h : ∀ i, i < n → (P i ↔ ¬ ∃ j, j < i ∧ M i j ∧ P j)) :
    ∀ i, i < n → (P i ↔ greedy M i) := by
  intro i
  induction i using Nat.strong_induction_on with
  | _ i ih =>
    intro hi
    rw [h i hi, greedy_iff]
    refine not_congr (exists_congr fun j => and_congr_right fun hj => and_congr_right fun _ => ih j hj (hj.trans hi))

/-- How many of the numbers below `n` satisfy `V`. -/
def cntB (V : ℕ → Prop) (n : ℕ) : ℕ := ((Finset.range n).filter V).card

theorem cntB_zero (V : ℕ → Prop) : cntB V 0 = 0 := by simp [cntB]

theorem cntB_succ (V : ℕ → Prop) (n : ℕ) : cntB V (n + 1) = cntB V n + if V n then 1 else 0 := by
  unfold cntB
  rw [Finset.range_add_one, Finset.filter_insert]
  split_ifs with h
  · rw [Finset.card_insert_of_notMem (by simp)]
  · rfl

theorem cntB_le (V : ℕ → Prop) (n : ℕ) : cntB V n ≤ n := (Finset.card_filter_le _ _).trans (by simp)

theorem cntB_mono (V : ℕ → Prop) {m n : ℕ} (h : m ≤ n) : cntB V m ≤ cntB V n :=
  Finset.card_le_card (Finset.filter_subset_filter _ (Finset.range_mono h))

theorem cntB_congr {V W : ℕ → Prop} (n : ℕ) (h : ∀ i, i < n → (V i ↔ W i)) : cntB V n = cntB W n := by
  unfold cntB
  congr 1
  exact Finset.filter_congr fun i hi => h i (Finset.mem_range.mp hi)

/-- The count of a sum of two stretches. -/
theorem cntB_add (V : ℕ → Prop) (m n : ℕ) : cntB V (m + n) = cntB V m + cntB (fun i => V (m + i)) n := by
  induction n with
  | zero => simp [cntB_zero]
  | succ n ih => rw [← Nat.add_assoc, cntB_succ, cntB_succ, ih, Nat.add_assoc]

theorem cntB_lt {V : ℕ → Prop} {i j : ℕ} (hij : i < j) (hi : V i) : cntB V i < cntB V j := by
  have := cntB_mono V (show i + 1 ≤ j from hij)
  rw [cntB_succ, if_pos hi] at this
  omega

/-- Two that satisfy `V` with as many before them are one. -/
theorem cntB_inj {V : ℕ → Prop} {i j : ℕ} (hi : V i) (hj : V j) (h : cntB V i = cntB V j) : i = j := by
  rcases lt_trichotomy i j with h' | h' | h'
  · exact absurd h (cntB_lt h' hi).ne
  · exact h'
  · exact absurd h (cntB_lt h' hj).ne'

/-- The count over an index type. -/
theorem card_fin (V : ℕ → Prop) (n : ℕ) : ((Finset.univ : Finset (Fin n)).filter fun l => V l.val).card = cntB V n := by
  unfold cntB
  refine Finset.card_bij (fun l _ => l.val) (fun l hl => ?_) (fun a _ b _ hab => Fin.ext hab) fun b hb => ?_
  · exact Finset.mem_filter.mpr ⟨Finset.mem_range.mpr l.isLt, (Finset.mem_filter.mp hl).2⟩
  · have hb' := Finset.mem_filter.mp hb
    exact ⟨⟨b, Finset.mem_range.mp hb'.1⟩, Finset.mem_filter.mpr ⟨Finset.mem_univ _, hb'.2⟩, rfl⟩

end Cert.Proof

end
-- ==== Proof.KKeep.lean ====
/-
  The keeps that the TensorCore body leaves are the greedy ones, in the blocks that it came to.
-/
module

public import proofs.«01_k».proof.Proof.KRow
public import proofs.«01_k».proof.Proof.Greedy

@[expose] public section

noncomputable section

namespace Cert.Proof

open Cert.KernelIdeal Cert.KernelIdeal.Gen
open Idealize.ShloMosaic
open scoped Classical

/-- Candidate `j` of an array of sixteen rows. -/
def fl (A : Vec Ideal S16x128 .f32) (j : ℕ) : EReal :=
  if h : j < 2048 then A (ix2 ⟨j / 128, by omega⟩ ⟨j % 128, by omega⟩) else 0

theorem fl_at (A : Vec Ideal S16x128 .f32) (n : ℕ) (h : n < 16) (l : Fin 128) : fl A (128 * n + l) = A (ix2 ⟨n, h⟩ l) := by
  unfold fl
  rw [dif_pos (by omega)]
  congr 2
  · exact Fin.ext (by show (128 * n + l) / 128 = n; omega)
  · exact Fin.ext (by show (128 * n + l) % 128 = l; omega)

theorem row_at (A : Vec Ideal S16x128 .f32) (n : ℕ) (h : n < 16) (l : Fin 128) : row n h A (ix2 0 l) = fl A (128 * n + l) := by
  rw [fl_at A n h l]
  unfold row
  congr 1
  funext i
  match i with
  | ⟨0, _⟩ => rfl
  | ⟨1, _⟩ => rfl

theorem setRow_same (A : Vec Ideal S16x128 .f32) (v : Vec Ideal S1x128 .f32) (n : ℕ) (h : n < 16) (l : Fin 128) :
    setRow n A v (ix2 ⟨n, h⟩ l) = v (ix2 0 l) := by
  unfold setRow
  refine (if_pos rfl).trans ?_
  congr 1
  funext i
  match i with
  | ⟨0, _⟩ => rfl
  | ⟨1, _⟩ => rfl

theorem fptosi_nat (k : ℕ) (h : k ≤ 2 ^ 20) : (Scalar.fptosi (F := Ideal) (φ := .f32) 32 ((k : ℝ) : EReal)) = BitVec.ofNat 32 k := by
  rw [Ideal.scalar_fptosi_def, Ideal.fptosi, Ideal.toIntClamped_coe, if_pos (Nat.cast_nonneg k), Int.floor_natCast, ← BitVec.ofInt_natCast]
  congr 1
  norm_num
  omega

section

variable (X1 Y1 X2 Y2 AR SC : Vec Ideal S16x128 .f32)

/-- Candidate `j` overlaps candidate `i`. -/
def Ov (i j : ℕ) : Prop :=
  tau < iou (fl X1 i) (fl Y1 i) (fl X2 i) (fl Y2 i) (fl AR i) (fl X1 j) (fl Y1 j) (fl X2 j) (fl Y2 j) (fl AR j)

theorem over_iff (n t : ℕ) (h : n < 16) (ht : t < 16) (i j : Fin 128) :
    over (row n h X1) (row n h Y1) (row n h X2) (row n h Y2) (row n h AR) (row t ht X1) (row t ht Y1) (row t ht X2) (row t ht Y2) (row t ht AR) i j
      ↔ Ov X1 Y1 X2 Y2 AR (128 * n + i) (128 * t + j) := by
  simp only [over, Ov, row_at]

/-- The suppression by the blocks before `t`. -/
theorem supAcc_enc (n : ℕ) (h : n < 16) (K : Vec Ideal S16x128 .f32) (G : ℕ → Prop) (t : ℕ) (htn : t ≤ 16)
    (hK : ∀ j, j < 128 * t → fl K j = enc (G j)) (i : Fin 128) :
    supAcc (row n h X1) (row n h Y1) (row n h X2) (row n h Y2) (row n h AR) X1 Y1 X2 Y2 AR K k1_pay21 t (ix2 i 0)
      = enc (∃ j, j < 128 * t ∧ Ov X1 Y1 X2 Y2 AR (128 * n + i) j ∧ G j) := by
  induction t with
  | zero =>
    rw [supAcc, pay21_apply, enc_false]
    rintro ⟨j, hj, _⟩
    omega
  | succ t ih =>
    have ht : t < 16 := htn
    rw [supAcc, dif_pos ht, supTrip, pay22_apply, ih (by omega) fun j hj => hK j (by omega)]
    have e : ∀ j : Fin 128, k1_pay13 (F := Ideal) (k1_pay16 (row n h X1)) (k1_pay17 (row n h Y1)) (k1_pay18 (row n h X2)) (k1_pay19 (row n h Y2))
        (k1_pay20 (row n h AR)) (row t ht X1) (row t ht Y1) (row t ht X2) (row t ht Y2) (row t ht AR) (row t ht K) (ix2 i j)
        = enc (Ov X1 Y1 X2 Y2 AR (128 * n + i) (128 * t + j) ∧ G (128 * t + j)) := by
      intro j
      rw [pay13_apply]
      simp only [pay16_apply, pay17_apply, pay18_apply, pay19_apply, pay20_apply, row_at]
      rw [hK _ (by omega)]
      by_cases h1 : Ov X1 Y1 X2 Y2 AR (128 * n + i) (128 * t + j) <;> by_cases h2 : G (128 * t + j)
      all_goals
        have h1' := h1
        unfold Ov at h1'
        simp only [h1', if_true, if_false, enc, h1, h2, and_true, and_false]
    simp only [e]
    rw [fold_max_enc, max_enc, enc_inj]
    constructor
    · rintro (⟨j, hj, hh⟩ | ⟨j, hh⟩)
      · exact ⟨j, by omega, hh⟩
      · exact ⟨128 * t + j, by omega, hh⟩
    · rintro ⟨j, hj, hh⟩
      by_cases hlt : j < 128 * t
      · exact .inl ⟨j, hlt, hh⟩
      · refine .inr ⟨⟨j - 128 * t, by omega⟩, ?_⟩
        have : 128 * t + (j - 128 * t) = j := by omega
        simpa only [this] using hh

/-- The loop to the fixpoint comes to the greedy keeps. -/
theorem fix_enc (x1 y1 x2 y2 ar : Vec Ideal S1x128 .f32) (sup : FVec Ideal S128x1 .f32) (S G : Fin 128 → Prop)
    (hS : ∀ i, sup (ix2 i 0) = enc (S i))
    (hG : ∀ i, G i ↔ ¬ ((∃ j, (over x1 y1 x2 y2 ar x1 y1 x2 y2 ar i j ∧ j < i) ∧ G j) ∨ S i)) (t : ℕ) :
    ∃ P : Fin 128 → Prop,
      (∀ i, ((fixTrip ar (k1_pay20 ar) sup (k1_pay24 x1 x2) (k1_pay25 y1 y2))^[t] (k1_pay26, 1#1)).1 (ix2 0 i) = enc (P i))
      ∧ ((((fixTrip ar (k1_pay20 ar) sup (k1_pay24 x1 x2) (k1_pay25 y1 y2))^[t] (k1_pay26, 1#1)).2 = 1#1 ∧ ∀ i, i.val < t → (P i ↔ G i))
        ∨ (((fixTrip ar (k1_pay20 ar) sup (k1_pay24 x1 x2) (k1_pay25 y1 y2))^[t] (k1_pay26, 1#1)).2 = 0#1 ∧ ∀ i, P i ↔ G i)) := by
  induction t with
  | zero => exact ⟨fun _ => True, fun i => by rw [enc_true trivial]; exact pay26_apply i, .inl ⟨rfl, fun i hi => absurd hi (by omega)⟩⟩
  | succ t ih =>
    obtain ⟨P, hP, hF⟩ := ih
    rw [Function.iterate_succ_apply']
    generalize (fixTrip ar (k1_pay20 ar) sup (k1_pay24 x1 x2) (k1_pay25 y1 y2))^[t] (k1_pay26, 1#1) = a at hP hF ⊢
    rcases hF with ⟨h1, hF⟩ | ⟨h0, hF⟩
    · have e : fixTrip ar (k1_pay20 ar) sup (k1_pay24 x1 x2) (k1_pay25 y1 y2) a
          = (k1_pay27 io0 io1 (k1_pay15 (F := Ideal)) ar (k1_pay20 ar) sup (k1_pay24 x1 x2) (k1_pay25 y1 y2) a.1,
            Scalar.cmpf .ogt (k1_pay28 io0 io1 (k1_pay15 (F := Ideal)) ar (k1_pay20 ar) sup (k1_pay24 x1 x2) (k1_pay25 y1 y2) a.1) (Scalar.ofBits .f32 0x00000000#32)) := by
        unfold fixTrip
        rw [h1, if_pos (by decide)]
      rw [e]
      have h27 := pay27_enc x1 y1 x2 y2 ar sup a.1 S P hS hP
      refine ⟨_, h27, ?_⟩
      show (_ = 1#1 ∧ _) ∨ (_ = 0#1 ∧ _)
      rw [pay28_enc x1 y1 x2 y2]
      simp only [h27, hP]
      have hc : ∀ Q : Prop, Scalar.cmpf .ogt (enc Q : Ideal .f32) (Scalar.ofBits (F := Ideal) .f32 0x00000000#32) = if Q then 1#1 else 0#1 := by
        intro Q
        show Ideal.cmp .ogt (enc Q) (Ideal.ofBits .f32 0x00000000#32) = _
        rw [Ideal.ofBits_zero_f32]
        by_cases hQ : Q <;> simp [Ideal.cmp, enc, hQ]
      rw [hc]
      by_cases hch : ∃ i, enc (¬ ((∃ j, (over x1 y1 x2 y2 ar x1 y1 x2 y2 ar i j ∧ j < i) ∧ P j) ∨ S i)) ≠ enc (P i)
      · left
        refine ⟨if_pos hch, fun i hi => ?_⟩
        rw [hG i]
        refine not_congr (or_congr_left (exists_congr fun j => and_congr_right fun hj => hF j ?_))
        have := Fin.lt_def.mp hj.2
        omega
      · right
        refine ⟨if_neg hch, ?_⟩
        simp only [not_exists, not_not] at hch
        have hfix : ∀ i, (¬ ((∃ j, (over x1 y1 x2 y2 ar x1 y1 x2 y2 ar i j ∧ j < i) ∧ P j) ∨ S i)) ↔ P i := fun i => enc_inj.mp (hch i)
        have key : ∀ n (i : Fin 128), i.val = n → (P i ↔ G i) := by
          intro n
          induction n using Nat.strong_induction_on with
          | _ n ihn =>
            intro i hi
            rw [← hfix i, hG i]
            refine not_congr (or_congr_left (exists_congr fun j => and_congr_right fun hj => ihn j ?_ j rfl))
            have := Fin.lt_def.mp hj.2
            omega
        intro i
        rw [hfix i]
        exact key _ i rfl
    · have e : fixTrip ar (k1_pay20 ar) sup (k1_pay24 x1 x2) (k1_pay25 y1 y2) a = a := by
        unfold fixTrip
        rw [h0, if_neg (by decide)]
      rw [e]
      exact ⟨P, hP, .inr ⟨h0, hF⟩⟩

/-- The keeps of a block, from the greedy keeps of those before it. -/
theorem keepRow_enc (n : ℕ) (h : n < 16) (K : Vec Ideal S16x128 .f32)
    (hK : ∀ j, j < 128 * n → fl K j = enc (greedy (Ov X1 Y1 X2 Y2 AR) j)) (i : Fin 128) :
    keepRow n h X1 Y1 X2 Y2 AR K (ix2 0 i) = enc (greedy (Ov X1 Y1 X2 Y2 AR) (128 * n + i)) := by
  obtain ⟨P, hP, hF⟩ := fix_enc (row n h X1) (row n h Y1) (row n h X2) (row n h Y2) (row n h AR)
    (supAcc (row n h X1) (row n h Y1) (row n h X2) (row n h Y2) (row n h AR) X1 Y1 X2 Y2 AR K k1_pay21 n)
    (fun i => ∃ j, j < 128 * n ∧ Ov X1 Y1 X2 Y2 AR (128 * n + i) j ∧ greedy (Ov X1 Y1 X2 Y2 AR) j)
    (fun i => greedy (Ov X1 Y1 X2 Y2 AR) (128 * n + i))
    (supAcc_enc X1 Y1 X2 Y2 AR n h K _ n (by omega) hK)
    (by
      intro i
      simp only [over_iff]
      rw [greedy_iff]
      refine not_congr ⟨?_, ?_⟩
      · rintro ⟨j, hj, ho, hg⟩
        by_cases hlt : j < 128 * n
        · exact .inr ⟨j, hlt, ho, hg⟩
        · left
          have e : 128 * n + (j - 128 * n) = j := by omega
          refine ⟨⟨j - 128 * n, by omega⟩, ⟨?_, ?_⟩, ?_⟩
          · simpa only [e] using ho
          · exact Fin.lt_def.mpr (by show j - 128 * n < i.val; omega)
          · simpa only [e] using hg
      · rintro (⟨j, ⟨ho, hj⟩, hg⟩ | ⟨j, hj, hh⟩)
        · exact ⟨128 * n + j, by have := Fin.lt_def.mp hj; omega, ho, hg⟩
        · exact ⟨j, by omega, hh⟩) 128
  have hPG : ∀ i, P i ↔ greedy (Ov X1 Y1 X2 Y2 AR) (128 * n + i) := by
    rcases hF with ⟨_, hF⟩ | ⟨_, hF⟩
    · exact fun i => hF i i.isLt
    · exact hF
  unfold keepRow
  rw [hP i, enc_inj]
  exact hPG i

/-- A candidate counts when its score is enough and it is kept. -/
def Val (j : ℕ) : Prop := conf ≤ fl SC j ∧ greedy (Ov X1 Y1 X2 Y2 AR) j

/-- The state before a grid point: `m` blocks were worked, all of those before the point unless enough was found. -/
theorem stAt_inv (n : ℕ) (hn : n ≤ 16) :
    ∃ m, m ≤ n ∧ (m = n ∨ 300 ≤ cntB (Val X1 Y1 X2 Y2 AR SC) (128 * m))
      ∧ (∀ j, j < 2048 → fl (stAt X1 Y1 X2 Y2 AR SC n).1 j = enc (j < 128 * m ∧ greedy (Ov X1 Y1 X2 Y2 AR) j))
      ∧ (stAt X1 Y1 X2 Y2 AR SC n).2 = BitVec.ofNat 32 (cntB (Val X1 Y1 X2 Y2 AR SC) (128 * m)) := by
  induction n with
  | zero =>
    refine ⟨0, le_rfl, .inl rfl, fun j hj => ?_, ?_⟩
    · rw [enc_false (by omega)]
      unfold fl
      rw [dif_pos hj]
      show k1_pay2 (F := Ideal) (ix2 ⟨j / 128, by omega⟩ ⟨j % 128, by omega⟩) = 0
      pointwise [k1_pay2]
    · rw [Nat.mul_zero, cntB_zero]; rfl
  | succ n ih =>
    obtain ⟨m, hm, hor, hK, hc⟩ := ih (by omega)
    have h : n < 16 := hn
    rw [stAt, dif_pos h]
    generalize stAt X1 Y1 X2 Y2 AR SC n = s at hK hc ⊢
    have hle : cntB (Val X1 Y1 X2 Y2 AR SC) (128 * m) ≤ 2048 := (cntB_le _ _).trans (by omega)
    unfold step
    rw [hc]
    have hg : (Scalar.cmpi .ne (Scalar.extui (Scalar.cmpi .slt (BitVec.ofNat 32 (cntB (Val X1 Y1 X2 Y2 AR SC) (128 * m))) 300#32) : BitVec 32) 0#32 = 1#1)
        ↔ cntB (Val X1 Y1 X2 Y2 AR SC) (128 * m) < 300 := by
      have e : Scalar.cmpi .slt (BitVec.ofNat 32 (cntB (Val X1 Y1 X2 Y2 AR SC) (128 * m))) 300#32
          = BitVec.ofBool (decide (cntB (Val X1 Y1 X2 Y2 AR SC) (128 * m) < 300)) := slt_nat _ 300 (by omega) (by omega)
      rw [e]
      by_cases hl : cntB (Val X1 Y1 X2 Y2 AR SC) (128 * m) < 300
      · simp only [hl, decide_true, iff_true]; decide
      · simp only [hl, decide_false, iff_false]; decide
    rw [if_congr hg rfl rfl]
    split_ifs with hlt
    · have hmn : m = n := by omega
      subst hmn
      have hrow := keepRow_enc X1 Y1 X2 Y2 AR m h s.1 fun j hj => by
        rw [hK j (by omega), enc_inj]
        exact and_iff_right hj
      refine ⟨m + 1, le_rfl, .inl rfl, fun j hj => ?_, ?_⟩
      · show fl (setRow m s.1 _) j = _
        by_cases hjm : j / 128 = m
        · have hj' : j = 128 * m + (⟨j % 128, by omega⟩ : Fin 128).val := by show j = 128 * m + j % 128; omega
          rw [hj', fl_at _ m h]
          rw [setRow_same, pay29_apply, hrow, enc_inj]
          refine (and_iff_right ?_).symm
          show 128 * m + j % 128 < _
          omega
        · have e : fl (setRow m s.1 (k1_pay29 (keepRow m h X1 Y1 X2 Y2 AR s.1))) j = fl s.1 j := by
            unfold fl
            rw [dif_pos hj, dif_pos hj]
            unfold setRow
            rw [if_neg (by show ¬ j / 128 = m; exact hjm)]
          rw [e, hK j hj, enc_inj]
          refine and_congr_left fun _ => ?_
          omega
      · show Scalar.addi (BitVec.ofNat 32 _) (Scalar.fptosi 32 _) = _
        rw [pay30_apply]
        have e : ∀ l : Fin 128, (if conf ≤ row m h SC (ix2 0 l) then keepRow m h X1 Y1 X2 Y2 AR s.1 (ix2 0 l) else 0)
            = enc (Val X1 Y1 X2 Y2 AR SC (128 * m + l)) := by
          intro l
          rw [hrow, row_at]
          unfold Val enc
          by_cases h1 : conf ≤ fl SC (128 * m + l) <;> by_cases h2 : greedy (Ov X1 Y1 X2 Y2 AR) (128 * m + l) <;> simp [h1, h2]
        simp only [e]
        rw [sum_enc, card_fin (fun l => Val X1 Y1 X2 Y2 AR SC (128 * m + l)) 128, Nat.mul_succ, cntB_add,
          fptosi_nat _ ((cntB_le _ _).trans (by omega)), BitVec.ofNat_add]
        rfl
    · exact ⟨m, by omega, .inr (by omega), hK, hc⟩

end

end Cert.Proof

end
-- ==== Proof.KSum.lean ====
/-
  What the last grid point writes, as sums over the candidates.
-/
module

public import proofs.«01_k».proof.Proof.KKeep

@[expose] public section

noncomputable section

namespace Cert.Proof

open Cert.KernelIdeal Cert.KernelIdeal.Gen
open Idealize.ShloMosaic
open scoped Classical

/-- The two scales. -/
def sx : EReal := Ideal.ofBits .f32 0x3FC00000#32
def sy : EReal := Ideal.ofBits .f32 0x3F870000#32

theorem eye31_apply (a b : Fin 128) : k1_pay31 (F := Ideal) (ix2 a b) = enc (a = b) := by
  pointwise [k1_pay31]
  rw [eq_nat _ _ (by omega) (by omega), sitofp_bool, decide_eq_true_eq, Fin.val_inj]

theorem pay39_apply (r : Fin 304) : k1_pay39 (F := Ideal) (ix2 0 r) = ((r.val : ℝ) : EReal) := by
  pointwise [k1_pay39]
  exact sitofp_nat _ (by omega)

theorem pay34_apply (X : Vec Ideal S16x128 .f32) (c : Fin 16) (l : Fin 128) :
    k1_pay34 (F := Ideal) k1_pay31 (k1_pay33 X) (ix2 l c) = X (ix2 c l) * sx + 1 := by
  unfold k1_pay34 k1_pay33
  pointwise
  simp only [eye31_apply, sum_enc_mul]
  rfl

theorem pay35_apply (X : Vec Ideal S16x128 .f32) (c : Fin 16) (l : Fin 128) :
    k1_pay35 (F := Ideal) k1_pay31 X (ix2 l c) = X (ix2 c l) * sy + 1 := by
  unfold k1_pay35
  pointwise
  simp only [eye31_apply, sum_enc_mul]
  rfl

theorem pay36_apply (X : Vec Ideal S16x128 .f32) (c : Fin 16) (l : Fin 128) :
    k1_pay36 (F := Ideal) k1_pay31 X (ix2 l c) = X (ix2 c l) * sx := by
  unfold k1_pay36
  pointwise
  simp only [eye31_apply, sum_enc_mul]
  rfl

theorem pay37_apply (X : Vec Ideal S16x128 .f32) (c : Fin 16) (l : Fin 128) :
    k1_pay37 (F := Ideal) k1_pay31 X (ix2 l c) = X (ix2 c l) * sy := by
  unfold k1_pay37
  pointwise
  simp only [eye31_apply, sum_enc_mul]
  rfl

theorem pay38_apply (X : Vec Ideal S16x128 .f32) (c : Fin 16) (l : Fin 128) :
    k1_pay38 (F := Ideal) k1_pay31 X (ix2 l c) = X (ix2 c l) := by
  unfold k1_pay38
  pointwise
  simp only [eye31_apply, sum_enc_mul]

/-- The terms of one row of candidates, where `p` says at which row of the result each is to be. -/
def term (p : FVec Ideal S128x16 .f32) (v : FVec Ideal S128x16 .f32) (r : Fin 304) (c : Fin 16) : EReal :=
  ∑ l : Fin 128, enc (p (ix2 l c) = ((r.val : ℝ) : EReal)) * v (ix2 l c)

/-- A sum over the sixteen rows, one row after the other. -/
theorem sum_sixteen (f : Fin 16 → EReal) :
    ∑ c, f c = f 0 + f 1 + f 2 + f 3 + f 4 + f 5 + f 6 + f 7 + f 8 + f 9 + f 10 + f 11 + f 12 + f 13 + f 14 + f 15 := by
  simp only [Fin.sum_univ_castSucc, Fin.sum_univ_zero, zero_add]
  rfl

theorem emit0 (CX CY W H SC K : Vec Ideal S16x128 .f32) (r : Fin 304) :
    emitOf CX CY W H SC K (ix2 r 0) = ∑ c : Fin 16, term (k1_pay32 SC K) (k1_pay34 k1_pay31 (k1_pay33 CX)) r c := by
  unfold emitOf k1_pay44 k1_pay47 k1_pay50 k1_pay3 k1_pay41 k1_pay42 k1_pay43 k1_pay45 k1_pay46 k1_pay48 k1_pay49 k1_pay51 k1_pay52
  pointwise
  simp only [sitofp_bool, decide_eq_true_eq, pay39_apply, sum_sixteen, term]

theorem emit1 (CX CY W H SC K : Vec Ideal S16x128 .f32) (r : Fin 304) :
    emitOf CX CY W H SC K (ix2 r 1) = ∑ c : Fin 16, term (k1_pay32 SC K) (k1_pay35 k1_pay31 CY) r c := by
  unfold emitOf k1_pay44 k1_pay47 k1_pay50 k1_pay3 k1_pay41 k1_pay42 k1_pay43 k1_pay45 k1_pay46 k1_pay48 k1_pay49 k1_pay51 k1_pay52
  pointwise
  simp only [sitofp_bool, decide_eq_true_eq, pay39_apply, sum_sixteen, term]

theorem emit2 (CX CY W H SC K : Vec Ideal S16x128 .f32) (r : Fin 304) :
    emitOf CX CY W H SC K (ix2 r 2) = ∑ c : Fin 16, term (k1_pay32 SC K) (k1_pay36 k1_pay31 W) r c := by
  unfold emitOf k1_pay44 k1_pay47 k1_pay50 k1_pay3 k1_pay41 k1_pay42 k1_pay43 k1_pay45 k1_pay46 k1_pay48 k1_pay49 k1_pay51 k1_pay52
  pointwise
  simp only [sitofp_bool, decide_eq_true_eq, pay39_apply, sum_sixteen, term]

theorem emit3 (CX CY W H SC K : Vec Ideal S16x128 .f32) (r : Fin 304) :
    emitOf CX CY W H SC K (ix2 r 3) = ∑ c : Fin 16, term (k1_pay32 SC K) (k1_pay37 k1_pay31 H) r c := by
  unfold emitOf k1_pay44 k1_pay47 k1_pay50 k1_pay3 k1_pay41 k1_pay42 k1_pay43 k1_pay45 k1_pay46 k1_pay48 k1_pay49 k1_pay51 k1_pay52
  pointwise
  simp only [sitofp_bool, decide_eq_true_eq, pay39_apply, sum_sixteen, term]

theorem emit4 (CX CY W H SC K : Vec Ideal S16x128 .f32) (r : Fin 304) :
    emitOf CX CY W H SC K (ix2 r 4) = ∑ c : Fin 16, term (k1_pay32 SC K) (k1_pay38 k1_pay31 SC) r c := by
  unfold emitOf k1_pay44 k1_pay47 k1_pay50 k1_pay3 k1_pay41 k1_pay42 k1_pay43 k1_pay45 k1_pay46 k1_pay48 k1_pay49 k1_pay51 k1_pay52
  pointwise
  simp only [sitofp_bool, decide_eq_true_eq, pay39_apply, sum_sixteen, term]

/-- A sum of such terms is the value at the one candidate that is to be there, or zero. -/
theorem sum_term (p v : FVec Ideal S128x16 .f32) (r : Fin 304) (Q : ℕ → Prop) (g : ℕ → EReal)
    (hp : ∀ (c : Fin 16) (l : Fin 128), p (ix2 l c) = ((r.val : ℝ) : EReal) ↔ Q (128 * c + l))
    (hv : ∀ (c : Fin 16) (l : Fin 128), v (ix2 l c) = g (128 * c + l)) :
    (∀ j, j < 2048 → Q j → (∀ i, i < 2048 → Q i → i = j) → ∑ c : Fin 16, term p v r c = g j)
      ∧ ((∀ j, j < 2048 → ¬ Q j) → ∑ c : Fin 16, term p v r c = 0) := by
  have ht : ∀ c, term p v r c = ∑ l : Fin 128, enc (Q (128 * c + l)) * g (128 * c + l) := by
    intro c
    unfold term
    exact Finset.sum_congr rfl fun l _ => by rw [hv, enc_inj.mpr (hp c l)]
  simp only [ht]
  constructor
  · intro j hj hQ hu
    rw [Finset.sum_eq_single (⟨j / 128, by omega⟩ : Fin 16), Finset.sum_eq_single (⟨j % 128, by omega⟩ : Fin 128)]
    · have e : 128 * (j / 128) + j % 128 = j := by omega
      show enc (Q (128 * (j / 128) + j % 128)) * g (128 * (j / 128) + j % 128) = g j
      rw [e, enc_true hQ, one_mul]
    · intro l _ hl
      rw [enc_false, zero_mul]
      intro h
      refine hl (Fin.ext ?_)
      have := hu _ (show 128 * (j / 128) + l.val < 2048 by omega) h
      show l.val = j % 128
      omega
    · simp
    · intro c _ hc
      refine Finset.sum_eq_zero fun l _ => ?_
      rw [enc_false, zero_mul]
      intro h
      refine hc (Fin.ext ?_)
      have := hu _ (show 128 * c.val + l.val < 2048 by omega) h
      show c.val = j / 128
      omega
    · simp
  · intro h
    refine Finset.sum_eq_zero fun c _ => Finset.sum_eq_zero fun l _ => ?_
    rw [enc_false (h _ (by omega)), zero_mul]

/-- A candidate is to be shown: its score is enough, and its keep is more than a half. -/
def Shown (SC K : Vec Ideal S16x128 .f32) (j : ℕ) : Prop :=
  conf ≤ fl SC j ∧ Ideal.ofBits .f32 0x3F000000#32 < fl K j

theorem half_lt (P : Prop) : Ideal.ofBits .f32 0x3F000000#32 < enc P ↔ P := by
  have e : Ideal.ofBits .f32 0x3F000000#32 = ((1 / 2 : ℝ) : EReal) := by
    simp [Ideal.ofBits, Ideal.ieee, -EReal.coe_mul]; norm_num
  rw [e]
  by_cases h : P
  · simp only [enc, h, if_true, iff_true]
    rw [← EReal.coe_one, EReal.coe_lt_coe_iff]; norm_num
  · simp only [enc, h, if_false, iff_false, not_lt]
    rw [← EReal.coe_zero, EReal.coe_le_coe_iff]; norm_num

theorem sum_block (SC K : Vec Ideal S16x128 .f32) (c : Fin 16) (n : ℕ) (hn : n ≤ 128) :
    ∑ x : Fin 128, enc (Shown SC K (128 * c + x) ∧ x.val < n) = ((cntB (fun i => Shown SC K (128 * c + i)) n : ℝ) : EReal) := by
  rw [sum_enc, card_fin (fun l => Shown SC K (128 * c + l) ∧ l < n) 128]
  congr 2
  unfold cntB
  congr 1
  ext i
  simp only [Finset.mem_filter, Finset.mem_range]
  constructor
  · rintro ⟨_, h1, h2⟩; exact ⟨h2, h1⟩
  · rintro ⟨h2, h1⟩; exact ⟨by omega, h1, h2⟩

theorem sum_rows (SC K : Vec Ideal S16x128 .f32) (n : ℕ) (hn : n ≤ 16) :
    ∑ x : Fin 16, enc (x.val < n) * ((cntB (fun i => Shown SC K (128 * x + i)) 128 : ℝ) : EReal)
      = ((cntB (Shown SC K) (128 * n) : ℝ) : EReal) := by
  induction n with
  | zero =>
    rw [Nat.mul_zero, cntB_zero]
    refine (Finset.sum_eq_zero fun x _ => ?_).trans (by simp)
    rw [enc_false (by omega), zero_mul]
  | succ n ih =>
    rw [Nat.mul_succ, cntB_add, Nat.cast_add, EReal.coe_add, ← ih (by omega)]
    have e : ∀ x : Fin 16, enc (x.val < n + 1) * ((cntB (fun i => Shown SC K (128 * x + i)) 128 : ℝ) : EReal)
        = enc (x.val < n) * ((cntB (fun i => Shown SC K (128 * x + i)) 128 : ℝ) : EReal)
          + enc ((⟨n, hn⟩ : Fin 16) = x) * ((cntB (fun i => Shown SC K (128 * x + i)) 128 : ℝ) : EReal) := by
      intro x
      by_cases h1 : x.val < n
      · rw [enc_true h1, enc_true (by omega), enc_false (P := (⟨n, hn⟩ : Fin 16) = x), zero_mul, add_zero]
        intro h; rw [← h] at h1; exact absurd h1 (lt_irrefl _)
      · by_cases h2 : x.val = n
        · rw [enc_false h1, enc_true (by omega), enc_true (P := (⟨n, hn⟩ : Fin 16) = x) (Fin.ext h2.symm), zero_mul, zero_add]
        · rw [enc_false h1, enc_false (by omega), enc_false (P := (⟨n, hn⟩ : Fin 16) = x), zero_mul, add_zero]
          intro h; exact h2 (by rw [← h])
    simp only [e]
    rw [Finset.sum_add_distrib, sum_enc_mul]

/-- Where the body puts a candidate: at as many rows as are shown before it, where it's shown among the first 300. -/
theorem pay32_apply (SC K : Vec Ideal S16x128 .f32) (c : Fin 16) (l : Fin 128) (r : Fin 304) :
    k1_pay32 SC K (ix2 l c) = ((r.val : ℝ) : EReal)
      ↔ Shown SC K (128 * c + l) ∧ cntB (Shown SC K) (128 * c + l) < 300 ∧ cntB (Shown SC K) (128 * c + l) = r := by
  unfold k1_pay32
  pointwise
  have hS : ∀ (x : Fin 16) (y : Fin 128), (conf ≤ SC (ix2 x y) ∧ Ideal.ofBits .f32 0x3F000000#32 < K (ix2 x y)) ↔ Shown SC K (128 * x + y) := by
    intro x y
    unfold Shown
    rw [fl_at SC x.val x.isLt y, fl_at K x.val x.isLt y]
  have hsel : ∀ (x : Fin 16) (y : Fin 128) (a : EReal),
      Scalar.select (IntOp.andi (BitVec.ofBool (decide (Ideal.ofBits .f32 0x3DCCCCCD#32 ≤ SC (ix2 x y))))
        (BitVec.ofBool (decide (Ideal.ofBits .f32 0x3F000000#32 < K (ix2 x y))))) a 0 = if Shown SC K (128 * x + y) then a else 0 := by
    intro x y a
    rw [andi_bool, WordCmp.select_ofBool, ← Bool.decide_and]
    simp only [decide_eq_true_eq]
    exact if_congr (hS x y) rfl rfl
  have hslt : ∀ a b : ℕ, a < 2 ^ 31 → b < 2 ^ 31 → (FloatOps.sitofp (F := Ideal) .f32 (BitVec.setWidth 32 (IntOp.cmpi .slt (BitVec.ofNat 32 a) (BitVec.ofNat 32 b))) : EReal) = enc (a < b) := by
    intro a b ha hb
    rw [slt_nat a b ha hb, sitofp_bool, decide_eq_true_eq]
  have h1 : ∀ x y : Fin 128, (FloatOps.sitofp (F := Ideal) .f32 (BitVec.setWidth 32 (IntOp.cmpi .slt (BitVec.ofNat 32 x) (BitVec.ofNat 32 y))) : EReal) = enc (x.val < y.val) :=
    fun x y => hslt _ _ (by omega) (by omega)
  have h2 : ∀ x : Fin 128, (FloatOps.sitofp (F := Ideal) .f32 (BitVec.setWidth 32 (IntOp.cmpi .slt (BitVec.ofNat 32 x) (BitVec.ofNat 32 127))) : EReal) = enc (x.val < 127) :=
    fun x => hslt _ _ (by omega) (by omega)
  have h3 : ∀ x y : Fin 16, (FloatOps.sitofp (F := Ideal) .f32 (BitVec.setWidth 32 (IntOp.cmpi .slt (BitVec.ofNat 32 x) (BitVec.ofNat 32 y))) : EReal) = enc (x.val < y.val) :=
    fun x y => hslt _ _ (by omega) (by omega)
  have h4 : ∀ (P : Prop) (Q : Prop), (if P then enc Q else 0) = enc (P ∧ Q) := by
    intro P Q
    by_cases hP : P <;> by_cases hQ : Q <;> simp [enc, hP, hQ]
  have h5 : ∀ x : Fin 16, ∑ y : Fin 128, enc (Shown SC K (128 * x + y) ∧ y.val < 127) + enc (Shown SC K (128 * x + (127 : Fin 128)))
      = ((cntB (fun i => Shown SC K (128 * x + i)) 128 : ℝ) : EReal) := by
    intro x
    rw [sum_block SC K x 127 (by omega), cntB_succ _ 127, Nat.cast_add, EReal.coe_add]
    congr 1
    show enc (Shown SC K (128 * x + 127)) = _
    by_cases h : Shown SC K (128 * x + 127) <;> simp [enc, h]
  have h6 : ((cntB (Shown SC K) (128 * c) : ℝ) : EReal) + ((cntB (fun i => Shown SC K (128 * c + i)) l : ℝ) : EReal)
      = ((cntB (Shown SC K) (128 * c + l) : ℝ) : EReal) := by
    rw [← EReal.coe_add, ← Nat.cast_add, ← cntB_add]
  have h300 : Ideal.ofBits .f32 0x43960000#32 = ((300 : ℝ) : EReal) := by
    simp [Ideal.ofBits, Ideal.ieee, -EReal.coe_mul]; norm_num
  have hbig : Ideal.ofBits .f32 0x4E6E6B28#32 = ((1000000000 : ℝ) : EReal) := by
    simp [Ideal.ofBits, Ideal.ieee, -EReal.coe_mul]; norm_num
  simp only [eye31_apply, sum_enc_mul, hsel, h1, h2, h3, ite_enc, h4, half_lt]
  simp only [h5, sum_rows SC K c.val (by omega), sum_block SC K c l.val (by omega), h6]
  rw [andi_bool, WordCmp.select_ofBool, ← Bool.decide_and, h300, hbig]
  simp only [decide_eq_true_eq, EReal.coe_lt_coe_iff]
  split_ifs with h
  · rw [EReal.coe_eq_coe_iff, Nat.cast_inj]
    exact ⟨fun e => ⟨h.1, by exact_mod_cast h.2, e⟩, fun e => e.2.2⟩
  · rw [EReal.coe_eq_coe_iff]
    constructor
    · intro e
      have hr : (r.val : ℝ) < 304 := by exact_mod_cast r.isLt
      rw [← e] at hr
      norm_num at hr
    · intro e
      exact absurd ⟨e.1, by exact_mod_cast e.2.1⟩ h

end Cert.Proof

end
-- ==== Proof.Spec.lean ====
/-
  What both programs compute, from the five values of each of the 2048 best candidates.
-/
module

public import proofs.«01_k».proof.Proof.KSum

@[expose] public section

noncomputable section

namespace Cert.Proof

open Idealize.ShloMosaic
open scoped Classical

/-- A number below 2048 isn't negative as a word, and none is added to it. -/
theorem wrap_nat (k n : ℕ) (hk : k < 2 ^ 31) :
    Scalar.select (IntOp.cmpi .slt (BitVec.ofNat 32 k) 0#32) (IntOp.addi (BitVec.ofNat 32 k) (BitVec.ofNat 32 n)) (BitVec.ofNat 32 k) = BitVec.ofNat 32 k := by
  rw [show (0#32 : BitVec 32) = BitVec.ofNat 32 0 from rfl, slt_nat k 0 hk (by omega)]
  rfl

theorem toInt_nat (k : ℕ) (hk : k < 2 ^ 31) : (BitVec.ofNat 32 k).toInt = (k : ℤ) := by
  rw [BitVec.toInt_ofNat']
  simp only [Int.bmod]
  omega

/-- One half. -/
def half : EReal := Ideal.ofBits .f32 0x3F000000#32

section

variable (C : Fin 5 → ℕ → EReal)

/-- The corners and the area of candidate `j`'s box. -/
def bx1 (j : ℕ) : EReal := C 0 j - C 2 j * half
def by1 (j : ℕ) : EReal := C 1 j - C 3 j * half
def bx2 (j : ℕ) : EReal := C 0 j + C 2 j * half
def by2 (j : ℕ) : EReal := C 1 j + C 3 j * half
def bar (j : ℕ) : EReal := (bx2 C j - bx1 C j) * (by2 C j - by1 C j)

/-- The overlap of two candidates over their union. -/
def biou (i j : ℕ) : EReal :=
  iou (bx1 C i) (by1 C i) (bx2 C i) (by2 C i) (bar C i) (bx1 C j) (by1 C j) (bx2 C j) (by2 C j) (bar C j)

/-- Candidate `j` overlaps candidate `i`. -/
def BOv (i j : ℕ) : Prop := tau < biou C i j

/-- Candidate `j` counts: its score is enough, and it's kept. -/
def BVal (j : ℕ) : Prop := conf ≤ C 4 j ∧ greedy (BOv C) j

/-- What is shown of a candidate: the box in the detector's coordinates, and the score. -/
def bout (k : Fin 5) (j : ℕ) : EReal :=
  match k with
  | 0 => C 0 j * sx + 1
  | 1 => C 1 j * sy + 1
  | 2 => C 2 j * sx
  | 3 => C 3 j * sy
  | 4 => C 4 j

/-- Row `r` of a result shows the candidate that counts and has `r` of them before it, or is zero. -/
def Shows (o : Fin 300 → Fin 5 → EReal) : Prop :=
  ∀ (r : Fin 300) (k : Fin 5),
    (∀ j, j < 2048 → BVal C j → cntB (BVal C) j = r → o r k = bout C k j)
      ∧ ((∀ j, j < 2048 → ¬ (BVal C j ∧ cntB (BVal C) j = r)) → o r k = 0)

/-- Only one result is so. -/
theorem shows_unique (o o' : Fin 300 → Fin 5 → EReal) (h : Shows C o) (h' : Shows C o') : o = o' := by
  funext r k
  by_cases e : ∃ j, j < 2048 ∧ BVal C j ∧ cntB (BVal C) j = r
  · obtain ⟨j, hj, hv, hc⟩ := e
    rw [(h r k).1 j hj hv hc, (h' r k).1 j hj hv hc]
  · have e' : ∀ j, j < 2048 → ¬ (BVal C j ∧ cntB (BVal C) j = r) := fun j hj hq => e ⟨j, hj, hq⟩
    rw [(h r k).2 e', (h' r k).2 e']

end

end Cert.Proof

end
-- ==== Proof.Sort.lean ====
/-
  What the greatest values of a vector are: a descending order in which equal values keep their places.
-/
module

public import proofs.«01_k».proof.Proof.Greedy
public import Idealize.ShloMosaic.Lib.SortFacts
public import Idealize.ShloMosaic.Lib.Pointwise

@[expose] public section

noncomputable section

namespace Cert.Proof

open Idealize.ShloMosaic
open scoped Classical

section

variable {α : Type} (R : α → α → Bool) (T : α → α → Prop)

theorem pairwise_insert (hT : ∀ a b c, T a b → T b c → T a c) (a : α) (l : List α) (hl : l.Pairwise T)
    (ha : ∀ b ∈ l, (R b a = true → T b a) ∧ (R b a = false → T a b)) : (insertBefore R a l).Pairwise T := by
  induction l with
  | nil => exact List.pairwise_singleton _ _
  | cons b l ih =>
    rw [List.pairwise_cons] at hl
    unfold insertBefore
    split
    · rename_i h
      refine List.pairwise_cons.mpr ⟨fun c hc => ?_, ih hl.2 fun c hc => ha c (List.mem_cons_of_mem b hc)⟩
      rcases List.mem_cons.mp ((perm_insertBefore R a l).mem_iff.mp hc) with rfl | hc'
      · exact (ha b List.mem_cons_self).1 h
      · exact hl.1 c hc'
    · rename_i h
      have hab := (ha b List.mem_cons_self).2 (by simpa using h)
      refine List.pairwise_cons.mpr ⟨fun c hc => ?_, List.pairwise_cons.mpr hl⟩
      rcases List.mem_cons.mp hc with rfl | hc'
      · exact hab
      · exact hT _ _ _ hab (hl.1 c hc')

/-- A stable sort orders by any transitive relation that the comparison decides between an earlier and a later element. -/
theorem pairwise_stable (hT : ∀ a b c, T a b → T b c → T a c) (l : List α)
    (hl : l.Pairwise fun a b => (R b a = true → T b a) ∧ (R b a = false → T a b)) : (stableSort R l).Pairwise T := by
  induction l with
  | nil => exact List.Pairwise.nil
  | cons a l ih =>
    rw [List.pairwise_cons] at hl
    unfold stableSort
    exact pairwise_insert R T hT a _ (ih hl.2) fun b hb => hl.1 b ((perm_stableSort R l).mem_iff.mp hb)

end

section

variable {n : ℕ} (v : Fin n → EReal) (R : Fin n → Fin n → Bool)

/-- Before in the order: greater, or equal and at an earlier place. -/
def Bef (a b : Fin n) : Prop := v b < v a ∨ (v b = v a ∧ a < b)

theorem bef_trans (a b c : Fin n) (h1 : Bef v a b) (h2 : Bef v b c) : Bef v a c := by
  rcases h1 with h1 | ⟨e1, h1⟩ <;> rcases h2 with h2 | ⟨e2, h2⟩
  · exact .inl (h2.trans h1)
  · exact .inl (e2 ▸ h1)
  · exact .inl (e1 ▸ h2)
  · exact .inr ⟨e2.trans e1, h1.trans h2⟩

theorem bef_irrefl (a : Fin n) : ¬ Bef v a a := by
  rintro (h | ⟨-, h⟩)
  · exact lt_irrefl _ h
  · exact lt_irrefl _ h

theorem bef_sorted (hR : ∀ a b, R a b = true ↔ v b < v a) (i j : Fin n) (hij : i < j) : Bef v (sortedFrom R i) (sortedFrom R j) := by
  have hp : (sortPositions n R).Pairwise (Bef v) := by
    refine pairwise_stable R (Bef v) (bef_trans v) _ ?_
    refine (List.pairwise_lt_finRange n).imp ?_
    intro a b hab
    refine ⟨fun h => .inl ((hR b a).mp h), fun h => ?_⟩
    have : ¬ v a < v b := fun h' => by rw [(hR b a).mpr h'] at h; cases h
    rcases lt_or_eq_of_le (not_lt.mp this) with h' | h'
    · exact .inl h'
    · exact .inr ⟨h', hab⟩
  have := List.pairwise_iff_get.mp hp
  unfold sortedFrom
  exact this _ _ (by simp only [Fin.lt_def, Fin.val_cast]; exact hij)

/-- As many are before the element at place `r` as the place says. -/
theorem bef_card (hR : ∀ a b, R a b = true ↔ v b < v a) (r : Fin n) :
    ((Finset.univ : Finset (Fin n)).filter fun x => Bef v x (sortedFrom R r)).card = r.val := by
  have e : ((Finset.univ : Finset (Fin n)).filter fun x => Bef v x (sortedFrom R r))
      = ((Finset.univ : Finset (Fin n)).filter fun i => i < r).image (sortedFrom R) := by
    ext x
    simp only [Finset.mem_filter, Finset.mem_univ, true_and, Finset.mem_image]
    constructor
    · intro h
      obtain ⟨i, rfl⟩ := sortedFrom_surjective R x
      refine ⟨i, ?_, rfl⟩
      rcases lt_trichotomy i r with h' | h' | h'
      · exact h'
      · subst h'; exact absurd h (bef_irrefl v _)
      · exact absurd (bef_trans v _ _ _ h (bef_sorted v R hR r i h')) (bef_irrefl v _)
    · rintro ⟨i, hi, rfl⟩
      exact bef_sorted v R hR i r hi
  rw [e, Finset.card_image_of_injective _ (sortedFrom_injective R)]
  have : ((Finset.univ : Finset (Fin n)).filter fun i => i < r) = Finset.Iio r := by ext i; simp
  rw [this, Fin.card_Iio]

/-- Where the values of those in `V` descend and the others are less, those in `V` come first, in their order. -/
theorem top_place (hR : ∀ a b, R a b = true ↔ v b < v a) (V : ℕ → Prop) (hV : ∀ a b : Fin n, a < b → V a → V b → v b ≤ v a)
    (hN : ∀ a b : Fin n, V a → ¬ V b → v b < v a) (r : Fin n) :
    (V (sortedFrom R r) → cntB V (sortedFrom R r) = r) ∧ ∀ j : Fin n, V j → cntB V j = r → sortedFrom R r = j := by
  have key : ∀ s : Fin n, V (sortedFrom R s) → cntB V (sortedFrom R s) = s := by
    intro s hs
    rw [← bef_card v R hR s, ← Finset.card_image_of_injective _ Fin.val_injective]
    unfold cntB
    congr 1
    ext x
    simp only [Finset.mem_filter, Finset.mem_range, Finset.mem_image, Finset.mem_univ, true_and]
    constructor
    · rintro ⟨hx, hVx⟩
      refine ⟨⟨x, hx.trans (sortedFrom R s).isLt⟩, ?_, rfl⟩
      have hlt : (⟨x, hx.trans (sortedFrom R s).isLt⟩ : Fin n) < sortedFrom R s := hx
      rcases lt_or_eq_of_le (hV _ _ hlt hVx hs) with h | h
      · exact .inl h
      · exact .inr ⟨h, hlt⟩
    · rintro ⟨a, ha, rfl⟩
      have hVa : V a := by
        by_contra hn
        have := hN _ _ hs hn
        rcases ha with h | ⟨h, -⟩
        · exact absurd (h.trans this) (lt_irrefl _)
        · exact absurd this (by rw [h]; exact lt_irrefl _)
      refine ⟨?_, hVa⟩
      by_contra hge
      rcases lt_or_eq_of_le (not_lt.mp hge) with h | h
      · have hle := hV _ _ (show sortedFrom R s < a from h) hs hVa
        rcases ha with h' | ⟨-, h'⟩
        · exact absurd h' (not_lt.mpr hle)
        · exact absurd h' (lt_asymm h)
      · have : sortedFrom R s = a := Fin.ext h
        rw [this] at ha
        exact bef_irrefl v _ ha
  refine ⟨key r, fun j hj hc => ?_⟩
  obtain ⟨s, rfl⟩ := sortedFrom_surjective R j
  rw [key s hj] at hc
  rw [Fin.ext hc]

end

/-- The comparison of the values of a vector that the greatest are chosen by. -/
def gtAt {n : ℕ} (x : (⟨1, ![n]⟩ : Shape).Idx → EReal) (a b : Fin n) : Bool :=
  (FloatOps.cmpfTotal (F := Ideal) (φ := .f32) .gt (x (ix1 a)) (x (ix1 b))) == 1#1

theorem gtAt_iff {n : ℕ} (x : (⟨1, ![n]⟩ : Shape).Idx → EReal) (a b : Fin n) : gtAt x a b = true ↔ x (ix1 b) < x (ix1 a) := by
  unfold gtAt
  have hb : ∀ c : Bool, ((BitVec.ofBool c) == 1#1) = c := by decide
  show ((BitVec.ofBool (decide (x (ix1 b) < x (ix1 a)))) == 1#1) = true ↔ _
  rw [hb, decide_eq_true_iff]

/-- The greatest `k` of `n` values, and their places. -/
theorem topK_read {n k : ℕ} (x : (⟨1, ![n]⟩ : Shape).Idx → EReal) (h : (⟨1, ![n]⟩ : Shape).Slices (fun _ => 0) ⟨1, ![k]⟩) (hk : k ≤ n) (r : Fin k) :
    (Host.topK ⟨1, ![k]⟩ 0 (FloatOps.cmpfTotal (F := Ideal) (φ := .f32) .gt) x h).1 (ix1 r) = x (ix1 (sortedFrom (gtAt x) ⟨r.val, by omega⟩))
      ∧ (Host.topK ⟨1, ![k]⟩ 0 (FloatOps.cmpfTotal (F := Ideal) (φ := .f32) .gt) x h).2 (ix1 r)
        = BitVec.ofNat 32 (sortedFrom (gtAt x) ⟨r.val, by omega⟩).val := by
  unfold Host.topK Host.sort2
  dsimp only [extractStridedSlice]
  rw [dif_pos (show 0 < (⟨1, ![n]⟩ : Shape).rank from Nat.zero_lt_one)]
  dsimp only
  have e : (fun a : Fin 1 => (⟨0 + ((ix1 r : (⟨1, ![k]⟩ : Shape).Idx) (a.cast h.1.symm)).val, Nat.lt_of_lt_of_le (Nat.add_lt_add_left ((ix1 r : (⟨1, ![k]⟩ : Shape).Idx) _).isLt _) (h.2 a)⟩ : Fin ((⟨1, ![n]⟩ : Shape).size a)))
      = (ix1 (⟨r.val, by omega⟩ : Fin n) : (⟨1, ![n]⟩ : Shape).Idx) := by
    funext a
    obtain rfl : a = 0 := Subsingleton.elim _ _
    exact Fin.ext (Nat.zero_add _)
  rw [e]
  have al : ∀ (j : (⟨1, ![n]⟩ : Shape).Idx) (a : Fin n), j.along (0 : Fin 1) a = ix1 a := by
    intro j a
    rw [Shape.Idx.along_rank1]
    funext b
    obtain rfl : b = 0 := Subsingleton.elim _ _
    rfl
  have hπ : sortedFrom (fun a b : Fin n => FloatOps.cmpfTotal (F := Ideal) (φ := .f32) .gt (x ((ix1 (⟨r.val, by omega⟩ : Fin n) : (⟨1, ![n]⟩ : Shape).Idx).along (0 : Fin 1) a))
      (x ((ix1 (⟨r.val, by omega⟩ : Fin n) : (⟨1, ![n]⟩ : Shape).Idx).along (0 : Fin 1) b)) == 1#1) ⟨0 + r.val, by omega⟩
      = sortedFrom (gtAt x) ⟨r.val, by omega⟩ := by
    simp only [al, Nat.zero_add]
    rfl
  constructor
  · exact congrArg x ((al _ _).trans (congrArg ix1 hπ))
  · exact (congrArg (fun i : (⟨1, ![n]⟩ : Shape).Idx => BitVec.ofNat 32 (i 0).val) ((al _ _).trans (congrArg ix1 hπ)))

end Cert.Proof

end
-- ==== Proof.Cand.lean ====
/-
  The candidates: the argument's columns with the 2048 best scores, in order.
-/
module

public import proofs.«01_k».proof.Proof.Spec
public import proofs.«01_k».proof.Proof.Sort

@[expose] public section

noncomputable section

namespace Cert.Proof

open Idealize.ShloMosaic
open scoped Classical

section

variable (x : (⟨2, ![5, 20000]⟩ : Shape).Idx → EReal)

/-- The scores, with those below the threshold at the bottom. -/
def th : (⟨1, ![20000]⟩ : Shape).Idx → EReal := fun n => if conf ≤ x (ix2 4 (n 0)) then x (ix2 4 (n 0)) else ⊥

/-- Which column is the `j`-th candidate. -/
def pos (j : ℕ) (h : j < 2048) : Fin 20000 := sortedFrom (gtAt (th x)) ⟨j, by omega⟩

/-- The candidates' five values. -/
def cand : Fin 5 → ℕ → EReal := fun f j => if h : j < 2048 then x (ix2 f (pos x j h)) else 0

theorem cand_of (f : Fin 5) (j : ℕ) (h : j < 2048) : cand x f j = x (ix2 f (pos x j h)) := dif_pos h

/-- The candidates' scores, with those below the threshold at the bottom. -/
def sc : Fin 2048 → EReal := fun j => th x (ix1 (pos x j.val j.isLt))

theorem bot_lt_conf : (⊥ : EReal) < conf := by
  unfold conf
  simp [Ideal.ofBits, Ideal.ieee, -EReal.coe_mul]

theorem sc_ge (j : Fin 2048) : conf ≤ sc x j ↔ conf ≤ cand x 4 j := by
  rw [cand_of x 4 j j.isLt]
  unfold sc th
  by_cases h : conf ≤ x (ix2 4 (pos x j.val j.isLt))
  · simp [h]
  · simp [h, bot_lt_conf.ne']

theorem sc_desc (i j : Fin 2048) (h : i < j) : sc x j ≤ sc x i := by
  rcases bef_sorted (fun a => th x (ix1 a)) (gtAt (th x)) (gtAt_iff (th x)) ⟨i.val, by omega⟩ ⟨j.val, by omega⟩ h with e | e
  · exact le_of_lt e
  · exact le_of_eq e.1

theorem div_two (w : EReal) : Ideal.div w (Ideal.ofBits .f32 0x40000000#32) = w * half := by
  have h2 : Ideal.ofBits .f32 0x40000000#32 = ((2 : ℝ) : EReal) := by
    simp [Ideal.ofBits, Ideal.ieee, -EReal.coe_mul]
    norm_num
  have h1 : half = (((2 : ℝ)⁻¹ : ℝ) : EReal) := by
    unfold half
    simp [Ideal.ofBits, Ideal.ieee, -EReal.coe_mul]
    norm_num
  rw [h2, h1, Ideal.div, if_neg (by norm_num), EReal.coe_inv]

end

end Cert.Proof

end
-- ==== Proof.Tile.lean ====
/-
  The SparseCore kernel's body on one tile: its sixty-four indices in, then five times the rows of a table gathered by
  them and stored to the tile's window of a result.
-/
module

public import proofs.«01_k».proof.Proof.Base
public import Idealize.ShloMosaic.Lib.VecWindow
public import Idealize.ShloMosaic.Lib.SparseCore.Ops
public import Idealize.ShloMosaic.Lib.Pipeline.Kit
public import Idealize.ShloMosaic.Lib.Tactic
public import Idealize.ShloMosaic.Lib.ShareLeaves

@[expose] public section

noncomputable section

namespace Cert.Proof.Tile

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

abbrev 𝒱₀ : Variants := Variants.none

/-- The rows of a table the indices name. -/
def gat {s : Shape} (A : Vec F S20000 .f32) (ix : Vec F s .i32) : Vec F s .f32 :=
  fun x => A (fun | 0 => (⟨(ix x).toNat % 20000, Nat.mod_lt _ (by decide)⟩ : Fin 20000))

variable (d : Dev nD) (L : grid0.Coords)

abbrev cV : Fin τ.nSC := (L 0).castLE hcore0
abbrev jV : Fin τ.nSub := (L 1).castLE hsub0

/-- A tile's window of an index or result array. -/
abbrev winRect : Rect S2048 := Rect.unit (s := S2048) (k0_off1 L) S64.size (k0_off1_inb L)
abbrev win {e : EltTy} (m : Memref sig .scVector .hbm S2048 e) : Memref sig .scVector .hbm S64 e := m.slice (winRect L) (fun _ => rfl)

/-- A window held, and a table held at a share, in the spellings the executor reads. -/
abbrev winAt {e : EltTy} (m : Memref sig .scVector .hbm S2048 e) (f : m.view.ty.Contents (Elt F)) : sProp 𝕄 :=
  (win L m).view.loc (V d (cV L) (jV L)) ↦[(win L m).view.set]{fullShare} f
abbrev tabAt (m : Memref sig .scVector .hbm S20000 .f32) (q : PosShare TreeShare) (f : m.view.ty.Contents (Elt F)) : sProp 𝕄 :=
  m.view.loc (V d (cV L) (jV L)) ↦{q} f
abbrev scrAt {e : EltTy} (m : Memref sig .scVector .vmem S64 e) (f : m.view.ty.Contents (Elt F)) : sProp 𝕄 :=
  m.view.loc (V d (cV L) (jV L)) ↦{fullShare} f
abbrev cell0 (s : DmaSems sig S_) : sProp 𝕄 := semVal (V d (cV L) (jV L), SemLoc.dma s.sem) 0

theorem read_whole_cons {κ : Kind} {sp : Space} {s : Shape} {e : EltTy} (v : View sig κ sp s e) (f : v.ty.Contents (Elt F)) (w : s.Idx → Elt F e)
    (Ls : List (View.Piece (Elt F) s e)) : v.read (Elt F) (v.writes (Elt F) f (⟨Rect.whole s, w⟩ :: Ls)) = w := by
  funext x
  have h := View.read_writes_cons_hit_of_coords v f (Rect.whole s) w Ls x x (fun a => by simp [Rect.whole])
  exact h

theorem read_all (m : Memref sig .scVector .hbm S20000 .f32) (f : m.view.ty.Contents (Elt F)) (h) :
    (m.slice (Rect.unit (s := S20000) ![0] S20000.size inb_S20000_S20000_0) h).view.read (Elt F) f = m.view.read (Elt F) f := by
  funext x
  show m.view.read (Elt F) f ((Rect.unit (s := S20000) ![0] S20000.size inb_S20000_S20000_0).emb x) = _
  refine congrArg (m.view.read (Elt F) f) (funext fun a => Fin.ext ?_)
  match a with
  | 0 => simp

/-- What an indirect gather over a list of sixty-four words brings is the table's rows the words name. -/
theorem gatherPayload_eq (A : Vec F S20000 .f32) (ix : Vec F S64 .i32) (h : ∀ x, (ix x).toNat < 20000) :
    SparseCore.gatherPayload gathers_S20000_S64 A (SparseCore.rows ix rfl h) = gat A ix := by
  funext x
  unfold SparseCore.gatherPayload gat
  refine congrArg A (funext fun a => ?_)
  match a with
  | 0 =>
    refine Fin.ext ?_
    refine (congrArg Fin.val (Shape.Gathers.idx_axis gathers_S20000_S64 _ x)).trans ?_
    have e : S64.rowMajor.symm ((x gathers_S20000_S64.axis').cast rfl) = x := by
      rw [Equiv.symm_apply_eq]
      refine Fin.ext ?_
      refine Eq.trans ?_ (Shape.rowMajor_val_one (d := ![64]) x).symm
      rfl
    show (ix (S64.rowMajor.symm ((x gathers_S20000_S64.axis').cast rfl))).toNat = (ix x).toNat % 20000
    rw [e, Nat.mod_eq_of_lt (h x)]

set_option maxHeartbeats 4000000 in
/-- A tile's run. -/
theorem tile (q : PosShare TreeShare) (O : CellTallies nD τ sig (HIx 1)) (Wt : Waits sig (HIx 1))
    (fi : (Memref.whole main_indices_scv).view.ty.Contents (Elt F)) (f0 : (Memref.whole main_v6_scv).view.ty.Contents (Elt F)) (f1 : (Memref.whole main_v8_scv).view.ty.Contents (Elt F)) (f2 : (Memref.whole main_v10_scv).view.ty.Contents (Elt F)) (f3 : (Memref.whole main_v12_scv).view.ty.Contents (Elt F)) (f4 : (Memref.whole main_v14_scv).view.ty.Contents (Elt F))
    (g0 : (Memref.whole main_v15_0_scv).view.ty.Contents (Elt F)) (g1 : (Memref.whole main_v15_1_scv).view.ty.Contents (Elt F)) (g2 : (Memref.whole main_v15_2_scv).view.ty.Contents (Elt F)) (g3 : (Memref.whole main_v15_3_scv).view.ty.Contents (Elt F)) (g4 : (Memref.whole main_v15_4_scv).view.ty.Contents (Elt F))
    (fs : (Memref.whole cc0_scratch0).view.ty.Contents (Elt F)) (fr : (Memref.whole cc0_scratch1).view.ty.Contents (Elt F))
    (hin : ∀ x, ((win L (Memref.whole main_indices_scv)).view.read (Elt F) fi x).toNat < 20000) :
    iprop(Transfers.MayWaits (V d (cV L) (jV L)) (default : HIx 1) O ∗ owes (V d (cV L) (jV L)) O Wt
      ∗ winAt d L (Memref.whole main_indices_scv) fi
      ∗ tabAt d L (Memref.whole main_v6_scv) q f0
      ∗ tabAt d L (Memref.whole main_v8_scv) q f1
      ∗ tabAt d L (Memref.whole main_v10_scv) q f2
      ∗ tabAt d L (Memref.whole main_v12_scv) q f3
      ∗ tabAt d L (Memref.whole main_v14_scv) q f4
      ∗ winAt d L (Memref.whole main_v15_0_scv) g0
      ∗ winAt d L (Memref.whole main_v15_1_scv) g1
      ∗ winAt d L (Memref.whole main_v15_2_scv) g2
      ∗ winAt d L (Memref.whole main_v15_3_scv) g3
      ∗ winAt d L (Memref.whole main_v15_4_scv) g4
      ∗ scrAt d L (Memref.whole cc0_scratch0) fs
      ∗ scrAt d L (Memref.whole cc0_scratch1) fr
      ∗ cell0 d L cc0_scratch2
      ∗ cell0 d L cc0_scoped0
      ∗ cell0 d L cc0_scoped1
      ∗ cell0 d L cc0_scoped2
      ∗ cell0 d L cc0_scoped3
      ∗ cell0 d L cc0_scoped4
      ∗ cell0 d L cc0_scoped5)
    ⊢ (wp frame (wpE (defs₀ (F := F)) 𝒱₀ (V d (cV L) (jV L)) none) Set.univ
        (cc0__gather_body L (Memref.whole main_v6_scv) (Memref.isWhole_whole _) (Memref.whole main_v8_scv) (Memref.isWhole_whole _) (Memref.whole main_v10_scv) (Memref.isWhole_whole _) (Memref.whole main_v12_scv) (Memref.isWhole_whole _) (Memref.whole main_v14_scv) (Memref.isWhole_whole _) (Memref.whole main_indices_scv) (Memref.isWhole_whole _) (Memref.whole main_v15_0_scv) (Memref.isWhole_whole _) (Memref.whole main_v15_1_scv) (Memref.isWhole_whole _) (Memref.whole main_v15_2_scv) (Memref.isWhole_whole _) (Memref.whole main_v15_3_scv) (Memref.isWhole_whole _) (Memref.whole main_v15_4_scv) (Memref.isWhole_whole _) (Memref.whole cc0_scratch0) (Memref.isWhole_whole _) (Memref.whole cc0_scratch1) (Memref.isWhole_whole _) cc0_scratch2 cc0_scoped0 cc0_scoped1 cc0_scoped2 cc0_scoped3 cc0_scoped4 cc0_scoped5)
      (fun _ => iprop((∃ W', ⌜∀ p ∈ W', p ∈ Wt ∨ p.2 = none⌝ ∗ owes (V d (cV L) (jV L)) O W')
        ∗ winAt d L (Memref.whole main_indices_scv) fi
        ∗ tabAt d L (Memref.whole main_v6_scv) q f0
        ∗ tabAt d L (Memref.whole main_v8_scv) q f1
        ∗ tabAt d L (Memref.whole main_v10_scv) q f2
        ∗ tabAt d L (Memref.whole main_v12_scv) q f3
        ∗ tabAt d L (Memref.whole main_v14_scv) q f4
        ∗ (∃ g, ⌜(win L (Memref.whole main_v15_0_scv)).view.read (Elt F) g = gat f0 ((win L (Memref.whole main_indices_scv)).view.read (Elt F) fi)⌝ ∗ winAt d L (Memref.whole main_v15_0_scv) g)
        ∗ (∃ g, ⌜(win L (Memref.whole main_v15_1_scv)).view.read (Elt F) g = gat f1 ((win L (Memref.whole main_indices_scv)).view.read (Elt F) fi)⌝ ∗ winAt d L (Memref.whole main_v15_1_scv) g)
        ∗ (∃ g, ⌜(win L (Memref.whole main_v15_2_scv)).view.read (Elt F) g = gat f2 ((win L (Memref.whole main_indices_scv)).view.read (Elt F) fi)⌝ ∗ winAt d L (Memref.whole main_v15_2_scv) g)
        ∗ (∃ g, ⌜(win L (Memref.whole main_v15_3_scv)).view.read (Elt F) g = gat f3 ((win L (Memref.whole main_indices_scv)).view.read (Elt F) fi)⌝ ∗ winAt d L (Memref.whole main_v15_3_scv) g)
        ∗ (∃ g, ⌜(win L (Memref.whole main_v15_4_scv)).view.read (Elt F) g = gat f4 ((win L (Memref.whole main_indices_scv)).view.read (Elt F) fi)⌝ ∗ winAt d L (Memref.whole main_v15_4_scv) g)
        ∗ (∃ f, scrAt d L (Memref.whole cc0_scratch0) f)
        ∗ (∃ f, scrAt d L (Memref.whole cc0_scratch1) f)
        ∗ cell0 d L cc0_scratch2
        ∗ cell0 d L cc0_scoped0
        ∗ cell0 d L cc0_scoped1
        ∗ cell0 d L cc0_scoped2
        ∗ cell0 d L cc0_scoped3
        ∗ cell0 d L cc0_scoped4
        ∗ cell0 d L cc0_scoped5)) : sProp 𝕄) := by
  simp only [cc0__gather_body_eq_skeleton]; unfold cc0__gather_body_skel
  simp only [k0_part1_eq_skeleton]; unfold k0_part1_skel
  iintro ⟨#Hmw, HO, Hi, T0, T1, T2, T3, T4, O0, O1, O2, O3, O4, Hs, Hr, S0, S1, S2, S3, S4, S5, S6⟩
  sl_exec
  have hin' : ∀ x, ((Memref.whole cc0_scratch0).view.read (Elt F) (View.write (Elt F) (Memref.whole cc0_scratch0).view fs (tile.sl.dma0 L fi) Finset.univ) x).toNat < 20000 := by
    intro x
    rw [View.write_whole_univ]
    simp only [Memref.view_whole, View.read_whole]
    exact hin x
  sl_exec
  sl_step
  have eix : (Memref.whole cc0_scratch0).view.read (Elt F) (View.write (Elt F) (Memref.whole cc0_scratch0).view fs (tile.sl.dma0 L fi) Finset.univ)
      = (win L (Memref.whole main_indices_scv)).view.read (Elt F) fi := by
    rw [View.write_whole_univ]
    simp only [Memref.view_whole, View.read_whole]
    rfl
  have h0 : (win L (Memref.whole main_v15_0_scv)).view.read (Elt F) ((win L (Memref.whole main_v15_0_scv)).view.writes (Elt F) g0 [⟨Rect.whole S64, tile.sl.dma0_1 L fi f0 fs fr hin'⟩])
      = gat f0 ((win L (Memref.whole main_indices_scv)).view.read (Elt F) fi) := by

    refine (read_whole_cons _ _ _ _).trans ?_
    unfold tile.sl.dma0_1

    show View.read _ _ _ = _
    refine (read_whole_cons _ _ _ _).trans ?_
    unfold tile.sl.gather0
    refine (gatherPayload_eq _ _ hin').trans ?_
    rw [eix, read_all]; rfl

  have h1 : (win L (Memref.whole main_v15_1_scv)).view.read (Elt F) ((win L (Memref.whole main_v15_1_scv)).view.writes (Elt F) g1 [⟨Rect.whole S64, tile.sl.dma0_2 L fi f0 f1 fs fr hin'⟩])
      = gat f1 ((win L (Memref.whole main_indices_scv)).view.read (Elt F) fi) := by
    refine (read_whole_cons _ _ _ _).trans ?_
    unfold tile.sl.dma0_2
    show View.read _ _ _ = _
    refine (read_whole_cons _ _ _ _).trans ?_
    unfold tile.sl.gather2
    refine (gatherPayload_eq _ _ hin').trans ?_
    rw [eix, read_all]; rfl

  have h2 : (win L (Memref.whole main_v15_2_scv)).view.read (Elt F) ((win L (Memref.whole main_v15_2_scv)).view.writes (Elt F) g2 [⟨Rect.whole S64, tile.sl.dma0_3 L fi f0 f1 f2 fs fr hin'⟩])
      = gat f2 ((win L (Memref.whole main_indices_scv)).view.read (Elt F) fi) := by
    refine (read_whole_cons _ _ _ _).trans ?_
    unfold tile.sl.dma0_3
    show View.read _ _ _ = _
    refine (read_whole_cons _ _ _ _).trans ?_
    unfold tile.sl.gather4
    refine (gatherPayload_eq _ _ hin').trans ?_
    rw [eix, read_all]; rfl

  have h3 : (win L (Memref.whole main_v15_3_scv)).view.read (Elt F) ((win L (Memref.whole main_v15_3_scv)).view.writes (Elt F) g3 [⟨Rect.whole S64, tile.sl.dma0_4 L fi f0 f1 f2 f3 fs fr hin'⟩])
      = gat f3 ((win L (Memref.whole main_indices_scv)).view.read (Elt F) fi) := by
    refine (read_whole_cons _ _ _ _).trans ?_
    unfold tile.sl.dma0_4
    show View.read _ _ _ = _
    refine (read_whole_cons _ _ _ _).trans ?_
    unfold tile.sl.gather6
    refine (gatherPayload_eq _ _ hin').trans ?_
    rw [eix, read_all]; rfl

  have h4 : (win L (Memref.whole main_v15_4_scv)).view.read (Elt F) ((win L (Memref.whole main_v15_4_scv)).view.writes (Elt F) g4 [⟨Rect.whole S64, tile.sl.dma0_5 L fi f0 f1 f2 f3 f4 fs fr hin'⟩])
      = gat f4 ((win L (Memref.whole main_indices_scv)).view.read (Elt F) fi) := by
    refine (read_whole_cons _ _ _ _).trans ?_
    unfold tile.sl.dma0_5
    show View.read _ _ _ = _
    refine (read_whole_cons _ _ _ _).trans ?_
    unfold tile.sl.gather8
    refine (gatherPayload_eq _ _ hin').trans ?_
    rw [eix, read_all]; rfl

  isplitl [HO]
  · iexists _; isplitr; swap; · iexact HO
    ipureintro; intro p hp
    simp only [Finset.mem_insert] at hp
    rcases hp with hp | hp | hp | hp | hp | hp | hp | hp | hp | hp | hp | hp
    all_goals first | exact .inr (hp ▸ rfl) | exact .inl hp
  isplitl [Hi]; · iexact Hi
  isplitl [T0]; · iexact T0
  isplitl [T1]; · iexact T1
  isplitl [T2]; · iexact T2
  isplitl [T3]; · iexact T3
  isplitl [T4]; · iexact T4
  isplitl [O0]; · iexists _; isplitr; swap; · iexact O0
                  ipureintro; exact h0
  isplitl [O1]; · iexists _; isplitr; swap; · iexact O1
                  ipureintro; exact h1
  isplitl [O2]; · iexists _; isplitr; swap; · iexact O2
                  ipureintro; exact h2
  isplitl [O3]; · iexists _; isplitr; swap; · iexact O3
                  ipureintro; exact h3
  isplitl [O4]; · iexists _; isplitr; swap; · iexact O4
                  ipureintro; exact h4
  isplitl [Hs]; · iexists _; iexact Hs
  isplitl [Hr]; · iexists _; iexact Hr
  isplitl [S0]; · iexact S0
  isplitl [S1]; · iexact S1
  isplitl [S2]; · iexact S2
  isplitl [S3]; · iexact S3
  isplitl [S4]; · iexact S4
  isplitl [S5]; · iexact S5
  iexact S6

end Cert.Proof.Tile

end
-- ==== Proof.Gather.lean ====
/-
  The SparseCore call: how its operands split over the thirty-two tiles, what each tile brings back, and what the call
  leaves: each result is its table's rows at the indices.
-/
module

public import proofs.«01_k».proof.Proof.Tile

@[expose] public section

noncomputable section

namespace Cert.Proof.Tile

open Cert.KernelIdeal Cert.KernelIdeal.Gen

open Idealize.ShloMosaic Idealize.ShloMosaic.TcCoe Idealize.ShloMosaic.Tactic
open Idealize.ShloMosaic.SparseCore (S V)
open Idealize.ShloMosaic.ShareLeaves (leaf pointsTo_leaves)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The program as the launch theorem sees it -/

abbrev ΛP : Labels := Pipeline.Sig Λ₀ (Fin 1) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱 : Variants := 𝒱₀.lift
abbrev v₀ : 𝒱.V := Sum.inl none
abbrev EH : Emb UH (MT nD τ sig (HIx 1) (Elt F) ℕ UU ℕ) := embL

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The windows and the shares -/

def co (c : Fin 2) (s : Fin 16) : grid0.Coords :=
  fun | 0 => c | 1 => s | ⟨_ + 2, h⟩ => absurd h (Nat.not_lt.2 (Nat.le_add_left _ _))

abbrev wset (L : grid0.Coords) : Finset S2048.Idx := (winRect L).set

theorem off_co : ∀ (c : Fin 2) (s : Fin 16), k0_off1 (co c s) 0 = (2 * s.val + c.val) * 64 := by decide +kernel

theorem mem_wset (c : Fin 2) (s : Fin 16) (x : S2048.Idx) : x ∈ wset (co c s) ↔ (x 0).val / 64 = 2 * s.val + c.val := by
  rw [Rect.mem_set_unit]
  have h := off_co c s
  constructor
  · intro hx
    have := hx 0
    have h2 : S64.size 0 = 64 := rfl
    omega
  · intro hx a
    match a with
    | 0 =>
      have h2 : S64.size 0 = 64 := rfl
      show k0_off1 (co c s) 0 ≤ (x 0).val ∧ (x 0).val < k0_off1 (co c s) 0 + S64.size 0
      omega

theorem wset_disjoint : ∀ p ∈ (Finset.univ : Finset (Fin 2 × Fin 16)), ∀ p' ∈ (Finset.univ : Finset (Fin 2 × Fin 16)), p ≠ p' →
    Disjoint (wset (co p.1 p.2)) (wset (co p'.1 p'.2)) := by
  intro p _ p' _ hne
  refine Finset.disjoint_left.mpr fun x hx hx' => hne ?_
  rw [mem_wset] at hx hx'
  refine Prod.ext (Fin.ext ?_) (Fin.ext ?_) <;> omega

theorem wset_cover : (Finset.univ : Finset (Fin 2 × Fin 16)).biUnion (fun p => wset (co p.1 p.2)) = Finset.univ := by
  refine Finset.eq_univ_of_forall fun x => ?_
  have hx : (x 0).val < 2048 := (x 0).isLt
  refine Finset.mem_biUnion.mpr ⟨(⟨(x 0).val / 64 % 2, by omega⟩, ⟨(x 0).val / 64 / 2, by omega⟩), Finset.mem_univ _, ?_⟩
  rw [mem_wset]; dsimp only; omega

/-- A whole buffer is its windows, given that they are disjoint and cover it. -/
theorem windows {ℓ : Loc nD τ sig} (W : Fin 2 × Fin 16 → Finset (Idx ℓ))
    (hd : ∀ p ∈ (Finset.univ : Finset (Fin 2 × Fin 16)), ∀ p' ∈ (Finset.univ : Finset (Fin 2 × Fin 16)), p ≠ p' → Disjoint (W p) (W p'))
    (hc : Finset.univ.biUnion W = Finset.univ) (f : Buf (Elt F) ℓ) :
    (ℓ ↦{fullShare} f : sProp 𝕄) = bigSep Finset.univ fun c : Fin 2 => bigSep Finset.univ fun s : Fin 16 => ℓ ↦[W (c, s)]{fullShare} f := by
  rw [← bigSep_univ_prod (fun p : Fin 2 × Fin 16 => (ℓ ↦[W p]{fullShare} f : sProp 𝕄)), ← pointsTo_biUnion Finset.univ W hd, hc]

/-- A tile's share of a table. -/
def wid : Fin 2 × Fin 16 ≃ Fin (2 ^ 5) := finProdFinEquiv.trans (finCongr (by decide))
def shr (c : Fin 2) (s : Fin 16) : PosShare TreeShare := leaf 5 fullShare (wid (c, s))

theorem shares {ℓ : Loc nD τ sig} (f : Buf (Elt F) ℓ) :
    (ℓ ↦{fullShare} f : sProp 𝕄) = bigSep Finset.univ fun c : Fin 2 => bigSep Finset.univ fun s : Fin 16 => ℓ ↦{shr c s} f := by
  rw [pointsTo_leaves Finset.univ f 5 fullShare, bigSep_univ_equiv wid, bigSep_univ_prod]; rfl

/-! ## What the handshakes carry -/

variable (A : Fin 5 → Vec F S20000 .f32) (IX : Vec F S2048 .i32)

/-- What a tile takes: its window of the indices, its share of every table, its window of every result. -/
def goRes (d : Dev nD) (c : Fin 2) (s : Fin 16) : sProp 𝕄 :=
  iprop(((SparseCore.T d).loc main_indices ↦[wset (co c s)]{fullShare} IX)
    ∗ ((SparseCore.T d).loc main_v6 ↦{shr c s} A 0)
    ∗ ((SparseCore.T d).loc main_v8 ↦{shr c s} A 1)
    ∗ ((SparseCore.T d).loc main_v10 ↦{shr c s} A 2)
    ∗ ((SparseCore.T d).loc main_v12 ↦{shr c s} A 3)
    ∗ ((SparseCore.T d).loc main_v14 ↦{shr c s} A 4)
    ∗ (∃ f, (SparseCore.T d).loc main_v15_0 ↦[wset (co c s)]{fullShare} f)
    ∗ (∃ f, (SparseCore.T d).loc main_v15_1 ↦[wset (co c s)]{fullShare} f)
    ∗ (∃ f, (SparseCore.T d).loc main_v15_2 ↦[wset (co c s)]{fullShare} f)
    ∗ (∃ f, (SparseCore.T d).loc main_v15_3 ↦[wset (co c s)]{fullShare} f)
    ∗ (∃ f, (SparseCore.T d).loc main_v15_4 ↦[wset (co c s)]{fullShare} f))

/-- What it brings back: the results' windows hold the tables' rows at the indices. -/
def tdRes (d : Dev nD) (c : Fin 2) (s : Fin 16) : sProp 𝕄 :=
  iprop(((SparseCore.T d).loc main_indices ↦[wset (co c s)]{fullShare} IX)
    ∗ ((SparseCore.T d).loc main_v6 ↦{shr c s} A 0)
    ∗ ((SparseCore.T d).loc main_v8 ↦{shr c s} A 1)
    ∗ ((SparseCore.T d).loc main_v10 ↦{shr c s} A 2)
    ∗ ((SparseCore.T d).loc main_v12 ↦{shr c s} A 3)
    ∗ ((SparseCore.T d).loc main_v14 ↦{shr c s} A 4)
    ∗ ((SparseCore.T d).loc main_v15_0 ↦[wset (co c s)]{fullShare} gat (A 0) IX)
    ∗ ((SparseCore.T d).loc main_v15_1 ↦[wset (co c s)]{fullShare} gat (A 1) IX)
    ∗ ((SparseCore.T d).loc main_v15_2 ↦[wset (co c s)]{fullShare} gat (A 2) IX)
    ∗ ((SparseCore.T d).loc main_v15_3 ↦[wset (co c s)]{fullShare} gat (A 3) IX)
    ∗ ((SparseCore.T d).loc main_v15_4 ↦[wset (co c s)]{fullShare} gat (A 4) IX))

set_option synthInstance.maxHeartbeats 400000 in
instance goRes_storable (d : Dev nD) (c : Fin 2) (s : Fin 16) : BI.Storable (upEmb : UEmb _ 𝕄) (goRes A IX d c s) := by
  unfold goRes; infer_instance
set_option synthInstance.maxHeartbeats 400000 in
instance tdRes_storable (d : Dev nD) (c : Fin 2) (s : Fin 16) : BI.Storable (upEmb : UEmb _ 𝕄) (tdRes A IX d c s) := by
  unfold tdRes; infer_instance

def P : (K (F := F)).Pay (nD := nD) (Val := Elt F) (Name := ℕ) (U := UU) where
  st := fun q d c => match q with | 0 => bigSep Finset.univ fun s => goRes A IX d (Fin.cast nCore_zero c) s
  dn := fun q d c => match q with | 0 => bigSep Finset.univ fun s => tdRes A IX d (Fin.cast nCore_zero c) s
  go := fun q d c s => match q with | 0 => goRes A IX d (Fin.cast nCore_zero c) (Fin.cast nSub_zero s)
  td := fun q d c s => match q with | 0 => tdRes A IX d (Fin.cast nCore_zero c) (Fin.cast nSub_zero s)
  x := fun _ _ => iprop(emp)

instance P_storable : (P (F := F) A IX).IsStorable where
  st q d c := match q with
    | 0 => (inferInstance : BI.Storable (upEmb : UEmb _ 𝕄) (bigSep Finset.univ fun s => goRes A IX d (Fin.cast nCore_zero c) s))
  dn q d c := match q with
    | 0 => (inferInstance : BI.Storable (upEmb : UEmb _ 𝕄) (bigSep Finset.univ fun s => tdRes A IX d (Fin.cast nCore_zero c) s))
  go q d c s := match q with
    | 0 => goRes_storable A IX d (Fin.cast nCore_zero c) (Fin.cast nSub_zero s)
  td q d c s := match q with
    | 0 => tdRes_storable A IX d (Fin.cast nCore_zero c) (Fin.cast nSub_zero s)

theorem vecSplit : (K (F := F)).VecSplit' (P A IX) 0 := by
  intro d c
  show (bigSep Finset.univ fun s => goRes A IX d (Fin.cast nCore_zero c) s) ⊢ |={Set.univ}=> iprop(
    (bigSep Finset.univ fun s : Fin ((K (F := F)).nSub 0) => goRes A IX d (Fin.cast nCore_zero c) (Fin.cast nSub_zero s))
    ∗ ((bigSep Finset.univ fun s : Fin ((K (F := F)).nSub 0) => tdRes A IX d (Fin.cast nCore_zero c) (Fin.cast nSub_zero s))
      -∗ bigSep Finset.univ fun s => tdRes A IX d (Fin.cast nCore_zero c) s))
  iintro H; imodintro
  isplitl [H]; · iexact H
  iintro H; iexact H

/-- What the call takes whole, and what it leaves. -/
def callPre (d : Dev nD) : sProp 𝕄 :=
  iprop(((SparseCore.T d).loc main_indices ↦{fullShare} IX)
    ∗ ((SparseCore.T d).loc main_v6 ↦{fullShare} A 0)
    ∗ ((SparseCore.T d).loc main_v8 ↦{fullShare} A 1)
    ∗ ((SparseCore.T d).loc main_v10 ↦{fullShare} A 2)
    ∗ ((SparseCore.T d).loc main_v12 ↦{fullShare} A 3)
    ∗ ((SparseCore.T d).loc main_v14 ↦{fullShare} A 4)
    ∗ (∃ f, (SparseCore.T d).loc main_v15_0 ↦{fullShare} f)
    ∗ (∃ f, (SparseCore.T d).loc main_v15_1 ↦{fullShare} f)
    ∗ (∃ f, (SparseCore.T d).loc main_v15_2 ↦{fullShare} f)
    ∗ (∃ f, (SparseCore.T d).loc main_v15_3 ↦{fullShare} f)
    ∗ (∃ f, (SparseCore.T d).loc main_v15_4 ↦{fullShare} f))
def callPost (d : Dev nD) : sProp 𝕄 :=
  iprop(((SparseCore.T d).loc main_indices ↦{fullShare} IX)
    ∗ ((SparseCore.T d).loc main_v6 ↦{fullShare} A 0)
    ∗ ((SparseCore.T d).loc main_v8 ↦{fullShare} A 1)
    ∗ ((SparseCore.T d).loc main_v10 ↦{fullShare} A 2)
    ∗ ((SparseCore.T d).loc main_v12 ↦{fullShare} A 3)
    ∗ ((SparseCore.T d).loc main_v14 ↦{fullShare} A 4)
    ∗ ((SparseCore.T d).loc main_v15_0 ↦{fullShare} gat (A 0) IX)
    ∗ ((SparseCore.T d).loc main_v15_1 ↦{fullShare} gat (A 1) IX)
    ∗ ((SparseCore.T d).loc main_v15_2 ↦{fullShare} gat (A 2) IX)
    ∗ ((SparseCore.T d).loc main_v15_3 ↦{fullShare} gat (A 3) IX)
    ∗ ((SparseCore.T d).loc main_v15_4 ↦{fullShare} gat (A 4) IX))

theorem some_win {ℓ : Loc nD τ sig} {I : Finset (Idx ℓ)} (f : Buf (Elt F) ℓ) : (ℓ ↦[I]{fullShare} f : sProp 𝕄) ⊢ iprop(∃ f, ℓ ↦[I]{fullShare} f) := by
  iintro H; iexists f; iexact H

theorem st_of_callPre (d : Dev nD) :
    callPre A IX d ⊢ bigSep Finset.univ fun c : Fin ((K (F := F)).nCore 0) => (P A IX).st 0 d c := by
  show callPre A IX d ⊢ bigSep Finset.univ fun c : Fin 2 => bigSep Finset.univ fun s : Fin 16 => goRes A IX d c s
  unfold callPre goRes
  simp only [bigSep_sep']
  rw [windows (ℓ := (SparseCore.T d).loc main_indices) (fun p => wset (co p.1 p.2)) wset_disjoint wset_cover IX, shares (ℓ := (SparseCore.T d).loc main_v6) (A 0), shares (ℓ := (SparseCore.T d).loc main_v8) (A 1), shares (ℓ := (SparseCore.T d).loc main_v10) (A 2), shares (ℓ := (SparseCore.T d).loc main_v12) (A 3), shares (ℓ := (SparseCore.T d).loc main_v14) (A 4)]
  iintro ⟨Hi, H0, H1, H2, H3, H4, ⟨%f0, O0⟩, ⟨%f1, O1⟩, ⟨%f2, O2⟩, ⟨%f3, O3⟩, ⟨%f4, O4⟩⟩
  isplitl [Hi]; · iexact Hi
  isplitl [H0]; · iexact H0
  isplitl [H1]; · iexact H1
  isplitl [H2]; · iexact H2
  isplitl [H3]; · iexact H3
  isplitl [H4]; · iexact H4
  isplitl [O0]; · iapply (show ((SparseCore.T d).loc main_v15_0 ↦{fullShare} f0 : sProp 𝕄) ⊢ bigSep Finset.univ fun c : Fin 2 => bigSep Finset.univ fun s : Fin 16 => iprop(∃ f, (SparseCore.T d).loc main_v15_0 ↦[wset (co c s)]{fullShare} f) from by
      rw [windows (ℓ := (SparseCore.T d).loc main_v15_0) (fun p => wset (co p.1 p.2)) wset_disjoint wset_cover f0]
      exact bigSep_mono fun c _ => bigSep_mono fun s _ => some_win f0); iexact O0
  isplitl [O1]; · iapply (show ((SparseCore.T d).loc main_v15_1 ↦{fullShare} f1 : sProp 𝕄) ⊢ bigSep Finset.univ fun c : Fin 2 => bigSep Finset.univ fun s : Fin 16 => iprop(∃ f, (SparseCore.T d).loc main_v15_1 ↦[wset (co c s)]{fullShare} f) from by
      rw [windows (ℓ := (SparseCore.T d).loc main_v15_1) (fun p => wset (co p.1 p.2)) wset_disjoint wset_cover f1]
      exact bigSep_mono fun c _ => bigSep_mono fun s _ => some_win f1); iexact O1
  isplitl [O2]; · iapply (show ((SparseCore.T d).loc main_v15_2 ↦{fullShare} f2 : sProp 𝕄) ⊢ bigSep Finset.univ fun c : Fin 2 => bigSep Finset.univ fun s : Fin 16 => iprop(∃ f, (SparseCore.T d).loc main_v15_2 ↦[wset (co c s)]{fullShare} f) from by
      rw [windows (ℓ := (SparseCore.T d).loc main_v15_2) (fun p => wset (co p.1 p.2)) wset_disjoint wset_cover f2]
      exact bigSep_mono fun c _ => bigSep_mono fun s _ => some_win f2); iexact O2
  isplitl [O3]; · iapply (show ((SparseCore.T d).loc main_v15_3 ↦{fullShare} f3 : sProp 𝕄) ⊢ bigSep Finset.univ fun c : Fin 2 => bigSep Finset.univ fun s : Fin 16 => iprop(∃ f, (SparseCore.T d).loc main_v15_3 ↦[wset (co c s)]{fullShare} f) from by
      rw [windows (ℓ := (SparseCore.T d).loc main_v15_3) (fun p => wset (co p.1 p.2)) wset_disjoint wset_cover f3]
      exact bigSep_mono fun c _ => bigSep_mono fun s _ => some_win f3); iexact O3
  iapply (show ((SparseCore.T d).loc main_v15_4 ↦{fullShare} f4 : sProp 𝕄) ⊢ bigSep Finset.univ fun c : Fin 2 => bigSep Finset.univ fun s : Fin 16 => iprop(∃ f, (SparseCore.T d).loc main_v15_4 ↦[wset (co c s)]{fullShare} f) from by
      rw [windows (ℓ := (SparseCore.T d).loc main_v15_4) (fun p => wset (co p.1 p.2)) wset_disjoint wset_cover f4]
      exact bigSep_mono fun c _ => bigSep_mono fun s _ => some_win f4); iexact O4

theorem callPost_of_dn (d : Dev nD) :
    (bigSep Finset.univ fun c : Fin ((K (F := F)).nCore 0) => (P A IX).dn 0 d c) ⊢ callPost A IX d := by
  show (bigSep Finset.univ fun c : Fin 2 => bigSep Finset.univ fun s : Fin 16 => tdRes A IX d c s) ⊢ callPost A IX d
  unfold callPost tdRes
  simp only [bigSep_sep']
  rw [windows (ℓ := (SparseCore.T d).loc main_indices) (fun p => wset (co p.1 p.2)) wset_disjoint wset_cover IX, shares (ℓ := (SparseCore.T d).loc main_v6) (A 0), shares (ℓ := (SparseCore.T d).loc main_v8) (A 1), shares (ℓ := (SparseCore.T d).loc main_v10) (A 2), shares (ℓ := (SparseCore.T d).loc main_v12) (A 3), shares (ℓ := (SparseCore.T d).loc main_v14) (A 4),
    windows (ℓ := (SparseCore.T d).loc main_v15_0) (fun p => wset (co p.1 p.2)) wset_disjoint wset_cover (gat (A 0) IX),
    windows (ℓ := (SparseCore.T d).loc main_v15_1) (fun p => wset (co p.1 p.2)) wset_disjoint wset_cover (gat (A 1) IX),
    windows (ℓ := (SparseCore.T d).loc main_v15_2) (fun p => wset (co p.1 p.2)) wset_disjoint wset_cover (gat (A 2) IX),
    windows (ℓ := (SparseCore.T d).loc main_v15_3) (fun p => wset (co p.1 p.2)) wset_disjoint wset_cover (gat (A 3) IX),
    windows (ℓ := (SparseCore.T d).loc main_v15_4) (fun p => wset (co p.1 p.2)) wset_disjoint wset_cover (gat (A 4) IX)]

section Body

variable [FloatOps F] (d : Dev nD) (L : grid0.Coords)

omit [FloatOps F] in
theorem ownSems0_V :
    (ownSems0 (V d (cV L) (jV L)) : sProp 𝕄)
      = iprop(cell0 d L cc0_scratch2 ∗ cell0 d L cc0_scoped0 ∗ cell0 d L cc0_scoped1 ∗ cell0 d L cc0_scoped2 ∗ cell0 d L cc0_scoped3 ∗ cell0 d L cc0_scoped4 ∗ cell0 d L cc0_scoped5
          ∗ bigSep ((((((((ownCells (V d (cV L) (jV L))).erase (V d (cV L) (jV L), SemLoc.dma cc0_scratch2.sem)).erase (V d (cV L) (jV L), SemLoc.dma cc0_scoped0.sem)).erase (V d (cV L) (jV L), SemLoc.dma cc0_scoped1.sem)).erase (V d (cV L) (jV L), SemLoc.dma cc0_scoped2.sem)).erase (V d (cV L) (jV L), SemLoc.dma cc0_scoped3.sem)).erase (V d (cV L) (jV L), SemLoc.dma cc0_scoped4.sem)).erase (V d (cV L) (jV L), SemLoc.dma cc0_scoped5.sem)) fun g => semVal g 0) := by
  unfold SparseCore.Cfg.ownSems0
  rw [SparseCore.bigSep_erase' ((mem_ownCells (g := (V d (cV L) (jV L), SemLoc.dma cc0_scratch2.sem))).mpr ⟨rfl, by show (SemLoc.dma cc0_scratch2.sem : SemLoc sig).isScoped .scVector = true; decide⟩),
    SparseCore.bigSep_erase' (Finset.mem_erase.mpr ⟨fun e => absurd (congrArg Prod.snd e) (show (SemLoc.dma cc0_scoped0.sem : SemLoc sig) ≠ SemLoc.dma cc0_scratch2.sem by decide), (mem_ownCells (g := (V d (cV L) (jV L), SemLoc.dma cc0_scoped0.sem))).mpr ⟨rfl, by show (SemLoc.dma cc0_scoped0.sem : SemLoc sig).isScoped .scVector = true; decide⟩⟩),
    SparseCore.bigSep_erase' (Finset.mem_erase.mpr ⟨fun e => absurd (congrArg Prod.snd e) (show (SemLoc.dma cc0_scoped1.sem : SemLoc sig) ≠ SemLoc.dma cc0_scoped0.sem by decide), Finset.mem_erase.mpr ⟨fun e => absurd (congrArg Prod.snd e) (show (SemLoc.dma cc0_scoped1.sem : SemLoc sig) ≠ SemLoc.dma cc0_scratch2.sem by decide), (mem_ownCells (g := (V d (cV L) (jV L), SemLoc.dma cc0_scoped1.sem))).mpr ⟨rfl, by show (SemLoc.dma cc0_scoped1.sem : SemLoc sig).isScoped .scVector = true; decide⟩⟩⟩),
    SparseCore.bigSep_erase' (Finset.mem_erase.mpr ⟨fun e => absurd (congrArg Prod.snd e) (show (SemLoc.dma cc0_scoped2.sem : SemLoc sig) ≠ SemLoc.dma cc0_scoped1.sem by decide), Finset.mem_erase.mpr ⟨fun e => absurd (congrArg Prod.snd e) (show (SemLoc.dma cc0_scoped2.sem : SemLoc sig) ≠ SemLoc.dma cc0_scoped0.sem by decide), Finset.mem_erase.mpr ⟨fun e => absurd (congrArg Prod.snd e) (show (SemLoc.dma cc0_scoped2.sem : SemLoc sig) ≠ SemLoc.dma cc0_scratch2.sem by decide), (mem_ownCells (g := (V d (cV L) (jV L), SemLoc.dma cc0_scoped2.sem))).mpr ⟨rfl, by show (SemLoc.dma cc0_scoped2.sem : SemLoc sig).isScoped .scVector = true; decide⟩⟩⟩⟩),
    SparseCore.bigSep_erase' (Finset.mem_erase.mpr ⟨fun e => absurd (congrArg Prod.snd e) (show (SemLoc.dma cc0_scoped3.sem : SemLoc sig) ≠ SemLoc.dma cc0_scoped2.sem by decide), Finset.mem_erase.mpr ⟨fun e => absurd (congrArg Prod.snd e) (show (SemLoc.dma cc0_scoped3.sem : SemLoc sig) ≠ SemLoc.dma cc0_scoped1.sem by decide), Finset.mem_erase.mpr ⟨fun e => absurd (congrArg Prod.snd e) (show (SemLoc.dma cc0_scoped3.sem : SemLoc sig) ≠ SemLoc.dma cc0_scoped0.sem by decide), Finset.mem_erase.mpr ⟨fun e => absurd (congrArg Prod.snd e) (show (SemLoc.dma cc0_scoped3.sem : SemLoc sig) ≠ SemLoc.dma cc0_scratch2.sem by decide), (mem_ownCells (g := (V d (cV L) (jV L), SemLoc.dma cc0_scoped3.sem))).mpr ⟨rfl, by show (SemLoc.dma cc0_scoped3.sem : SemLoc sig).isScoped .scVector = true; decide⟩⟩⟩⟩⟩),
    SparseCore.bigSep_erase' (Finset.mem_erase.mpr ⟨fun e => absurd (congrArg Prod.snd e) (show (SemLoc.dma cc0_scoped4.sem : SemLoc sig) ≠ SemLoc.dma cc0_scoped3.sem by decide), Finset.mem_erase.mpr ⟨fun e => absurd (congrArg Prod.snd e) (show (SemLoc.dma cc0_scoped4.sem : SemLoc sig) ≠ SemLoc.dma cc0_scoped2.sem by decide), Finset.mem_erase.mpr ⟨fun e => absurd (congrArg Prod.snd e) (show (SemLoc.dma cc0_scoped4.sem : SemLoc sig) ≠ SemLoc.dma cc0_scoped1.sem by decide), Finset.mem_erase.mpr ⟨fun e => absurd (congrArg Prod.snd e) (show (SemLoc.dma cc0_scoped4.sem : SemLoc sig) ≠ SemLoc.dma cc0_scoped0.sem by decide), Finset.mem_erase.mpr ⟨fun e => absurd (congrArg Prod.snd e) (show (SemLoc.dma cc0_scoped4.sem : SemLoc sig) ≠ SemLoc.dma cc0_scratch2.sem by decide), (mem_ownCells (g := (V d (cV L) (jV L), SemLoc.dma cc0_scoped4.sem))).mpr ⟨rfl, by show (SemLoc.dma cc0_scoped4.sem : SemLoc sig).isScoped .scVector = true; decide⟩⟩⟩⟩⟩⟩),
    SparseCore.bigSep_erase' (Finset.mem_erase.mpr ⟨fun e => absurd (congrArg Prod.snd e) (show (SemLoc.dma cc0_scoped5.sem : SemLoc sig) ≠ SemLoc.dma cc0_scoped4.sem by decide), Finset.mem_erase.mpr ⟨fun e => absurd (congrArg Prod.snd e) (show (SemLoc.dma cc0_scoped5.sem : SemLoc sig) ≠ SemLoc.dma cc0_scoped3.sem by decide), Finset.mem_erase.mpr ⟨fun e => absurd (congrArg Prod.snd e) (show (SemLoc.dma cc0_scoped5.sem : SemLoc sig) ≠ SemLoc.dma cc0_scoped2.sem by decide), Finset.mem_erase.mpr ⟨fun e => absurd (congrArg Prod.snd e) (show (SemLoc.dma cc0_scoped5.sem : SemLoc sig) ≠ SemLoc.dma cc0_scoped1.sem by decide), Finset.mem_erase.mpr ⟨fun e => absurd (congrArg Prod.snd e) (show (SemLoc.dma cc0_scoped5.sem : SemLoc sig) ≠ SemLoc.dma cc0_scoped0.sem by decide), Finset.mem_erase.mpr ⟨fun e => absurd (congrArg Prod.snd e) (show (SemLoc.dma cc0_scoped5.sem : SemLoc sig) ≠ SemLoc.dma cc0_scratch2.sem by decide), (mem_ownCells (g := (V d (cV L) (jV L), SemLoc.dma cc0_scoped5.sem))).mpr ⟨rfl, by show (SemLoc.dma cc0_scoped5.sem : SemLoc sig).isScoped .scVector = true; decide⟩⟩⟩⟩⟩⟩⟩)]

omit [FloatOps F] in
/-- The two scratch buffers are among the tile's own. -/
theorem ownBufs_V :
    (ownBufs (V d (cV L) (jV L)) : sProp 𝕄)
      = iprop((∃ f, scrAt d L (Memref.whole cc0_scratch0) f) ∗ (∃ f, scrAt d L (Memref.whole cc0_scratch1) f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

omit [FloatOps F] in
theorem set_win (b : Ref sig .scVector) (r : Rect b.ty.shape) : ((View.whole b).slice r).set = r.set := by
  rw [View.set_slice]; exact Finset.map_refl

/-- The indices a window reads are the array's. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

end Body

variable [FloatOps F]

theorem pts_main_indices (d : Dev nD) (L : grid0.Coords) (f : Vec F S2048 .i32) :
    (winAt d L (Memref.whole main_indices_scv) f : sProp 𝕄) = (SparseCore.T d).loc main_indices ↦[wset L]{fullShare} f := by
  show ((SparseCore.T d).loc main_indices ↦[((View.whole main_indices_scv).slice (winRect L)).set]{fullShare} f : sProp 𝕄) = _
  rw [set_win]

theorem pts_main_v15_0 (d : Dev nD) (L : grid0.Coords) (f : Vec F S2048 .f32) :
    (winAt d L (Memref.whole main_v15_0_scv) f : sProp 𝕄) = (SparseCore.T d).loc main_v15_0 ↦[wset L]{fullShare} f := by
  show ((SparseCore.T d).loc main_v15_0 ↦[((View.whole main_v15_0_scv).slice (winRect L)).set]{fullShare} f : sProp 𝕄) = _
  rw [set_win]

theorem pts_main_v15_1 (d : Dev nD) (L : grid0.Coords) (f : Vec F S2048 .f32) :
    (winAt d L (Memref.whole main_v15_1_scv) f : sProp 𝕄) = (SparseCore.T d).loc main_v15_1 ↦[wset L]{fullShare} f := by
  show ((SparseCore.T d).loc main_v15_1 ↦[((View.whole main_v15_1_scv).slice (winRect L)).set]{fullShare} f : sProp 𝕄) = _
  rw [set_win]

theorem pts_main_v15_2 (d : Dev nD) (L : grid0.Coords) (f : Vec F S2048 .f32) :
    (winAt d L (Memref.whole main_v15_2_scv) f : sProp 𝕄) = (SparseCore.T d).loc main_v15_2 ↦[wset L]{fullShare} f := by
  show ((SparseCore.T d).loc main_v15_2 ↦[((View.whole main_v15_2_scv).slice (winRect L)).set]{fullShare} f : sProp 𝕄) = _
  rw [set_win]

theorem pts_main_v15_3 (d : Dev nD) (L : grid0.Coords) (f : Vec F S2048 .f32) :
    (winAt d L (Memref.whole main_v15_3_scv) f : sProp 𝕄) = (SparseCore.T d).loc main_v15_3 ↦[wset L]{fullShare} f := by
  show ((SparseCore.T d).loc main_v15_3 ↦[((View.whole main_v15_3_scv).slice (winRect L)).set]{fullShare} f : sProp 𝕄) = _
  rw [set_win]

theorem pts_main_v15_4 (d : Dev nD) (L : grid0.Coords) (f : Vec F S2048 .f32) :
    (winAt d L (Memref.whole main_v15_4_scv) f : sProp 𝕄) = (SparseCore.T d).loc main_v15_4 ↦[wset L]{fullShare} f := by
  show ((SparseCore.T d).loc main_v15_4 ↦[((View.whole main_v15_4_scv).slice (winRect L)).set]{fullShare} f : sProp 𝕄) = _
  rw [set_win]

theorem out_0 (d : Dev nD) (L : grid0.Coords) (B : Vec F S20000 .f32) (g : Vec F S2048 .f32)
    (hg : (win L (Memref.whole main_v15_0_scv)).view.read (Elt F) g = gat B ((win L (Memref.whole main_indices_scv)).view.read (Elt F) IX)) :
    (winAt d L (Memref.whole main_v15_0_scv) g : sProp 𝕄) = (SparseCore.T d).loc main_v15_0 ↦[wset L]{fullShare} gat B IX := by
  rw [pts_main_v15_0]
  refine pointsTo_congr fun x hx => ?_
  obtain ⟨y, rfl⟩ := (winRect L).exists_idx_of_mem hx
  exact congrFun hg y

theorem out_1 (d : Dev nD) (L : grid0.Coords) (B : Vec F S20000 .f32) (g : Vec F S2048 .f32)
    (hg : (win L (Memref.whole main_v15_1_scv)).view.read (Elt F) g = gat B ((win L (Memref.whole main_indices_scv)).view.read (Elt F) IX)) :
    (winAt d L (Memref.whole main_v15_1_scv) g : sProp 𝕄) = (SparseCore.T d).loc main_v15_1 ↦[wset L]{fullShare} gat B IX := by
  rw [pts_main_v15_1]
  refine pointsTo_congr fun x hx => ?_
  obtain ⟨y, rfl⟩ := (winRect L).exists_idx_of_mem hx
  exact congrFun hg y

theorem out_2 (d : Dev nD) (L : grid0.Coords) (B : Vec F S20000 .f32) (g : Vec F S2048 .f32)
    (hg : (win L (Memref.whole main_v15_2_scv)).view.read (Elt F) g = gat B ((win L (Memref.whole main_indices_scv)).view.read (Elt F) IX)) :
    (winAt d L (Memref.whole main_v15_2_scv) g : sProp 𝕄) = (SparseCore.T d).loc main_v15_2 ↦[wset L]{fullShare} gat B IX := by
  rw [pts_main_v15_2]
  refine pointsTo_congr fun x hx => ?_
  obtain ⟨y, rfl⟩ := (winRect L).exists_idx_of_mem hx
  exact congrFun hg y

theorem out_3 (d : Dev nD) (L : grid0.Coords) (B : Vec F S20000 .f32) (g : Vec F S2048 .f32)
    (hg : (win L (Memref.whole main_v15_3_scv)).view.read (Elt F) g = gat B ((win L (Memref.whole main_indices_scv)).view.read (Elt F) IX)) :
    (winAt d L (Memref.whole main_v15_3_scv) g : sProp 𝕄) = (SparseCore.T d).loc main_v15_3 ↦[wset L]{fullShare} gat B IX := by
  rw [pts_main_v15_3]
  refine pointsTo_congr fun x hx => ?_
  obtain ⟨y, rfl⟩ := (winRect L).exists_idx_of_mem hx
  exact congrFun hg y

theorem out_4 (d : Dev nD) (L : grid0.Coords) (B : Vec F S20000 .f32) (g : Vec F S2048 .f32)
    (hg : (win L (Memref.whole main_v15_4_scv)).view.read (Elt F) g = gat B ((win L (Memref.whole main_indices_scv)).view.read (Elt F) IX)) :
    (winAt d L (Memref.whole main_v15_4_scv) g : sProp 𝕄) = (SparseCore.T d).loc main_v15_4 ↦[wset L]{fullShare} gat B IX := by
  rw [pts_main_v15_4]
  refine pointsTo_congr fun x hx => ?_
  obtain ⟨y, rfl⟩ := (winRect L).exists_idx_of_mem hx
  exact congrFun hg y

set_option maxHeartbeats 2000000 in
/-- The tile's run, from what its handshake carries. -/
theorem tile_body (hix : ∀ x, (IX x).toNat < 20000) (d : Dev nD) (c : Fin 2) (s : Fin 16) (O : CellTallies nD τ sig (HIx 1)) (W : Waits sig (HIx 1)) (hO : ∀ g, O g none = 0) :
    iprop(levAts (K (F := F)).L (K (F := F)).lev ∗ emp ∗ goRes A IX d c s
        ∗ scopedBufs (V d (cV (co c s)) (jV (co c s))) ∗ scopedSems0 (V d (cV (co c s)) (jV (co c s))) ∗ owes (V d (cV (co c s)) (jV (co c s))) O W)
      ⊢ (wp frame (wpE (defs₀ (F := F)) 𝒱₀ (V d (cV (co c s)) (jV (co c s))) none) Set.univ
          (cc0__gather_body (co c s) (Memref.whole main_v6_scv) (Memref.isWhole_whole _) (Memref.whole main_v8_scv) (Memref.isWhole_whole _) (Memref.whole main_v10_scv) (Memref.isWhole_whole _) (Memref.whole main_v12_scv) (Memref.isWhole_whole _) (Memref.whole main_v14_scv) (Memref.isWhole_whole _) (Memref.whole main_indices_scv) (Memref.isWhole_whole _) (Memref.whole main_v15_0_scv) (Memref.isWhole_whole _) (Memref.whole main_v15_1_scv) (Memref.isWhole_whole _) (Memref.whole main_v15_2_scv) (Memref.isWhole_whole _) (Memref.whole main_v15_3_scv) (Memref.isWhole_whole _) (Memref.whole main_v15_4_scv) (Memref.isWhole_whole _) (Memref.whole cc0_scratch0) (Memref.isWhole_whole _) (Memref.whole cc0_scratch1) (Memref.isWhole_whole _) cc0_scratch2 cc0_scoped0 cc0_scoped1 cc0_scoped2 cc0_scoped3 cc0_scoped4 cc0_scoped5)
          (fun _ => iprop(tdRes A IX d c s
            ∗ scopedBufs (V d (cV (co c s)) (jV (co c s))) ∗ scopedSems0 (V d (cV (co c s)) (jV (co c s)))
            ∗ ∃ W', ⌜∀ p ∈ W', p ∈ W ∨ p.2 = none⌝ ∗ owes (V d (cV (co c s)) (jV (co c s))) O W')) : sProp 𝕄) := by
  rw [(K (F := F)).scopedBufs_V facts d (cV (co c s)) (jV (co c s)), SparseCore.Cfg.scopedSems0_V (Val := Elt F) d (cV (co c s)) (jV (co c s)), ownSems0_V, ownBufs_V]
  unfold goRes tdRes
  iintro ⟨#Hlv, -, ⟨Hi, T0, T1, T2, T3, T4, ⟨%g0, O0⟩, ⟨%g1, O1⟩, ⟨%g2, O2⟩, ⟨%g3, O3⟩, ⟨%g4, O4⟩⟩, ⟨⟨%fs, Hs⟩, ⟨%fr, Hr⟩, Hbufs⟩, ⟨S0, S1, S2, S3, S4, S5, S6, Hsems⟩, HO⟩
  ihave Hmw := (show levAts (K (F := F)).L (K (F := F)).lev ⊢ Transfers.MayWaits (V d (cV (co c s)) (jV (co c s))) (default : HIx 1) O from
    (K (F := F)).mayWaits_none (thr := V d (cV (co c s)) (jV (co c s))) hO) $$ Hlv
  iapply (wp_wand_r frame _ Set.univ)
  isplitl [Hmw HO Hi T0 T1 T2 T3 T4 O0 O1 O2 O3 O4 Hs Hr S0 S1 S2 S3 S4 S5 S6]
  · iapply (tile d (co c s) (shr c s) O W IX (A 0) (A 1) (A 2) (A 3) (A 4) g0 g1 g2 g3 g4 fs fr ?hin)
    case hin => intro x; exact hix _
    isplitl [Hmw]; · iexact Hmw
    isplitl [HO]; · iexact HO
    isplitl [Hi]; · iapply (Entails.of_eq (pts_main_indices d (co c s) IX).symm); iexact Hi
    isplitl [T0]; · iexact T0
    isplitl [T1]; · iexact T1
    isplitl [T2]; · iexact T2
    isplitl [T3]; · iexact T3
    isplitl [T4]; · iexact T4
    isplitl [O0]; · iapply (Entails.of_eq (pts_main_v15_0 d (co c s) g0).symm); iexact O0
    isplitl [O1]; · iapply (Entails.of_eq (pts_main_v15_1 d (co c s) g1).symm); iexact O1
    isplitl [O2]; · iapply (Entails.of_eq (pts_main_v15_2 d (co c s) g2).symm); iexact O2
    isplitl [O3]; · iapply (Entails.of_eq (pts_main_v15_3 d (co c s) g3).symm); iexact O3
    isplitl [O4]; · iapply (Entails.of_eq (pts_main_v15_4 d (co c s) g4).symm); iexact O4
    isplitl [Hs]; · iexact Hs
    isplitl [Hr]; · iexact Hr
    isplitl [S0]; · iexact S0
    isplitl [S1]; · iexact S1
    isplitl [S2]; · iexact S2
    isplitl [S3]; · iexact S3
    isplitl [S4]; · iexact S4
    isplitl [S5]; · iexact S5
    iexact S6
  iintro %_ ⟨HO, Hi, T0, T1, T2, T3, T4, ⟨%g0, %h0, O0⟩, ⟨%g1, %h1, O1⟩, ⟨%g2, %h2, O2⟩, ⟨%g3, %h3, O3⟩, ⟨%g4, %h4, O4⟩, Hs, Hr, S0, S1, S2, S3, S4, S5, S6⟩
  isplitl [Hi T0 T1 T2 T3 T4 O0 O1 O2 O3 O4]
  · isplitl [Hi]; · iapply (Entails.of_eq (pts_main_indices d (co c s) IX)); iexact Hi
    isplitl [T0]; · iexact T0
    isplitl [T1]; · iexact T1
    isplitl [T2]; · iexact T2
    isplitl [T3]; · iexact T3
    isplitl [T4]; · iexact T4
    isplitl [O0]; · iapply (Entails.of_eq (out_0 IX d (co c s) (A 0) g0 h0)); iexact O0
    isplitl [O1]; · iapply (Entails.of_eq (out_1 IX d (co c s) (A 1) g1 h1)); iexact O1
    isplitl [O2]; · iapply (Entails.of_eq (out_2 IX d (co c s) (A 2) g2 h2)); iexact O2
    isplitl [O3]; · iapply (Entails.of_eq (out_3 IX d (co c s) (A 3) g3 h3)); iexact O3
    iapply (Entails.of_eq (out_4 IX d (co c s) (A 4) g4 h4)); iexact O4
  isplitl [Hs Hr Hbufs]
  · isplitl [Hs]; · iexact Hs
    isplitl [Hr]; · iexact Hr
    iexact Hbufs
  isplitr [HO]
  · isplitl [S0]; · iexact S0
    isplitl [S1]; · iexact S1
    isplitl [S2]; · iexact S2
    isplitl [S3]; · iexact S3
    isplitl [S4]; · iexact S4
    isplitl [S5]; · iexact S5
    isplitl [S6]; · iexact S6
    iexact Hsems
  iexact HO

theorem defs₀_vector (c : Fin τ.nSC) (s : Fin τ.nSub) :
    defs₀ (F := F) (.scVector c s) 0 ()
      = SparseCore.onTile hcore0 hsub0 (fun c s => cc0__gather_body (co c s) (Memref.whole main_v6_scv) (Memref.isWhole_whole _) (Memref.whole main_v8_scv) (Memref.isWhole_whole _) (Memref.whole main_v10_scv) (Memref.isWhole_whole _) (Memref.whole main_v12_scv) (Memref.isWhole_whole _) (Memref.whole main_v14_scv) (Memref.isWhole_whole _) (Memref.whole main_indices_scv) (Memref.isWhole_whole _) (Memref.whole main_v15_0_scv) (Memref.isWhole_whole _) (Memref.whole main_v15_1_scv) (Memref.isWhole_whole _) (Memref.whole main_v15_2_scv) (Memref.isWhole_whole _) (Memref.whole main_v15_3_scv) (Memref.isWhole_whole _) (Memref.whole main_v15_4_scv) (Memref.isWhole_whole _) (Memref.whole cc0_scratch0) (Memref.isWhole_whole _) (Memref.whole cc0_scratch1) (Memref.isWhole_whole _) cc0_scratch2 cc0_scoped0 cc0_scoped1 cc0_scoped2 cc0_scoped3 cc0_scoped4 cc0_scoped5) ⟨⟩ c s := rfl

set_option maxRecDepth 16384 in
theorem tileObl (hix : ∀ x, (IX x).toNat < 20000) : (K (F := F)).TileObl (D (F := F)) 𝒱 (P A IX) v₀ 0 := by
  intro d c i O W hO _ _
  simp only [show (P (F := F) A IX).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body A IX hix d ⟨_, hci.1⟩ ⟨_, hci.2⟩ O W hO).trans (wp_mono frame _ _ fun _ => obl_post)

end Cert.Proof.Tile

end
-- ==== Proof.Body.lean ====
/-
  The TensorCore kernel's body at one grid point, by the symbolic executor: what it leaves in its scratch buffers and in
  its result's staging buffer, as `Base`'s functions of what it finds.
-/
module

public import proofs.«01_k».proof.Proof.Base
public import Idealize.ShloMosaic.Lib.VecWindow
public import Idealize.ShloMosaic.Lib.Pipeline.FrameBody

@[expose] public section

noncomputable section

namespace Cert.Proof

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

abbrev 𝒱₀ : Variants := Variants.none

/-- A buffer held whole, in the spelling the executor reads. -/
abbrev scr (c : Dev nD) {sp : Space} {s : Shape} {e : EltTy} (m : Memref sig .tc sp s e) (f : m.view.ty.Contents (Elt F)) : sProp 𝕄 :=
  m.view.loc (c : Thread nD τ) ↦{fullShare} f

variable (c : Dev nD) (i : grid1.Coords)
  (arg1 : Memref sig .tc .vmem S16x128 .f32) (harg1 : arg1.IsWhole) (arg2 : Memref sig .tc .vmem S16x128 .f32) (harg2 : arg2.IsWhole)
  (arg3 : Memref sig .tc .vmem S16x128 .f32) (harg3 : arg3.IsWhole) (arg4 : Memref sig .tc .vmem S16x128 .f32) (harg4 : arg4.IsWhole)
  (arg5 : Memref sig .tc .vmem S16x128 .f32) (harg5 : arg5.IsWhole) (arg6 : Memref sig .tc .vmem S304x8 .f32) (harg6 : arg6.IsWhole)
  (arg7 : Memref sig .tc .vmem S16x128 .f32) (harg7 : arg7.IsWhole) (arg8 : Memref sig .tc .vmem S16x128 .f32) (harg8 : arg8.IsWhole)
  (arg9 : Memref sig .tc .vmem S16x128 .f32) (harg9 : arg9.IsWhole) (arg10 : Memref sig .tc .vmem S16x128 .f32) (harg10 : arg10.IsWhole)
  (arg11 : Memref sig .tc .vmem S16x128 .f32) (harg11 : arg11.IsWhole) (arg12 : Memref sig .tc .vmem S16x128 .f32) (harg12 : arg12.IsWhole)
  (arg13 : Memref sig .tc .smem S1 .i32) (harg13 : arg13.IsWhole)

theorem row_lt (i : grid1.Coords) : (i 0).val < 16 := (i 0).isLt

theorem trips1 : ∀ i : grid1.Coords, (k1_t1_loop i).trips = (i 0).val := by decide +kernel
theorem trips2 : ∀ i : grid1.Coords, (k1_t2_loop i).trips = 0 := by decide +kernel
theorem trips3 : k1_t3_loop.trips = 128 := by decide +kernel

theorem trips1' (i : grid1.Coords) : Scf.trips (k1_t1_loop i).lb (k1_t1_loop i).ub (k1_t1_loop i).st = (i 0).val := trips1 i
theorem trips3' : Scf.trips k1_t3_loop.lb k1_t3_loop.ub k1_t3_loop.st = 128 := trips3

theorem lt16 {i : grid1.Coords} (t : Fin (k1_t1_loop i).trips) : t.val < 16 :=
  lt_of_lt_of_le t.isLt ((trips1 i).le.trans (row_lt i).le)

/-- The row a load at `k1_off1` reads; -/
theorem read1 (m : Memref sig .tc .vmem S16x128 .f32) (f : m.view.ty.Contents (Elt F)) :
    m.view.readAt (Elt F) (Rect.unit (s := S16x128) (k1_off1 i) S1x128.size (k1_off1_inb i)).toLoadRect f = row (i 0).val (row_lt i) (m.view.read (Elt F) f) := by
  rw [View.readAt_eq_ld]
  funext j
  unfold row
  refine congrArg (m.view.read (Elt F) f) (funext fun a => Fin.ext ?_)
  match a with
  | 0 =>
    have h : (j 0).val < 1 := (j 0).isLt
    simp [k1_off1_eq]; omega
  | 1 => simp [k1_off1_eq]

/-- and at `k1_off2`. -/
theorem read2 (t : Fin (k1_t1_loop i).trips) (m : Memref sig .tc .vmem S16x128 .f32) (f : m.view.ty.Contents (Elt F)) :
    m.view.readAt (Elt F) (Rect.unit (s := S16x128) (k1_off2 i t) S1x128.size (k1_off2_inb i t)).toLoadRect f = row t.val (lt16 t) (m.view.read (Elt F) f) := by
  rw [View.readAt_eq_ld]
  funext j
  unfold row
  refine congrArg (m.view.read (Elt F) f) (funext fun a => Fin.ext ?_)
  match a with
  | 0 =>
    have h : (j 0).val < 1 := (j 0).isLt
    simp [k1_off2_eq]; omega
  | 1 => simp [k1_off2_eq]

set_option warn.classDefReducibility false in
/-- The loop over the earlier blocks. -/
@[sl_loop] def loopInv1 (arg0 : BitVec 32) (f7 : arg7.view.ty.Contents (Elt F)) (f8 : arg8.view.ty.Contents (Elt F)) (f9 : arg9.view.ty.Contents (Elt F))
    (f10 : arg10.view.ty.Contents (Elt F)) (f11 : arg11.view.ty.Contents (Elt F)) (f12 : arg12.view.ty.Contents (Elt F))
    (init : FVec F S128x1 .f32) (v16 v18 v20 v22 v24 : Vec F S1x128 .f32) :
    LoopInvTy_k1_t1 (F := F) (HIx 1) ℕ UU ℕ 𝒱₀ c none Set.univ i arg1 harg1 arg2 harg2 arg3 harg3 arg4 harg4 arg5 harg5 arg6 harg6 arg7 harg7 arg8 harg8 arg9 harg9 arg10 harg10 arg11 harg11 arg12 harg12 arg13 harg13 arg0
      v16 v18 v20 v22 v24 init where
  inv k acc := iprop(scr c arg7 f7 ∗ scr c arg8 f8 ∗ scr c arg9 f9 ∗ scr c arg10 f10 ∗ scr c arg11 f11
    ∗ scr c arg12 f12 ∗ ⌜acc = supAcc v16 v18 v20 v22 v24 (arg8.view.read (Elt F) f8) (arg9.view.read (Elt F) f9) (arg10.view.read (Elt F) f10)
      (arg11.view.read (Elt F) f11) (arg12.view.read (Elt F) f12) (arg7.view.read (Elt F) f7) init k⌝)
  step k acc := by
    unfold k1_t1_body
    iintro ⟨H7, H8, H9, H10, H11, H12, %hacc⟩
    sl_exec
    sl_step
    isplitl [H7]; · iexact H7
    isplitl [H8]; · iexact H8
    isplitl [H9]; · iexact H9
    isplitl [H10]; · iexact H10
    isplitl [H11]; · iexact H11
    isplitl [H12]; · iexact H12
    ipureintro
    rw [supAcc, dif_pos (lt16 k), ← hacc]
    unfold loopInv1.sl.r supTrip
    rw [read2 i k arg8 f8, read2 i k arg9 f9, read2 i k arg10 f10, read2 i k arg11 f11, read2 i k arg12 f12, read2 i k arg7 f7]

set_option warn.classDefReducibility false in
/-- The second loop has no trips. -/
@[sl_loop] def loopInv2 (arg0 : BitVec 32) (init : FVec F S128x1 .f32) (v16 v18 v20 v22 v24 : Vec F S1x128 .f32) (v35 : BitVec 32) :
    LoopInvTy_k1_t2 (F := F) (HIx 1) ℕ UU ℕ 𝒱₀ c none Set.univ i arg1 harg1 arg2 harg2 arg3 harg3 arg4 harg4 arg5 harg5 arg6 harg6 arg7 harg7 arg8 harg8 arg9 harg9 arg10 harg10 arg11 harg11 arg12 harg12 arg13 harg13 arg0
      v16 v18 v20 v22 v24 v35 init where
  inv k acc := iprop(⌜acc = init⌝)
  step k acc := absurd (show k.val < (k1_t2_loop i).trips from k.isLt) (by rw [trips2]; exact Nat.not_lt_zero _)

set_option warn.classDefReducibility false in
/-- The loop to the fixpoint. -/
@[sl_loop] def loopInv3 (arg0 : BitVec 32) (v24 : Vec F S1x128 .f32) (v29 v37 : FVec F S128x1 .f32) (v52 v53 : FVec F S128x128 .f32)
    (init : FVec F S1x128 .f32 × BitVec 1) :
    LoopInvTy_k1_t3 (F := F) (HIx 1) ℕ UU ℕ 𝒱₀ c none Set.univ i arg1 harg1 arg2 harg2 arg3 harg3 arg4 harg4 arg5 harg5 arg6 harg6 arg7 harg7 arg8 harg8 arg9 harg9 arg10 harg10 arg11 harg11 arg12 harg12 arg13 harg13 arg0
      (iota .tc S128x128 32 [0] iota_S128x128_d0_w32) (iota .tc S128x128 32 [1] iota_S128x128_d1_w32) (k1_pay15 (F := F)) v24 v29 v37 v52 v53 init where
  inv k acc := iprop(⌜acc = (fixTrip v24 v29 v37 v52 v53)^[k] init⌝)
  step k acc := by
    unfold k1_t3_body
    iintro %hacc
    obtain ⟨a, b⟩ := acc
    rw [Function.iterate_succ_apply', ← hacc]
    unfold fixTrip
    by_cases hC : Scalar.cmpi .ne (Scalar.extui b : BitVec 32) 0#32 = 1#1
    · sl_exec
      sl_step
      ipureintro
      rw [if_pos hC]
      rfl
    · sl_exec
      sl_step
      ipureintro
      rw [if_neg hC]

/-- A row stored at `k1_off1` replaces that row. -/
theorem read_put (m : Memref sig .tc .vmem S16x128 .f32) (f : m.view.ty.Contents (Elt F)) (w : Vec F S1x128 .f32) (L : List (View.Piece (Elt F) S16x128 .f32)) :
    m.view.read (Elt F) (m.view.writes (Elt F) f (⟨Rect.unit (s := S16x128) (k1_off1 i) S1x128.size (k1_off1_inb i), w⟩ :: L))
      = setRow (i 0).val (m.view.read (Elt F) (m.view.writes (Elt F) f L)) w := by
  funext y
  unfold setRow
  by_cases h : (y 0).val = (i 0).val
  · rw [if_pos h]
    let x : S1x128.Idx := fun | 0 => ⟨0, by decide⟩ | 1 => y 1
    refine View.read_writes_cons_hit_of_coords m.view f (Rect.unit (s := S16x128) (k1_off1 i) S1x128.size (k1_off1_inb i)) w L x y fun a => ?_
    match a with
    | 0 => show (y 0).val = k1_off1 i 0 + 1 * 0; simp [k1_off1_eq, h]
    | 1 => show (y 1).val = k1_off1 i 1 + 1 * (y 1).val; simp [k1_off1_eq]
  · rw [if_neg h]
    refine View.read_writes_cons_miss_of_axis m.view f ⟨Rect.unit (s := S16x128) (k1_off1 i) S1x128.size (k1_off1_inb i), w⟩ L y 0 (i 0).val 1
      (show k1_off1 i 0 = (i 0).val by simp [k1_off1_eq]) rfl rfl ?_
    omega

/-- The count is one word. -/
theorem read_word (m : Memref sig .tc .smem S1 .i32) (f : m.view.ty.Contents (Elt F)) (n : BitVec 32) (h : m.view.read (Elt F) f = fun _ => n) (j) :
    m.view.readAt (Elt F) (Rect.unit (s := S1) ![0] S1.size inb_S1_S1_0).toLoadRect f j = n := by
  rw [View.readAt_full, h]

/-- A buffer held whole that reads `V`. -/
def holds (c : Dev nD) {sp : Space} {s : Shape} {e : EltTy} (m : Memref sig .tc sp s e) (V : Vec F s e) : sProp 𝕄 :=
  iprop(∃ f, ⌜m.view.read (Elt F) f = V⌝ ∗ scr c m f)

/-- The program's first branch is taken at the first point, the last at the last. -/
theorem first_iff : ∀ i : grid1.Coords, (Scalar.cmpi .ne (Scalar.extui (Scalar.cmpi .eq (BitVec.ofNat 32 (i 0).val) 0#32) : BitVec 32) 0#32 = 1#1) ↔ (i 0).val = 0 := by
  decide +kernel
theorem last_iff : ∀ i : grid1.Coords, (k1_cond4 i = 1#1) ↔ (i 0).val = 15 := by
  decide +kernel

/-- The inputs of a grid point, and the scratch buffers before a point that is not the first. -/
def ins (CX CY W H SC : Vec F S16x128 .f32) : sProp 𝕄 :=
  iprop(holds c arg1 CX ∗ holds c arg2 CY ∗ holds c arg3 W ∗ holds c arg4 H ∗ holds c arg5 SC)
def scrs (X1 Y1 X2 Y2 AR : Vec F S16x128 .f32) (s : St F) : sProp 𝕄 :=
  iprop(holds c arg7 s.1 ∗ holds c arg8 X1 ∗ holds c arg9 Y1 ∗ holds c arg10 X2 ∗ holds c arg11 Y2 ∗ holds c arg12 AR ∗ holds c arg13 (fun _ => s.2))

end Cert.Proof

end
-- ==== Proof.RunFirst.lean ====
/- The body's run at one kind of grid point. -/
module

public import proofs.«01_k».proof.Proof.Body
public import Idealize.ShloMosaic.Lib.VecWindow
public import Idealize.ShloMosaic.Lib.Pipeline.FrameBody

@[expose] public section

noncomputable section

namespace Cert.Proof

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (c : Dev nD) (i : grid1.Coords)
  (arg1 : Memref sig .tc .vmem S16x128 .f32) (harg1 : arg1.IsWhole) (arg2 : Memref sig .tc .vmem S16x128 .f32) (harg2 : arg2.IsWhole)
  (arg3 : Memref sig .tc .vmem S16x128 .f32) (harg3 : arg3.IsWhole) (arg4 : Memref sig .tc .vmem S16x128 .f32) (harg4 : arg4.IsWhole)
  (arg5 : Memref sig .tc .vmem S16x128 .f32) (harg5 : arg5.IsWhole) (arg6 : Memref sig .tc .vmem S304x8 .f32) (harg6 : arg6.IsWhole)
  (arg7 : Memref sig .tc .vmem S16x128 .f32) (harg7 : arg7.IsWhole) (arg8 : Memref sig .tc .vmem S16x128 .f32) (harg8 : arg8.IsWhole)
  (arg9 : Memref sig .tc .vmem S16x128 .f32) (harg9 : arg9.IsWhole) (arg10 : Memref sig .tc .vmem S16x128 .f32) (harg10 : arg10.IsWhole)
  (arg11 : Memref sig .tc .vmem S16x128 .f32) (harg11 : arg11.IsWhole) (arg12 : Memref sig .tc .vmem S16x128 .f32) (harg12 : arg12.IsWhole)
  (arg13 : Memref sig .tc .smem S1 .i32) (harg13 : arg13.IsWhole)

set_option maxHeartbeats 1000000 in
/-- The first grid point. -/
theorem run_first (CX CY W H SC : Vec F S16x128 .f32)
   (h0 : (i 0).val = 0) :
    iprop(ins c arg1 arg2 arg3 arg4 arg5 CX CY W H SC ∗ (∃ f, scr c arg7 f) ∗ (∃ f, scr c arg8 f) ∗ (∃ f, scr c arg9 f) ∗ (∃ f, scr c arg10 f) ∗ (∃ f, scr c arg11 f)
      ∗ (∃ f, scr c arg12 f) ∗ (∃ f, scr c arg13 f))
    ⊢ (wp frame (wpE (defs₀ (F := F)) 𝒱₀ (c : Thread nD τ) none) Set.univ (cc1__nms_body i arg1 harg1 arg2 harg2 arg3 harg3 arg4 harg4 arg5 harg5 arg6 harg6 arg7 harg7 arg8 harg8 arg9 harg9 arg10 harg10 arg11 harg11 arg12 harg12 arg13 harg13)
      (fun _ => iprop(ins c arg1 arg2 arg3 arg4 arg5 CX CY W H SC ∗ scrs c arg7 arg8 arg9 arg10 arg11 arg12 arg13 (x1Of CX W) (y1Of CY H) (x2Of CX W) (y2Of CY H) (arOf CX CY W H) (step (x1Of CX W) (y1Of CY H) (x2Of CX W) (y2Of CY H) (arOf CX CY W H) SC (i 0).val (row_lt i) (k1_pay2, 0#32)))) : sProp 𝕄) := by
  simp only [cc1__nms_body_eq_skeleton]; unfold cc1__nms_body_skel
  unfold ins scrs holds
  iintro ⟨⟨⟨%f1, %e1, H1⟩, ⟨%f2, %e2, H2⟩, ⟨%f3, %e3, H3⟩, ⟨%f4, %e4, H4⟩, ⟨%f5, %e5, H5⟩⟩, ⟨%f7, H7⟩, ⟨%f8, H8⟩, ⟨%f9, H9⟩, ⟨%f10, H10⟩, ⟨%f11, H11⟩, ⟨%f12, H12⟩, ⟨%f13, H13⟩⟩
  have h3 : ¬ (i 0).val = 15 := by omega
  rw [← first_iff] at h0
  rw [← last_iff] at h3
  sl_exec
  sl_step
  have h8 : arg8.view.read (Elt F) (arg8.view.writes (Elt F) arg8.view.junk (run_first.sl.H8_1 arg1 arg3 f1 f3)) = (x1Of CX W) := by
    unfold run_first.sl.H8_1
    rw [View.read_writes_full, View.readAt_full, View.readAt_full, e1, e3]; rfl
  have h9 : arg9.view.read (Elt F) (arg9.view.writes (Elt F) arg9.view.junk (run_first.sl.H9_1 arg2 arg4 f2 f4)) = (y1Of CY H) := by
    unfold run_first.sl.H9_1
    rw [View.read_writes_full, View.readAt_full, View.readAt_full, e2, e4]; rfl
  have h10 : arg10.view.read (Elt F) (arg10.view.writes (Elt F) arg10.view.junk (run_first.sl.H10_1 arg1 arg3 f1 f3)) = (x2Of CX W) := by
    unfold run_first.sl.H10_1
    rw [View.read_writes_full, View.readAt_full, View.readAt_full, e1, e3]; rfl
  have h11 : arg11.view.read (Elt F) (arg11.view.writes (Elt F) arg11.view.junk (run_first.sl.H11_1 arg2 arg4 f2 f4)) = (y2Of CY H) := by
    unfold run_first.sl.H11_1
    rw [View.read_writes_full, View.readAt_full, View.readAt_full, e2, e4]; rfl
  have v38 : run_first.sl.v38 arg1 arg3 arg10 f1 f3 = (x2Of CX W) := by
    unfold run_first.sl.v38 run_first.sl.H10_1
    rw [View.readCov_full, View.readAt_full, View.readAt_full, e1, e3]; rfl
  have v39 : run_first.sl.v39 arg1 arg3 arg8 f1 f3 = (x1Of CX W) := by
    unfold run_first.sl.v39 run_first.sl.H8_1
    rw [View.readCov_full, View.readAt_full, View.readAt_full, e1, e3]; rfl
  have v41 : run_first.sl.v41 arg2 arg4 arg11 f2 f4 = (y2Of CY H) := by
    unfold run_first.sl.v41 run_first.sl.H11_1
    rw [View.readCov_full, View.readAt_full, View.readAt_full, e2, e4]; rfl
  have v42 : run_first.sl.v42 arg2 arg4 arg9 f2 f4 = (y1Of CY H) := by
    unfold run_first.sl.v42 run_first.sl.H9_1
    rw [View.readCov_full, View.readAt_full, View.readAt_full, e2, e4]; rfl
  have h12 : arg12.view.read (Elt F) (arg12.view.writes (Elt F) arg12.view.junk (run_first.sl.H12_1 arg1 arg2 arg3 arg4 arg8 arg9 arg10 arg11 f1 f2 f3 f4)) = arOf CX CY W H := by
    unfold run_first.sl.H12_1 run_first.sl.r
    rw [View.read_writes_full, v38, v39, v41, v42]; rfl
  have h7 : arg7.view.read (Elt F) (arg7.view.writes (Elt F) arg7.view.junk run_first.sl.H7_1) = k1_pay2 := by
    unfold run_first.sl.H7_1
    rw [View.read_writes_full]
  have hC : Scalar.cmpi .ne (Scalar.extui (Scalar.cmpi .slt ((k1_pay2 (F := F), 0#32) : St F).2 300#32) : BitVec 32) 0#32 = 1#1 :=
    (by decide : Scalar.cmpi .ne (Scalar.extui (Scalar.cmpi .slt (0#32) 300#32) : BitVec 32) 0#32 = 1#1)
  have r2 : run_first.sl.r_2 i arg1 arg2 arg3 arg4 arg8 arg9 arg10 arg11 arg12 f1 f2 f3 f4 = (row (i 0).val (row_lt i) (arOf CX CY W H)) := by unfold run_first.sl.r_2; rw [read1, h12]
  have r3 : run_first.sl.r_3 i arg1 arg2 arg3 arg4 arg8 arg9 arg10 arg11 arg12 f1 f2 f3 f4 = k1_pay20 (row (i 0).val (row_lt i) (arOf CX CY W H)) := by unfold run_first.sl.r_3; rw [read1, h12]
  have r4 : run_first.sl.r_4 i arg1 arg2 arg3 arg4 arg7 arg8 arg9 arg10 arg11 arg12 f1 f2 f3 f4 = (supAcc (row (i 0).val (row_lt i) (x1Of CX W)) (row (i 0).val (row_lt i) (y1Of CY H)) (row (i 0).val (row_lt i) (x2Of CX W)) (row (i 0).val (row_lt i) (y2Of CY H)) (row (i 0).val (row_lt i) (arOf CX CY W H)) (x1Of CX W) (y1Of CY H) (x2Of CX W) (y2Of CY H) (arOf CX CY W H) k1_pay2 k1_pay21 (i 0).val) := by
    unfold run_first.sl.r_4
    rw [read1, read1, read1, read1, read1, h7, h8, h9, h10, h11, h12]
    rw [trips1']
  have r5 : run_first.sl.r_5 i arg1 arg3 arg8 arg10 f1 f3 = k1_pay24 (row (i 0).val (row_lt i) (x1Of CX W)) (row (i 0).val (row_lt i) (x2Of CX W)) := by unfold run_first.sl.r_5; rw [read1, read1, h8, h10]
  have r6 : run_first.sl.r_6 i arg2 arg4 arg9 arg11 f2 f4 = k1_pay25 (row (i 0).val (row_lt i) (y1Of CY H)) (row (i 0).val (row_lt i) (y2Of CY H)) := by unfold run_first.sl.r_6; rw [read1, read1, h9, h11]
  have hk : (fixTrip (run_first.sl.r_2 i arg1 arg2 arg3 arg4 arg8 arg9 arg10 arg11 arg12 f1 f2 f3 f4) (run_first.sl.r_3 i arg1 arg2 arg3 arg4 arg8 arg9 arg10 arg11 arg12 f1 f2 f3 f4)
      (run_first.sl.r_4 i arg1 arg2 arg3 arg4 arg7 arg8 arg9 arg10 arg11 arg12 f1 f2 f3 f4) (run_first.sl.r_5 i arg1 arg3 arg8 arg10 f1 f3)
      (run_first.sl.r_6 i arg2 arg4 arg9 arg11 f2 f4))^[Scf.trips k1_t3_loop.lb k1_t3_loop.ub k1_t3_loop.st] (k1_pay26, 1#1)
      = (fixTrip (row (i 0).val (row_lt i) (arOf CX CY W H)) (k1_pay20 (row (i 0).val (row_lt i) (arOf CX CY W H))) (supAcc (row (i 0).val (row_lt i) (x1Of CX W)) (row (i 0).val (row_lt i) (y1Of CY H)) (row (i 0).val (row_lt i) (x2Of CX W)) (row (i 0).val (row_lt i) (y2Of CY H)) (row (i 0).val (row_lt i) (arOf CX CY W H)) (x1Of CX W) (y1Of CY H) (x2Of CX W) (y2Of CY H) (arOf CX CY W H) k1_pay2 k1_pay21 (i 0).val) (k1_pay24 (row (i 0).val (row_lt i) (x1Of CX W)) (row (i 0).val (row_lt i) (x2Of CX W))) (k1_pay25 (row (i 0).val (row_lt i) (y1Of CY H)) (row (i 0).val (row_lt i) (y2Of CY H))))^[128] (k1_pay26, 1#1) := by
    rw [r2, r3, r4, r5, r6, trips3']
  have hn : run_first.sl.v93 i arg1 arg2 arg3 arg4 arg5 arg7 arg8 arg9 arg10 arg11 arg12 f1 f2 f3 f4 f5
      = (step (x1Of CX W) (y1Of CY H) (x2Of CX W) (y2Of CY H) (arOf CX CY W H) SC (i 0).val (row_lt i) (k1_pay2, 0#32)).2 := by
    unfold run_first.sl.v93 run_first.sl.v92
    rw [hk, read1, e5, step, if_pos hC]
    unfold keepRow; rfl
  isplitl [H1 H2 H3 H4 H5]
  · isplitl [H1]
    · iexists _; isplitr; swap; · iexact H1
      ipureintro; exact e1
    isplitl [H2]
    · iexists _; isplitr; swap; · iexact H2
      ipureintro; exact e2
    isplitl [H3]
    · iexists _; isplitr; swap; · iexact H3
      ipureintro; exact e3
    isplitl [H4]
    · iexists _; isplitr; swap; · iexact H4
      ipureintro; exact e4
    iexists _; isplitr; swap; · iexact H5
    ipureintro; exact e5
  isplitl [H7]
  · iexists _; isplitr; swap; · iexact H7
    ipureintro; rw [read_put, h7, hk, step, if_pos hC]; unfold keepRow; rfl
  isplitl [H8]
  · iexists _; isplitr; swap; · iexact H8
    ipureintro; exact h8
  isplitl [H9]
  · iexists _; isplitr; swap; · iexact H9
    ipureintro; exact h9
  isplitl [H10]
  · iexists _; isplitr; swap; · iexact H10
    ipureintro; exact h10
  isplitl [H11]
  · iexists _; isplitr; swap; · iexact H11
    ipureintro; exact h11
  isplitl [H12]
  · iexists _; isplitr; swap; · iexact H12
    ipureintro; exact h12
  iexists _; isplitr; swap; · iexact H13
  ipureintro; rw [View.read_writes_full]; exact funext fun _ => hn

end Cert.Proof

end
-- ==== Proof.RunMid.lean ====
/- The body's run at one kind of grid point. -/
module

public import proofs.«01_k».proof.Proof.Body
public import Idealize.ShloMosaic.Lib.VecWindow
public import Idealize.ShloMosaic.Lib.Pipeline.FrameBody

@[expose] public section

noncomputable section

namespace Cert.Proof

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (c : Dev nD) (i : grid1.Coords)
  (arg1 : Memref sig .tc .vmem S16x128 .f32) (harg1 : arg1.IsWhole) (arg2 : Memref sig .tc .vmem S16x128 .f32) (harg2 : arg2.IsWhole)
  (arg3 : Memref sig .tc .vmem S16x128 .f32) (harg3 : arg3.IsWhole) (arg4 : Memref sig .tc .vmem S16x128 .f32) (harg4 : arg4.IsWhole)
  (arg5 : Memref sig .tc .vmem S16x128 .f32) (harg5 : arg5.IsWhole) (arg6 : Memref sig .tc .vmem S304x8 .f32) (harg6 : arg6.IsWhole)
  (arg7 : Memref sig .tc .vmem S16x128 .f32) (harg7 : arg7.IsWhole) (arg8 : Memref sig .tc .vmem S16x128 .f32) (harg8 : arg8.IsWhole)
  (arg9 : Memref sig .tc .vmem S16x128 .f32) (harg9 : arg9.IsWhole) (arg10 : Memref sig .tc .vmem S16x128 .f32) (harg10 : arg10.IsWhole)
  (arg11 : Memref sig .tc .vmem S16x128 .f32) (harg11 : arg11.IsWhole) (arg12 : Memref sig .tc .vmem S16x128 .f32) (harg12 : arg12.IsWhole)
  (arg13 : Memref sig .tc .smem S1 .i32) (harg13 : arg13.IsWhole)

set_option maxHeartbeats 1000000 in
/-- A grid point between the first and the last. -/
theorem run_mid (CX CY W H SC X1 Y1 X2 Y2 AR : Vec F S16x128 .f32) (s : St F)
   (h0 : ¬ (i 0).val = 0) (h3 : ¬ (i 0).val = 15) :
    iprop(ins c arg1 arg2 arg3 arg4 arg5 CX CY W H SC ∗ scrs c arg7 arg8 arg9 arg10 arg11 arg12 arg13 X1 Y1 X2 Y2 AR s)
    ⊢ (wp frame (wpE (defs₀ (F := F)) 𝒱₀ (c : Thread nD τ) none) Set.univ (cc1__nms_body i arg1 harg1 arg2 harg2 arg3 harg3 arg4 harg4 arg5 harg5 arg6 harg6 arg7 harg7 arg8 harg8 arg9 harg9 arg10 harg10 arg11 harg11 arg12 harg12 arg13 harg13)
      (fun _ => iprop(ins c arg1 arg2 arg3 arg4 arg5 CX CY W H SC ∗ scrs c arg7 arg8 arg9 arg10 arg11 arg12 arg13 X1 Y1 X2 Y2 AR (step X1 Y1 X2 Y2 AR SC (i 0).val (row_lt i) s))) : sProp 𝕄) := by
  simp only [cc1__nms_body_eq_skeleton]; unfold cc1__nms_body_skel
  unfold ins scrs holds
  iintro ⟨⟨⟨%f1, %e1, H1⟩, ⟨%f2, %e2, H2⟩, ⟨%f3, %e3, H3⟩, ⟨%f4, %e4, H4⟩, ⟨%f5, %e5, H5⟩⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩⟩
  rw [← first_iff] at h0
  rw [← last_iff] at h3
  sl_exec
  have hv : run_mid.sl.v6 arg13 f13 = Scalar.cmpi .ne (Scalar.extui (Scalar.cmpi .slt s.2 300#32) : BitVec 32) 0#32 := by
    unfold run_mid.sl.v6 run_mid.sl.v5 run_mid.sl.v4 run_mid.sl.r
    rw [read_word arg13 f13 s.2 e13]
  by_cases hC : run_mid.sl.v6 arg13 f13 = 1#1
  · sl_exec
    sl_step
    rw [hv] at hC
    have r1 : run_mid.sl.r_1 i arg12 f12 = row (i 0).val (row_lt i) AR := by unfold run_mid.sl.r_1; rw [read1, e12]
    have r2 : run_mid.sl.r_2 i arg12 f12 = k1_pay20 (row (i 0).val (row_lt i) AR) := by unfold run_mid.sl.r_2; rw [read1, e12]
    have r3 : run_mid.sl.r_3 i arg7 arg8 arg9 arg10 arg11 arg12 f7 f8 f9 f10 f11 f12
        = supAcc (row (i 0).val (row_lt i) X1) (row (i 0).val (row_lt i) Y1) (row (i 0).val (row_lt i) X2) (row (i 0).val (row_lt i) Y2)
          (row (i 0).val (row_lt i) AR) X1 Y1 X2 Y2 AR s.1 k1_pay21 (i 0).val := by
      unfold run_mid.sl.r_3
      rw [read1, read1, read1, read1, read1, e7, e8, e9, e10, e11, e12]
      rw [trips1']
    have r4 : run_mid.sl.r_4 i arg8 arg10 f8 f10 = k1_pay24 (row (i 0).val (row_lt i) X1) (row (i 0).val (row_lt i) X2) := by
      unfold run_mid.sl.r_4; rw [read1, read1, e8, e10]
    have r5 : run_mid.sl.r_5 i arg9 arg11 f9 f11 = k1_pay25 (row (i 0).val (row_lt i) Y1) (row (i 0).val (row_lt i) Y2) := by
      unfold run_mid.sl.r_5; rw [read1, read1, e9, e11]
    have r6 : run_mid.sl.r_6 arg13 f13 = s.2 := by unfold run_mid.sl.r_6; exact read_word arg13 f13 s.2 e13 _
    have hk : (fixTrip (run_mid.sl.r_1 i arg12 f12) (run_mid.sl.r_2 i arg12 f12) (run_mid.sl.r_3 i arg7 arg8 arg9 arg10 arg11 arg12 f7 f8 f9 f10 f11 f12)
        (run_mid.sl.r_4 i arg8 arg10 f8 f10) (run_mid.sl.r_5 i arg9 arg11 f9 f11))^[Scf.trips k1_t3_loop.lb k1_t3_loop.ub k1_t3_loop.st] (k1_pay26, 1#1)
        = (fixTrip (row (i 0).val (row_lt i) AR) (k1_pay20 (row (i 0).val (row_lt i) AR))
            (supAcc (row (i 0).val (row_lt i) X1) (row (i 0).val (row_lt i) Y1) (row (i 0).val (row_lt i) X2) (row (i 0).val (row_lt i) Y2)
              (row (i 0).val (row_lt i) AR) X1 Y1 X2 Y2 AR s.1 k1_pay21 (i 0).val)
            (k1_pay24 (row (i 0).val (row_lt i) X1) (row (i 0).val (row_lt i) X2))
            (k1_pay25 (row (i 0).val (row_lt i) Y1) (row (i 0).val (row_lt i) Y2)))^[128] (k1_pay26, 1#1) := by
      rw [r1, r2, r3, r4, r5, trips3']
    have hn : run_mid.sl.v93 i arg5 arg7 arg8 arg9 arg10 arg11 arg12 arg13 f5 f7 f8 f9 f10 f11 f12 f13
        = (step X1 Y1 X2 Y2 AR SC (i 0).val (row_lt i) s).2 := by
      unfold run_mid.sl.v93 run_mid.sl.v92
      rw [r6, hk, read1, e5, step, if_pos hC]
      unfold keepRow; rfl
    isplitl [H1 H2 H3 H4 H5]
    · isplitl [H1]
      · iexists _; isplitr; swap; · iexact H1
        ipureintro; exact e1
      isplitl [H2]
      · iexists _; isplitr; swap; · iexact H2
        ipureintro; exact e2
      isplitl [H3]
      · iexists _; isplitr; swap; · iexact H3
        ipureintro; exact e3
      isplitl [H4]
      · iexists _; isplitr; swap; · iexact H4
        ipureintro; exact e4
      iexists _; isplitr; swap; · iexact H5
      ipureintro; exact e5
    isplitl [H7]
    · iexists _; isplitr; swap; · iexact H7
      ipureintro; rw [read_put, View.writes_nil, hk, e7, step, if_pos hC]; unfold keepRow; rfl
    isplitl [H8]
    · iexists _; isplitr; swap; · iexact H8
      ipureintro; exact e8
    isplitl [H9]
    · iexists _; isplitr; swap; · iexact H9
      ipureintro; exact e9
    isplitl [H10]
    · iexists _; isplitr; swap; · iexact H10
      ipureintro; exact e10
    isplitl [H11]
    · iexists _; isplitr; swap; · iexact H11
      ipureintro; exact e11
    isplitl [H12]
    · iexists _; isplitr; swap; · iexact H12
      ipureintro; exact e12
    iexists _; isplitr; swap; · iexact H13
    ipureintro; rw [View.read_writes_full]; exact funext fun _ => hn
  · sl_exec
    sl_step
    rw [hv] at hC
    isplitl [H1 H2 H3 H4 H5]
    · isplitl [H1]
      · iexists _; isplitr; swap; · iexact H1
        ipureintro; exact e1
      isplitl [H2]
      · iexists _; isplitr; swap; · iexact H2
        ipureintro; exact e2
      isplitl [H3]
      · iexists _; isplitr; swap; · iexact H3
        ipureintro; exact e3
      isplitl [H4]
      · iexists _; isplitr; swap; · iexact H4
        ipureintro; exact e4
      iexists _; isplitr; swap; · iexact H5
      ipureintro; exact e5
    isplitl [H7]
    · iexists _; isplitr; swap; · iexact H7
      ipureintro; rw [e7, step, if_neg hC]
    isplitl [H8]
    · iexists _; isplitr; swap; · iexact H8
      ipureintro; exact e8
    isplitl [H9]
    · iexists _; isplitr; swap; · iexact H9
      ipureintro; exact e9
    isplitl [H10]
    · iexists _; isplitr; swap; · iexact H10
      ipureintro; exact e10
    isplitl [H11]
    · iexists _; isplitr; swap; · iexact H11
      ipureintro; exact e11
    isplitl [H12]
    · iexists _; isplitr; swap; · iexact H12
      ipureintro; exact e12
    iexists _; isplitr; swap; · iexact H13
    ipureintro; rw [e13, step, if_neg hC]

end Cert.Proof

end
-- ==== Proof.RunLast.lean ====
/- The body's run at one kind of grid point. -/
module

public import proofs.«01_k».proof.Proof.Body
public import Idealize.ShloMosaic.Lib.VecWindow
public import Idealize.ShloMosaic.Lib.Pipeline.FrameBody

@[expose] public section

noncomputable section

namespace Cert.Proof

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (c : Dev nD) (i : grid1.Coords)
  (arg1 : Memref sig .tc .vmem S16x128 .f32) (harg1 : arg1.IsWhole) (arg2 : Memref sig .tc .vmem S16x128 .f32) (harg2 : arg2.IsWhole)
  (arg3 : Memref sig .tc .vmem S16x128 .f32) (harg3 : arg3.IsWhole) (arg4 : Memref sig .tc .vmem S16x128 .f32) (harg4 : arg4.IsWhole)
  (arg5 : Memref sig .tc .vmem S16x128 .f32) (harg5 : arg5.IsWhole) (arg6 : Memref sig .tc .vmem S304x8 .f32) (harg6 : arg6.IsWhole)
  (arg7 : Memref sig .tc .vmem S16x128 .f32) (harg7 : arg7.IsWhole) (arg8 : Memref sig .tc .vmem S16x128 .f32) (harg8 : arg8.IsWhole)
  (arg9 : Memref sig .tc .vmem S16x128 .f32) (harg9 : arg9.IsWhole) (arg10 : Memref sig .tc .vmem S16x128 .f32) (harg10 : arg10.IsWhole)
  (arg11 : Memref sig .tc .vmem S16x128 .f32) (harg11 : arg11.IsWhole) (arg12 : Memref sig .tc .vmem S16x128 .f32) (harg12 : arg12.IsWhole)
  (arg13 : Memref sig .tc .smem S1 .i32) (harg13 : arg13.IsWhole)

set_option maxHeartbeats 1000000 in
/-- The last grid point. -/
theorem run_last (CX CY W H SC X1 Y1 X2 Y2 AR : Vec F S16x128 .f32) (s : St F)
   (h3 : (i 0).val = 15) :
    iprop(ins c arg1 arg2 arg3 arg4 arg5 CX CY W H SC ∗ scrs c arg7 arg8 arg9 arg10 arg11 arg12 arg13 X1 Y1 X2 Y2 AR s ∗ (∃ f, scr c arg6 f))
    ⊢ (wp frame (wpE (defs₀ (F := F)) 𝒱₀ (c : Thread nD τ) none) Set.univ (cc1__nms_body i arg1 harg1 arg2 harg2 arg3 harg3 arg4 harg4 arg5 harg5 arg6 harg6 arg7 harg7 arg8 harg8 arg9 harg9 arg10 harg10 arg11 harg11 arg12 harg12 arg13 harg13)
      (fun _ => iprop(ins c arg1 arg2 arg3 arg4 arg5 CX CY W H SC ∗ scrs c arg7 arg8 arg9 arg10 arg11 arg12 arg13 X1 Y1 X2 Y2 AR (step X1 Y1 X2 Y2 AR SC (i 0).val (row_lt i) s) ∗ holds c arg6 (emitOf CX CY W H SC (step X1 Y1 X2 Y2 AR SC (i 0).val (row_lt i) s).1))) : sProp 𝕄) := by
  simp only [cc1__nms_body_eq_skeleton]; unfold cc1__nms_body_skel
  unfold ins scrs holds
  iintro ⟨⟨⟨%f1, %e1, H1⟩, ⟨%f2, %e2, H2⟩, ⟨%f3, %e3, H3⟩, ⟨%f4, %e4, H4⟩, ⟨%f5, %e5, H5⟩⟩, ⟨⟨%f7, %e7, H7⟩, ⟨%f8, %e8, H8⟩, ⟨%f9, %e9, H9⟩, ⟨%f10, %e10, H10⟩, ⟨%f11, %e11, H11⟩, ⟨%f12, %e12, H12⟩, ⟨%f13, %e13, H13⟩⟩, ⟨%f6, H6⟩⟩
  have h0 : ¬ (i 0).val = 0 := by omega
  rw [← first_iff] at h0
  rw [← last_iff] at h3
  sl_exec
  have hv : run_last.sl.v6 arg13 f13 = Scalar.cmpi .ne (Scalar.extui (Scalar.cmpi .slt s.2 300#32) : BitVec 32) 0#32 := by
    unfold run_last.sl.v6 run_last.sl.v5 run_last.sl.v4 run_last.sl.r
    rw [read_word arg13 f13 s.2 e13]
  by_cases hC : run_last.sl.v6 arg13 f13 = 1#1
  · sl_exec
    sl_step
    rw [hv] at hC
    have r1 : run_last.sl.r_1 i arg12 f12 = row (i 0).val (row_lt i) AR := by unfold run_last.sl.r_1; rw [read1, e12]
    have r2 : run_last.sl.r_2 i arg12 f12 = k1_pay20 (row (i 0).val (row_lt i) AR) := by unfold run_last.sl.r_2; rw [read1, e12]
    have r3 : run_last.sl.r_3 i arg7 arg8 arg9 arg10 arg11 arg12 f7 f8 f9 f10 f11 f12
        = supAcc (row (i 0).val (row_lt i) X1) (row (i 0).val (row_lt i) Y1) (row (i 0).val (row_lt i) X2) (row (i 0).val (row_lt i) Y2)
          (row (i 0).val (row_lt i) AR) X1 Y1 X2 Y2 AR s.1 k1_pay21 (i 0).val := by
      unfold run_last.sl.r_3
      rw [read1, read1, read1, read1, read1, e7, e8, e9, e10, e11, e12]
      rw [trips1']
    have r4 : run_last.sl.r_4 i arg8 arg10 f8 f10 = k1_pay24 (row (i 0).val (row_lt i) X1) (row (i 0).val (row_lt i) X2) := by
      unfold run_last.sl.r_4; rw [read1, read1, e8, e10]
    have r5 : run_last.sl.r_5 i arg9 arg11 f9 f11 = k1_pay25 (row (i 0).val (row_lt i) Y1) (row (i 0).val (row_lt i) Y2) := by
      unfold run_last.sl.r_5; rw [read1, read1, e9, e11]
    have r6 : run_last.sl.r_6 arg13 f13 = s.2 := by unfold run_last.sl.r_6; exact read_word arg13 f13 s.2 e13 _
    have hk : (fixTrip (run_last.sl.r_1 i arg12 f12) (run_last.sl.r_2 i arg12 f12) (run_last.sl.r_3 i arg7 arg8 arg9 arg10 arg11 arg12 f7 f8 f9 f10 f11 f12)
        (run_last.sl.r_4 i arg8 arg10 f8 f10) (run_last.sl.r_5 i arg9 arg11 f9 f11))^[Scf.trips k1_t3_loop.lb k1_t3_loop.ub k1_t3_loop.st] (k1_pay26, 1#1)
        = (fixTrip (row (i 0).val (row_lt i) AR) (k1_pay20 (row (i 0).val (row_lt i) AR))
            (supAcc (row (i 0).val (row_lt i) X1) (row (i 0).val (row_lt i) Y1) (row (i 0).val (row_lt i) X2) (row (i 0).val (row_lt i) Y2)
              (row (i 0).val (row_lt i) AR) X1 Y1 X2 Y2 AR s.1 k1_pay21 (i 0).val)
            (k1_pay24 (row (i 0).val (row_lt i) X1) (row (i 0).val (row_lt i) X2))
            (k1_pay25 (row (i 0).val (row_lt i) Y1) (row (i 0).val (row_lt i) Y2)))^[128] (k1_pay26, 1#1) := by
      rw [r1, r2, r3, r4, r5, trips3']
    have hn : run_last.sl.v93 i arg5 arg7 arg8 arg9 arg10 arg11 arg12 arg13 f5 f7 f8 f9 f10 f11 f12 f13
        = (step X1 Y1 X2 Y2 AR SC (i 0).val (row_lt i) s).2 := by
      unfold run_last.sl.v93 run_last.sl.v92
      rw [r6, hk, read1, e5, step, if_pos hC]
      unfold keepRow; rfl
    have hk7 : arg7.view.read (Elt F) (arg7.view.writes (Elt F) f7 (run_last.sl.H7_1 i arg7 arg8 arg9 arg10 arg11 arg12 f7 f8 f9 f10 f11 f12))
        = (step X1 Y1 X2 Y2 AR SC (i 0).val (row_lt i) s).1 := by
      unfold run_last.sl.H7_1
      rw [read_put, View.writes_nil, hk, e7, step, if_pos hC]; unfold keepRow; rfl
    have r7 : run_last.sl.r_7 i arg5 arg7 arg8 arg9 arg10 arg11 arg12 f5 f7 f8 f9 f10 f11 f12 = k1_pay32 SC (step X1 Y1 X2 Y2 AR SC (i 0).val (row_lt i) s).1 := by
      unfold run_last.sl.r_7; rw [View.readAt_full, View.readAt_full, e5, hk7]
    isplitl [H1 H2 H3 H4 H5]
    · isplitl [H1]
      · iexists _; isplitr; swap; · iexact H1
        ipureintro; exact e1
      isplitl [H2]
      · iexists _; isplitr; swap; · iexact H2
        ipureintro; exact e2
      isplitl [H3]
      · iexists _; isplitr; swap; · iexact H3
        ipureintro; exact e3
      isplitl [H4]
      · iexists _; isplitr; swap; · iexact H4
        ipureintro; exact e4
      iexists _; isplitr; swap; · iexact H5
      ipureintro; exact e5
    isplitl [H7 H8 H9 H10 H11 H12 H13]
    · isplitl [H7]
      · iexists _; isplitr; swap; · iexact H7
        ipureintro; exact hk7
      isplitl [H8]
      · iexists _; isplitr; swap; · iexact H8
        ipureintro; exact e8
      isplitl [H9]
      · iexists _; isplitr; swap; · iexact H9
        ipureintro; exact e9
      isplitl [H10]
      · iexists _; isplitr; swap; · iexact H10
        ipureintro; exact e10
      isplitl [H11]
      · iexists _; isplitr; swap; · iexact H11
        ipureintro; exact e11
      isplitl [H12]
      · iexists _; isplitr; swap; · iexact H12
        ipureintro; exact e12
      iexists _; isplitr; swap; · iexact H13
      ipureintro; rw [View.read_writes_full]; exact funext fun _ => hn
    iexists _; isplitr; swap; · iexact H6
    ipureintro
    rw [View.read_writes_full]
    unfold run_last.sl.r_24 run_last.sl.r_23 run_last.sl.r_22 run_last.sl.r_21 run_last.sl.r_20 run_last.sl.r_19 run_last.sl.r_18 run_last.sl.r_17
      run_last.sl.r_16 run_last.sl.r_15 run_last.sl.r_14 run_last.sl.r_13 run_last.sl.r_12 run_last.sl.r_11 run_last.sl.r_10 run_last.sl.r_9 run_last.sl.r_8
    rw [r7]
    rw [View.readAt_full arg1.view, View.readAt_full arg2.view, View.readAt_full arg3.view, View.readAt_full arg4.view, View.readAt_full arg5.view, e1, e2, e3, e4, e5]
    unfold emitOf; rfl
  · sl_exec
    sl_step
    rw [hv] at hC
    isplitl [H1 H2 H3 H4 H5]
    · isplitl [H1]
      · iexists _; isplitr; swap; · iexact H1
        ipureintro; exact e1
      isplitl [H2]
      · iexists _; isplitr; swap; · iexact H2
        ipureintro; exact e2
      isplitl [H3]
      · iexists _; isplitr; swap; · iexact H3
        ipureintro; exact e3
      isplitl [H4]
      · iexists _; isplitr; swap; · iexact H4
        ipureintro; exact e4
      iexists _; isplitr; swap; · iexact H5
      ipureintro; exact e5
    isplitl [H7 H8 H9 H10 H11 H12 H13]
    · isplitl [H7]
      · iexists _; isplitr; swap; · iexact H7
        ipureintro; rw [e7, step, if_neg hC]
      isplitl [H8]
      · iexists _; isplitr; swap; · iexact H8
        ipureintro; exact e8
      isplitl [H9]
      · iexists _; isplitr; swap; · iexact H9
        ipureintro; exact e9
      isplitl [H10]
      · iexists _; isplitr; swap; · iexact H10
        ipureintro; exact e10
      isplitl [H11]
      · iexists _; isplitr; swap; · iexact H11
        ipureintro; exact e11
      isplitl [H12]
      · iexists _; isplitr; swap; · iexact H12
        ipureintro; exact e12
      iexists _; isplitr; swap; · iexact H13
      ipureintro; rw [e13, step, if_neg hC]
    iexists _; isplitr; swap; · iexact H6
    ipureintro
    rw [View.read_writes_full]
    unfold run_last.sl.r_42 run_last.sl.r_41 run_last.sl.r_40 run_last.sl.r_39 run_last.sl.r_38 run_last.sl.r_37 run_last.sl.r_36 run_last.sl.r_35 run_last.sl.r_34
      run_last.sl.r_33 run_last.sl.r_32 run_last.sl.r_31 run_last.sl.r_30 run_last.sl.r_29 run_last.sl.r_28 run_last.sl.r_27 run_last.sl.r_26 run_last.sl.r_25
    rw [View.readAt_full arg1.view, View.readAt_full arg2.view, View.readAt_full arg3.view, View.readAt_full arg4.view, View.readAt_full arg5.view, View.readAt_full arg7.view, e1, e2, e3, e4, e5, e7,
      step, if_neg hC]
    unfold emitOf; rfl

end Cert.Proof

end
-- ==== Proof.Region.lean ====
module

public import proofs.«01_k».proof.Proof.RunFirst
public import proofs.«01_k».proof.Proof.RunMid
public import proofs.«01_k».proof.Proof.RunLast
public import Idealize.ShloMosaic.Lib.Pipeline.ValueKit.Geometry

@[expose] public section

noncomputable section

namespace Cert.Proof.Region

open Cert.KernelIdeal Cert.KernelIdeal.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

theorem blk_read_0 (t : Fin grid1.N) (A : Vec F S16x128 .f32) : (win1_0.blk t).view.read (Elt F) A = A := by
  funext y
  refine congrArg A (funext fun a => Fin.ext ?_)
  match a with
  | 0 => show (win1_0.rect t).off 0 + (win1_0.rect t).stride 0 * (y 0).val = (y 0).val; rw [show (win1_0.rect t).off 0 = 0 from rfl, show (win1_0.rect t).stride 0 = 1 from rfl]; omega
  | 1 => show (win1_0.rect t).off 1 + (win1_0.rect t).stride 1 * (y 1).val = (y 1).val; rw [show (win1_0.rect t).off 1 = 0 from rfl, show (win1_0.rect t).stride 1 = 1 from rfl]; omega

theorem blk_read_1 (t : Fin grid1.N) (A : Vec F S16x128 .f32) : (win1_1.blk t).view.read (Elt F) A = A := by
  funext y
  refine congrArg A (funext fun a => Fin.ext ?_)
  match a with
  | 0 => show (win1_1.rect t).off 0 + (win1_1.rect t).stride 0 * (y 0).val = (y 0).val; rw [show (win1_1.rect t).off 0 = 0 from rfl, show (win1_1.rect t).stride 0 = 1 from rfl]; omega
  | 1 => show (win1_1.rect t).off 1 + (win1_1.rect t).stride 1 * (y 1).val = (y 1).val; rw [show (win1_1.rect t).off 1 = 0 from rfl, show (win1_1.rect t).stride 1 = 1 from rfl]; omega

theorem blk_read_2 (t : Fin grid1.N) (A : Vec F S16x128 .f32) : (win1_2.blk t).view.read (Elt F) A = A := by
  funext y
  refine congrArg A (funext fun a => Fin.ext ?_)
  match a with
  | 0 => show (win1_2.rect t).off 0 + (win1_2.rect t).stride 0 * (y 0).val = (y 0).val; rw [show (win1_2.rect t).off 0 = 0 from rfl, show (win1_2.rect t).stride 0 = 1 from rfl]; omega
  | 1 => show (win1_2.rect t).off 1 + (win1_2.rect t).stride 1 * (y 1).val = (y 1).val; rw [show (win1_2.rect t).off 1 = 0 from rfl, show (win1_2.rect t).stride 1 = 1 from rfl]; omega

theorem blk_read_3 (t : Fin grid1.N) (A : Vec F S16x128 .f32) : (win1_3.blk t).view.read (Elt F) A = A := by
  funext y
  refine congrArg A (funext fun a => Fin.ext ?_)
  match a with
  | 0 => show (win1_3.rect t).off 0 + (win1_3.rect t).stride 0 * (y 0).val = (y 0).val; rw [show (win1_3.rect t).off 0 = 0 from rfl, show (win1_3.rect t).stride 0 = 1 from rfl]; omega
  | 1 => show (win1_3.rect t).off 1 + (win1_3.rect t).stride 1 * (y 1).val = (y 1).val; rw [show (win1_3.rect t).off 1 = 0 from rfl, show (win1_3.rect t).stride 1 = 1 from rfl]; omega

theorem blk_read_4 (t : Fin grid1.N) (A : Vec F S16x128 .f32) : (win1_4.blk t).view.read (Elt F) A = A := by
  funext y
  refine congrArg A (funext fun a => Fin.ext ?_)
  match a with
  | 0 => show (win1_4.rect t).off 0 + (win1_4.rect t).stride 0 * (y 0).val = (y 0).val; rw [show (win1_4.rect t).off 0 = 0 from rfl, show (win1_4.rect t).stride 0 = 1 from rfl]; omega
  | 1 => show (win1_4.rect t).off 1 + (win1_4.rect t).stride 1 * (y 1).val = (y 1).val; rw [show (win1_4.rect t).off 1 = 0 from rfl, show (win1_4.rect t).stride 1 = 1 from rfl]; omega

theorem blk_read_5 (t : Fin grid1.N) (A : Vec F S304x8 .f32) : (win1_5.blk t).view.read (Elt F) A = A := by
  funext y
  refine congrArg A (funext fun a => Fin.ext ?_)
  match a with
  | 0 => show (win1_5.rect t).off 0 + (win1_5.rect t).stride 0 * (y 0).val = (y 0).val; rw [show (win1_5.rect t).off 0 = 0 from rfl, show (win1_5.rect t).stride 0 = 1 from rfl]; omega
  | 1 => show (win1_5.rect t).off 1 + (win1_5.rect t).stride 1 * (y 1).val = (y 1).val; rw [show (win1_5.rect t).off 1 = 0 from rfl, show (win1_5.rect t).stride 1 = 1 from rfl]; omega

theorem cond_last (i : grid1.Coords) : idle1 5 i = true ↔ ¬ (i 0).val = 15 := by
  rw [← last_iff]; simp [idle1]

theorem coords_val (t : Fin grid1.N) : (grid1.coords t 0).val = t.val := by revert t; decide +kernel

/-! ## The proof data -/

section Data

variable (V : Valuation τ sig (Elt F))

/-- The five windows' arrays. -/
def cx : Vec F S16x128 .f32 := V (Proc.devRef .tc main_v16)
def cy : Vec F S16x128 .f32 := V (Proc.devRef .tc main_v17)
def cw : Vec F S16x128 .f32 := V (Proc.devRef .tc main_v18)
def ch : Vec F S16x128 .f32 := V (Proc.devRef .tc main_v19)
def cs : Vec F S16x128 .f32 := V (Proc.devRef .tc main_v20)

/-- The keeps and the count before point `n`. -/
def stV (n : ℕ) : St F :=
  stAt (x1Of (cx V) (cw V)) (y1Of (cy V) (ch V)) (x2Of (cx V) (cw V)) (y2Of (cy V) (ch V)) (arOf (cx V) (cy V) (cw V) (ch V)) (cs V) n

theorem stV_succ (n : ℕ) (h : n < 16) : stV V (n + 1)
    = step (x1Of (cx V) (cw V)) (y1Of (cy V) (ch V)) (x2Of (cx V) (cw V)) (y2Of (cy V) (ch V)) (arOf (cx V) (cy V) (cw V) (ch V)) (cs V) n h (stV V n) :=
  dif_pos h

/-- The scratch buffers after some point has run. -/
abbrev scrAll (c : Dev nD) (s : St F) : sProp 𝕄 :=
  scrs c (Memref.whole cc1_scratch0) (Memref.whole cc1_scratch1) (Memref.whole cc1_scratch2) (Memref.whole cc1_scratch3) (Memref.whole cc1_scratch4)
    (Memref.whole cc1_scratch5) (Memref.whole cc1_scratch6) (x1Of (cx V) (cw V)) (y1Of (cy V) (ch V)) (x2Of (cx V) (cw V)) (y2Of (cy V) (ch V))
    (arOf (cx V) (cy V) (cw V) (ch V)) s

/-- The scratch buffers before any. -/
abbrev scrAny (c : Dev nD) : sProp 𝕄 :=
  iprop((∃ f, scr c (Memref.whole cc1_scratch0) f) ∗ (∃ f, scr c (Memref.whole cc1_scratch1) f) ∗ (∃ f, scr c (Memref.whole cc1_scratch2) f)
    ∗ (∃ f, scr c (Memref.whole cc1_scratch3) f) ∗ (∃ f, scr c (Memref.whole cc1_scratch4) f) ∗ (∃ f, scr c (Memref.whole cc1_scratch5) f)
    ∗ (∃ f, scr c (Memref.whole cc1_scratch6) f))

/-- The invariant before point `n`. -/
def Phi (c : Dev nD) (n : ℕ) : sProp 𝕄 := if n = 0 then scrAny c else scrAll V c (stV V n)

def dats (_ : Fin 1) (c : Dev nD) : Dat τ (Elt F) (HIx 1) ℕ UU ℕ cfg1 c where
  A w := V (Proc.devRef .tc (Pipeline.arrRef spec1 w))
  after w _ := match w with
    | ⟨0, _⟩ => cx V | ⟨1, _⟩ => cy V | ⟨2, _⟩ => cw V | ⟨3, _⟩ => ch V | ⟨4, _⟩ => cs V
    | ⟨5, _⟩ => nmsOut (cx V) (cy V) (cw V) (ch V) (cs V)
  Φ t := Phi V c t.val
  q _ := fullShare
  owed _ := 0

theorem owns_holds (c : Dev nD) {sp : Space} {s : Shape} {e : EltTy} (m : Memref sig .tc sp s e) (hm : m.IsWhole) (X : Vec F s e) :
    (owns (c : Thread nD τ) m fullShare X : sProp 𝕄) = holds c m X := by
  obtain ⟨b, rfl, rfl, rfl, h⟩ := hm
  obtain rfl := eq_of_heq h
  unfold owns holds scr; simp only [Memref.view_whole, View.set_whole]

theorem scrAll_any (c : Dev nD) (s : St F) : (scrAll V c s : sProp 𝕄) ⊢ scrAny c := by
  unfold scrAll scrAny scrs holds
  iintro ⟨⟨%f7, -, H7⟩, ⟨%f8, -, H8⟩, ⟨%f9, -, H9⟩, ⟨%f10, -, H10⟩, ⟨%f11, -, H11⟩, ⟨%f12, -, H12⟩, ⟨%f13, -, H13⟩⟩
  isplitl [H7]; · iexists f7; iexact H7
  isplitl [H8]; · iexists f8; iexact H8
  isplitl [H9]; · iexists f9; iexact H9
  isplitl [H10]; · iexists f10; iexact H10
  isplitl [H11]; · iexists f11; iexact H11
  isplitl [H12]; · iexists f12; iexact H12
  iexists f13; iexact H13

theorem blockOf_0 (c : Dev nD) (t : Fin cfg1.N) : (dats V 0 c).blockOf (0 : Fin 6) t = cx V := by
  unfold Dat.blockOf; dsimp only [dats]; exact blk_read_0 t _

theorem before_0 (c : Dev nD) (t : Fin cfg1.N) (d) : (dats V 0 c).before (0 : Fin 6) t d = cx V := by
  refine (Dat.before_in_eq_fetched (dats V 0 c) (0 : Fin 6) rfl (fun _ => rfl) (fun _ _ _ => rfl) (fun t => ?_) t d).trans ?_
  · rw [blockOf_0]; rfl
  · exact ((dats V 0 c).cut_fetched (0 : Fin 6) t d).trans (blockOf_0 V c t)

theorem blockOf_1 (c : Dev nD) (t : Fin cfg1.N) : (dats V 0 c).blockOf (1 : Fin 6) t = cy V := by
  unfold Dat.blockOf; dsimp only [dats]; exact blk_read_1 t _

theorem before_1 (c : Dev nD) (t : Fin cfg1.N) (d) : (dats V 0 c).before (1 : Fin 6) t d = cy V := by
  refine (Dat.before_in_eq_fetched (dats V 0 c) (1 : Fin 6) rfl (fun _ => rfl) (fun _ _ _ => rfl) (fun t => ?_) t d).trans ?_
  · rw [blockOf_1]; rfl
  · exact ((dats V 0 c).cut_fetched (1 : Fin 6) t d).trans (blockOf_1 V c t)

theorem blockOf_2 (c : Dev nD) (t : Fin cfg1.N) : (dats V 0 c).blockOf (2 : Fin 6) t = cw V := by
  unfold Dat.blockOf; dsimp only [dats]; exact blk_read_2 t _

theorem before_2 (c : Dev nD) (t : Fin cfg1.N) (d) : (dats V 0 c).before (2 : Fin 6) t d = cw V := by
  refine (Dat.before_in_eq_fetched (dats V 0 c) (2 : Fin 6) rfl (fun _ => rfl) (fun _ _ _ => rfl) (fun t => ?_) t d).trans ?_
  · rw [blockOf_2]; rfl
  · exact ((dats V 0 c).cut_fetched (2 : Fin 6) t d).trans (blockOf_2 V c t)

theorem blockOf_3 (c : Dev nD) (t : Fin cfg1.N) : (dats V 0 c).blockOf (3 : Fin 6) t = ch V := by
  unfold Dat.blockOf; dsimp only [dats]; exact blk_read_3 t _

theorem before_3 (c : Dev nD) (t : Fin cfg1.N) (d) : (dats V 0 c).before (3 : Fin 6) t d = ch V := by
  refine (Dat.before_in_eq_fetched (dats V 0 c) (3 : Fin 6) rfl (fun _ => rfl) (fun _ _ _ => rfl) (fun t => ?_) t d).trans ?_
  · rw [blockOf_3]; rfl
  · exact ((dats V 0 c).cut_fetched (3 : Fin 6) t d).trans (blockOf_3 V c t)

theorem blockOf_4 (c : Dev nD) (t : Fin cfg1.N) : (dats V 0 c).blockOf (4 : Fin 6) t = cs V := by
  unfold Dat.blockOf; dsimp only [dats]; exact blk_read_4 t _

theorem before_4 (c : Dev nD) (t : Fin cfg1.N) (d) : (dats V 0 c).before (4 : Fin 6) t d = cs V := by
  refine (Dat.before_in_eq_fetched (dats V 0 c) (4 : Fin 6) rfl (fun _ => rfl) (fun _ _ _ => rfl) (fun t => ?_) t d).trans ?_
  · rw [blockOf_4]; rfl
  · exact ((dats V 0 c).cut_fetched (4 : Fin 6) t d).trans (blockOf_4 V c t)

/-- The inputs' staging buffers at point `t`. -/
abbrev insAt (c : Dev nD) (t : Fin cfg1.N) : sProp 𝕄 := ins c (stage1_0 (cfg1.slots t 0)) (stage1_1 (cfg1.slots t 1)) (stage1_2 (cfg1.slots t 2)) (stage1_3 (cfg1.slots t 3)) (stage1_4 (cfg1.slots t 4)) (cx V) (cy V) (cw V) (ch V) (cs V)

theorem hN (t : Fin cfg1.N) : t.val < 16 := by have := t.isLt; have h : cfg1.N = 16 := N_1; omega

set_option maxHeartbeats 1000000 in
/-- The kernel's body at point `t`, from the invariant before it to the invariant after it. -/
theorem body_at (c : Dev nD) (t : Fin cfg1.N) :
    iprop(Phi V c t.val ∗ insAt V c t ∗ (∃ f, scr c (stage1_5 (cfg1.slots t 5)) f))
    ⊢ (wp frame (wpE (defs₀ (F := F)) 𝒱₀ (c : Thread nD τ) none) Set.univ (bodyAt1 (F := F) t)
      (fun _ => iprop(Phi V c (t.val + 1) ∗ insAt V c t ∗ (if t.val = 15 then holds c (stage1_5 (cfg1.slots t 5)) (nmsOut (cx V) (cy V) (cw V) (ch V) (cs V)) else iprop(∃ f, scr c (stage1_5 (cfg1.slots t 5)) f)))) : sProp 𝕄) := by
  have hc : (grid1.coords t 0).val = t.val := coords_val t
  have ht := hN t
  have hst : stV V (t.val + 1) = step (x1Of (cx V) (cw V)) (y1Of (cy V) (ch V)) (x2Of (cx V) (cw V)) (y2Of (cy V) (ch V)) (arOf (cx V) (cy V) (cw V) (ch V)) (cs V) (grid1.coords t 0).val (row_lt (grid1.coords t)) (stV V t.val) := by
    rw [stV_succ V t.val ht]; congr 1; exact hc.symm
  unfold Phi
  rw [if_neg (Nat.succ_ne_zero t.val)]
  by_cases h0 : t.val = 0
  · rw [if_pos h0, if_neg (by omega : ¬ t.val = 15), hst, show stV V t.val = (k1_pay2, 0#32) by rw [h0]; rfl]
    iintro ⟨Hs, Hi, Ho⟩
    iapply (wp_wand_r frame _ Set.univ)
    isplitl [Hs Hi]
    · iapply (run_first c (grid1.coords t) (stage1_0 (cfg1.slots t 0)) (hstage1_0 ((cfg1.slots t 0).cast nbuf1_0)) (stage1_1 (cfg1.slots t 1)) (hstage1_1 ((cfg1.slots t 1).cast nbuf1_1)) (stage1_2 (cfg1.slots t 2)) (hstage1_2 ((cfg1.slots t 2).cast nbuf1_2)) (stage1_3 (cfg1.slots t 3)) (hstage1_3 ((cfg1.slots t 3).cast nbuf1_3)) (stage1_4 (cfg1.slots t 4)) (hstage1_4 ((cfg1.slots t 4).cast nbuf1_4)) (stage1_5 (cfg1.slots t 5)) (hstage1_5 ((cfg1.slots t 5).cast nbuf1_5)) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (cx V) (cy V) (cw V) (ch V) (cs V) (hc.trans h0))
      isplitl [Hi]; · iexact Hi
      iexact Hs
    iintro %_ ⟨Hi, Hs⟩
    isplitl [Hs]; · iexact Hs
    isplitl [Hi]; · iexact Hi
    iexact Ho
  · rw [if_neg h0, hst]
    by_cases h3 : t.val = 15
    · rw [if_pos h3]
      iintro ⟨Hs, Hi, Ho⟩
      iapply (wp_wand_r frame _ Set.univ)
      isplitl [Hs Hi Ho]
      · iapply (run_last c (grid1.coords t) (stage1_0 (cfg1.slots t 0)) (hstage1_0 ((cfg1.slots t 0).cast nbuf1_0)) (stage1_1 (cfg1.slots t 1)) (hstage1_1 ((cfg1.slots t 1).cast nbuf1_1)) (stage1_2 (cfg1.slots t 2)) (hstage1_2 ((cfg1.slots t 2).cast nbuf1_2)) (stage1_3 (cfg1.slots t 3)) (hstage1_3 ((cfg1.slots t 3).cast nbuf1_3)) (stage1_4 (cfg1.slots t 4)) (hstage1_4 ((cfg1.slots t 4).cast nbuf1_4)) (stage1_5 (cfg1.slots t 5)) (hstage1_5 ((cfg1.slots t 5).cast nbuf1_5)) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (cx V) (cy V) (cw V) (ch V) (cs V) (x1Of (cx V) (cw V)) (y1Of (cy V) (ch V)) (x2Of (cx V) (cw V)) (y2Of (cy V) (ch V)) (arOf (cx V) (cy V) (cw V) (ch V)) (stV V t.val) (hc.trans h3))
        isplitl [Hi]; · iexact Hi
        isplitl [Hs]; · iexact Hs
        iexact Ho
      iintro %_ ⟨Hi, Hs, Ho⟩
      isplitl [Hs]; · iexact Hs
      isplitl [Hi]; · iexact Hi
      rw [← hst, h3]
      iexact Ho
    · rw [if_neg h3]
      iintro ⟨Hs, Hi, Ho⟩
      iapply (wp_wand_r frame _ Set.univ)
      isplitl [Hs Hi]
      · iapply (run_mid c (grid1.coords t) (stage1_0 (cfg1.slots t 0)) (hstage1_0 ((cfg1.slots t 0).cast nbuf1_0)) (stage1_1 (cfg1.slots t 1)) (hstage1_1 ((cfg1.slots t 1).cast nbuf1_1)) (stage1_2 (cfg1.slots t 2)) (hstage1_2 ((cfg1.slots t 2).cast nbuf1_2)) (stage1_3 (cfg1.slots t 3)) (hstage1_3 ((cfg1.slots t 3).cast nbuf1_3)) (stage1_4 (cfg1.slots t 4)) (hstage1_4 ((cfg1.slots t 4).cast nbuf1_4)) (stage1_5 (cfg1.slots t 5)) (hstage1_5 ((cfg1.slots t 5).cast nbuf1_5)) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (cx V) (cy V) (cw V) (ch V) (cs V) (x1Of (cx V) (cw V)) (y1Of (cy V) (ch V)) (x2Of (cx V) (cw V)) (y2Of (cy V) (ch V)) (arOf (cx V) (cy V) (cw V) (ch V)) (stV V t.val) (fun h => h0 (hc.symm.trans h)) (fun h => h3 (hc.symm.trans h)))
        isplitl [Hi]; · iexact Hi
        iexact Hs
      iintro %_ ⟨Hi, Hs⟩
      isplitl [Hs]; · iexact Hs
      isplitl [Hi]; · iexact Hi
      iexact Ho

theorem holds_any (c : Dev nD) {sp : Space} {s : Shape} {e : EltTy} (m : Memref sig .tc sp s e) (X : Vec F s e) :
    (holds c m X : sProp 𝕄) ⊢ iprop(∃ f, scr c m f) := by
  unfold holds; iintro ⟨%f, -, H⟩; iexists f; iexact H

theorem any_holds (c : Dev nD) {sp : Space} {s : Shape} {e : EltTy} (m : Memref sig .tc sp s e) :
    iprop(∃ f, scr c m f) ⊢ (iprop(∃ d, holds c m d) : sProp 𝕄) := by
  unfold holds; iintro ⟨%f, H⟩; iexists (m.view.read (Elt F) f); iexists f; isplitr; · ipureintro; rfl
  iexact H

theorem before_5 (c : Dev nD) (d) : ∀ (n : ℕ) (h : n < cfg1.N), (dats V 0 c).before (5 : Fin 6) ⟨n, h⟩ d = d := by
  intro n
  induction n with
  | zero =>
    intro h
    unfold Dat.before
    rw [if_neg (by rw [show (cfg1.win 5).fetch ⟨0, h⟩ = false from rfl]; exact Bool.false_ne_true), if_pos rfl]
  | succ n ih =>
    intro h
    have h16 : cfg1.N = 16 := N_1
    unfold Dat.before
    rw [if_neg (by rw [show (cfg1.win 5).fetch ⟨n + 1, h⟩ = false from rfl]; exact Bool.false_ne_true), if_neg (Nat.succ_ne_zero n)]
    dsimp only
    rw [if_neg (by rw [flush1_5]; show ¬ (n + 1 - 1) % 16 = 15; omega)]
    have hlt : n + 1 - 1 < grid1.N := by have := N_1; omega
    rw [show idle1 5 (grid1.coords ⟨n + 1 - 1, hlt⟩) = true from (cond_last _).mpr (by
      rw [coords_val]; show ¬ (n + 1 - 1) = 15; omega)]
    dsimp only
    rw [Dat.found_eq_before]
    exact ih (by omega)

set_option maxHeartbeats 1000000 in
theorem body_obligation (c : Dev nD) : BodyObligation (dats V 0 c) (defs₀ (F := F)) 𝒱₀ none Set.univ := by
  intro t
  rw [bigSep_W1, bigSep_W1]
  dsimp only
  unfold Dat.owesAt Pipeline.owesWithin
  simp only [before_0, before_1, before_2, before_3, before_4]
  rw [show (dats V 0 c).Φ t.castSucc = Phi V c t.val from rfl, show (dats V 0 c).Φ t.succ = Phi V c (t.val + 1) from rfl]
  rw [show (dats V 0 c).owed t.castSucc = 0 from rfl, show (dats V 0 c).owed t.succ = 0 from rfl]
  have e0 : ∀ X, (owns (c : Thread nD τ) (stage1_0 (cfg1.slots t 0)) fullShare X : sProp 𝕄) = holds c (stage1_0 (cfg1.slots t 0)) X := fun X =>
    owns_holds c _ (hstage1_0 ((cfg1.slots t 0).cast nbuf1_0)) X
  have e1 : ∀ X, (owns (c : Thread nD τ) (stage1_1 (cfg1.slots t 1)) fullShare X : sProp 𝕄) = holds c (stage1_1 (cfg1.slots t 1)) X := fun X =>
    owns_holds c _ (hstage1_1 ((cfg1.slots t 1).cast nbuf1_1)) X
  have e2 : ∀ X, (owns (c : Thread nD τ) (stage1_2 (cfg1.slots t 2)) fullShare X : sProp 𝕄) = holds c (stage1_2 (cfg1.slots t 2)) X := fun X =>
    owns_holds c _ (hstage1_2 ((cfg1.slots t 2).cast nbuf1_2)) X
  have e3 : ∀ X, (owns (c : Thread nD τ) (stage1_3 (cfg1.slots t 3)) fullShare X : sProp 𝕄) = holds c (stage1_3 (cfg1.slots t 3)) X := fun X =>
    owns_holds c _ (hstage1_3 ((cfg1.slots t 3).cast nbuf1_3)) X
  have e4 : ∀ X, (owns (c : Thread nD τ) (stage1_4 (cfg1.slots t 4)) fullShare X : sProp 𝕄) = holds c (stage1_4 (cfg1.slots t 4)) X := fun X =>
    owns_holds c _ (hstage1_4 ((cfg1.slots t 4).cast nbuf1_4)) X
  have e5 : ∀ X, (owns (c : Thread nD τ) (stage1_5 (cfg1.slots t 5)) fullShare X : sProp 𝕄) = holds c (stage1_5 (cfg1.slots t 5)) X := fun X =>
    owns_holds c _ (hstage1_5 ((cfg1.slots t 5).cast nbuf1_5)) X
  simp only [e0, e1, e2, e3, e4, e5]
  have hb5 : ∀ d, (dats V 0 c).before (5 : Fin 6) t d = d := fun d => before_5 V c d t.val t.isLt
  simp only [hb5]
  iintro ⟨HP, ⟨%W, %hW, HO⟩, ⟨%d0, H0⟩, ⟨%d1, H1⟩, ⟨%d2, H2⟩, ⟨%d3, H3⟩, ⟨%d4, H4⟩, ⟨%d5, H5⟩⟩
  iapply (wp_wand_r frame _ Set.univ)
  isplitl [HP H0 H1 H2 H3 H4 H5]
  · iapply (body_at V c t)
    isplitl [HP]; · iexact HP
    isplitl [H0 H1 H2 H3 H4]
    · unfold insAt ins
      isplitl [H0]; · iexact H0
      isplitl [H1]; · iexact H1
      isplitl [H2]; · iexact H2
      isplitl [H3]; · iexact H3
      iexact H4
    iapply (holds_any c (stage1_5 (cfg1.slots t 5)) d5); iexact H5
  iintro %_ ⟨HP, Hi, Ho⟩
  isplitl [HP]; · iexact HP
  isplitl [HO]
  · iexists W
    isplitr
    · ipureintro; exact fun _ _ => Or.inl trivial
    iexact HO
  unfold insAt ins
  icases Hi with ⟨H0, H1, H2, H3, H4⟩
  isplitl [H0]; · iexact H0
  isplitl [H1]; · iexact H1
  isplitl [H2]; · iexact H2
  isplitl [H3]; · iexact H3
  isplitl [H4]; · iexact H4
  by_cases h3 : t.val = 15
  · rw [if_pos h3, show idle1 5 (grid1.coords t) = false from by
      rw [← Bool.not_eq_true, cond_last, coords_val]; exact fun h => h h3]
    exact Entails.rfl
  · rw [if_neg h3, show idle1 5 (grid1.coords t) = true from (cond_last _).mpr (by rw [coords_val]; exact h3),
      show (win1 5).flush t = false from by
        rw [← Bool.not_eq_true]; intro h; have := (flush1_5 t).mp h; have := hN t; omega]
    exact any_holds c (stage1_5 (cfg1.slots t 5))

/-! ## The region -/

abbrev L : GSem nD τ sig → Finset (HIx 1) := fun _ => ∅
abbrev lv : GSem nD τ sig → HIx 1 → ℕ := fun _ _ => 0
abbrev adm : (p : Fin 1) → (pcfgs (F := F) p).Adm := fun p => (cfgs p).toPCfg_adm

/-- The valuation after the region. -/
def outV : Valuation τ sig (Elt F) :=
  Function.update V (Proc.devRef .tc main_v21) (nmsOut (cx V) (cy V) (cw V) (ch V) (cs V))

theorem outV_21 : outV V (Proc.devRef .tc main_v21) = nmsOut (cx V) (cy V) (cw V) (ch V) (cs V) := Function.update_self _ _ _

theorem ownSemFacts : Pipeline.OwnSemFacts spec1 (fun k : Fin 0 => k.elim0) := by decide

theorem wholeAt : (cfg1.win 5).WholeAt t1_15 := by decide +kernel

theorem arrAt_last (c : Dev nD) (w : Fin 6) : (dats V 0 c).arrAt w cfg1.N = outV V (Proc.devRef .tc (Pipeline.arrRef spec1 w)) := by
  have hin : ∀ w : Fin 6, (cfg1.win w).isOut = false → Pipeline.arrRef spec1 w ≠ main_v21 →
      (dats V 0 c).arrAt w cfg1.N = outV V (Proc.devRef .tc (Pipeline.arrRef spec1 w)) := fun w hw hne => by
    refine ((dats V 0 c).arrAt_in w hw _).trans ?_
    unfold outV
    rw [Function.update_of_ne (StableHlo.devRef_ne_of_ne hne)]
    dsimp only [dats]
  match w with
  | 0 => exact hin 0 rfl (by decide)
  | 1 => exact hin 1 rfl (by decide)
  | 2 => exact hin 2 rfl (by decide)
  | 3 => exact hin 3 rfl (by decide)
  | 4 => exact hin 4 rfl (by decide)
  | 5 =>
    refine ((dats V 0 c).arrAt_eq_of_after_last (5 : Fin 6) t1_15 wholeAt _ fun j => ?_)
    refine Eq.trans ?_ (congrFun (outV_21 V) j).symm
    dsimp only [dats]
    rfl

theorem shareFull (c : Dev nD) (w : Fin 6) : (dats V 0 c).share w = fullShare := (dats V 0 c).share_full (fun _ => rfl) w

theorem phi0 (c : Dev nD) : (dats V 0 c).Φ 0 = scrAny c := by
  show Phi V c 0 = _; unfold Phi; rw [if_pos rfl]

theorem phiN (c : Dev nD) : ((dats V 0 c).Φ (Fin.last cfg1.N) : sProp 𝕄) ⊢ scrAny c := by
  show Phi V c cfg1.N ⊢ _
  unfold Phi; rw [if_neg (by rw [show cfg1.N = 16 from N_1]; decide)]; exact scrAll_any V c _

set_option backward.isDefEq.respectTransparency.types false in
def reg : Pipeline.RegionSeg (pcfgs (F := F)) adm (dats V) none defs₀ 𝒱₀ L lv 0 where
  win := launch1.win.to₀
  block_pos := launch1.block_pos
  stage_whole := launch1.stage_whole
  K := Fin 0
  osem := fun k => k.elim0
  ho := ownSemFacts
  hbody c := (body_obligation V c).loose
  hwaits := Pipeline.hwaits_of_owed_zero _ _ _ _ L lv 0 fun _ _ => rfl
  pre c := iprop(StableHlo.held (c : Thread nD τ) (Pipeline.arrRefs spec1) V ∗ ∃ W, owes (c : Thread nD τ) (0 : CellTallies nD τ sig (HIx 1)) W)
  post c := iprop(StableHlo.held (c : Thread nD τ) (Pipeline.arrRefs spec1) (outV V) ∗ ∃ W, owes (c : Thread nD τ) (0 : CellTallies nD τ sig (HIx 1)) W)
  X c := iprop(emp)
  Y c := iprop(emp)
  Z c := iprop(emp)
  hentry c := by
    have ha := Pipeline.arrays_held (pcfgs (F := F)) adm (dats V) 0 launch1.toP c (shareFull V c) ((dats V 0 c).arrAt · 0) V (fun _ => rfl)
    rw [← ha]
    iintro ⟨⟨Ha, ⟨%W, HO⟩⟩, -, -⟩
    imodintro
    isplitl [Ha]; · iexact Ha
    isplitr; · rw [Pipeline.prefHeld_of_none _ rfl]; iempintro
    isplitl [HO]
    · unfold Pipeline.Dat.owesAt Pipeline.owesWithin
      iexists W
      isplitr
      · ipureintro; exact fun _ _ => Or.inl trivial
      iexact HO
    isplitr <;> iempintro
  hin c := by
    rw [phi0]
    iintro ⟨-, -, Hr⟩
    iapply (Entails.of_eq (scopedRest1_eq c)); iexact Hr
  hout c := by
    refine (phiN V c).trans ?_
    iintro Hr
    isplitr; · iempintro
    isplitr
    · unfold Pipeline.ownSems0; rw [show (Finset.univ : Finset (Fin 0)) = ∅ from rfl, BI.bigSep_empty]; iempintro
    iapply (Entails.of_eq (scopedRest1_eq c).symm); iexact Hr
  hexit c := by
    have ha := Pipeline.arrays_held (pcfgs (F := F)) adm (dats V) 0 launch1.toP c (shareFull V c) ((dats V 0 c).arrAt · cfg1.N) (outV V) (arrAt_last V c)
    rw [← ha]
    iintro ⟨Ha, HO, -, -⟩
    imodintro
    isplitl [Ha]; · iexact Ha
    unfold Pipeline.Dat.owesAt Pipeline.owesWithin
    icases HO with ⟨%W, -, HO⟩
    iexists W
    iexact HO

end Data

end Cert.Proof.Region

end
-- ==== Proof.Main.lean ====
/-
  The whole program: the host operations before the SparseCore call, the call, the five reshapes, the TensorCore region,
  the slice of its result; and the run of all threads.
-/
module

public import proofs.«01_k».proof.Proof.Gather
public import proofs.«01_k».proof.Proof.Region
public import Idealize.ShloMosaic.Lib.StableHlo.RunRead
public import Idealize.ShloMosaic.Lib.SortFacts
public import Idealize.ShloMosaic.Lib.SparseCore.Quiescent

@[expose] public section

noncomputable section

namespace Cert.Proof.Main

open Cert.KernelIdeal Cert.KernelIdeal.Gen Cert.Proof.Tile

open Idealize.ShloMosaic Idealize.ShloMosaic.TcCoe Idealize.ShloMosaic.Tactic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (after held)

variable {F : FTy → Type} [FloatOps F]

local notation "𝕄" => MT nD τ sig (HIx 1) (Elt F) ℕ UU ℕ

/-! ## @main as three lines of host operations around the call and the region -/

def ops0 : List (HloOp τ sig (Elt F)) :=
  [StableHlo.unary main_arg0 main_v0 ((extractStridedSlice S1x20000 ![4, 0] · slices_S5x20000_S1x20000_4_0) : (⟨S5x20000, .f32⟩ : BufTy).Contents (Elt F) → (⟨S1x20000, .f32⟩ : BufTy).Contents (Elt F)),
   StableHlo.reshape main_v0 main_v1 (rfl : (.f32 : EltTy) = .f32) shapeCasts_S1x20000_S20000,
   StableHlo.nullary main_cst (constant S_ .f32 0x3DCCCCCD#32),
   StableHlo.unary main_cst main_v2 (broadcastInDim S20000 ![] bcast_S_S20000 : (⟨S_, .f32⟩ : BufTy).Contents (Elt F) → (⟨S20000, .f32⟩ : BufTy).Contents (Elt F)),
   StableHlo.binary main_v1 main_v2 main_v3 (cmpf .oge : (⟨S20000, .f32⟩ : BufTy).Contents (Elt F) → (⟨S20000, .f32⟩ : BufTy).Contents (Elt F) → (⟨S20000, .i1⟩ : BufTy).Contents (Elt F)),
   StableHlo.nullary main_cst_0 (constant S_ .f32 0xFF800000#32),
   StableHlo.TRef.unary (.of main_cst_0) main_call0.v0 id,
   StableHlo.TRef.unary main_call0.v0 main_call0.v1 (broadcastInDim S20000 ![] bcast_S_S20000),
   StableHlo.TRef.ternary (.of main_v3) (.of main_v1) main_call0.v1 main_call0.v2 select,
   StableHlo.unary main_v4 main_values ((fun x => (Host.topK S2048 0 (FloatOps.cmpfTotal .gt) x sliceFits_S20000_S2048).1) : (⟨S20000, .f32⟩ : BufTy).Contents (Elt F) → (⟨S2048, .f32⟩ : BufTy).Contents (Elt F)),
   StableHlo.unary main_v4 main_indices ((fun x => (Host.topK S2048 0 (FloatOps.cmpfTotal .gt) x sliceFits_S20000_S2048).2) : (⟨S20000, .f32⟩ : BufTy).Contents (Elt F) → (⟨S2048, .i32⟩ : BufTy).Contents (Elt F)),
   StableHlo.unary main_arg0 main_v5 ((extractStridedSlice S1x20000 ![0, 0] · slices_S5x20000_S1x20000_0_0) : (⟨S5x20000, .f32⟩ : BufTy).Contents (Elt F) → (⟨S1x20000, .f32⟩ : BufTy).Contents (Elt F)),
   StableHlo.reshape main_v5 main_v6 (rfl : (.f32 : EltTy) = .f32) shapeCasts_S1x20000_S20000,
   StableHlo.unary main_arg0 main_v7 ((extractStridedSlice S1x20000 ![1, 0] · slices_S5x20000_S1x20000_1_0) : (⟨S5x20000, .f32⟩ : BufTy).Contents (Elt F) → (⟨S1x20000, .f32⟩ : BufTy).Contents (Elt F)),
   StableHlo.reshape main_v7 main_v8 (rfl : (.f32 : EltTy) = .f32) shapeCasts_S1x20000_S20000,
   StableHlo.unary main_arg0 main_v9 ((extractStridedSlice S1x20000 ![2, 0] · slices_S5x20000_S1x20000_2_0) : (⟨S5x20000, .f32⟩ : BufTy).Contents (Elt F) → (⟨S1x20000, .f32⟩ : BufTy).Contents (Elt F)),
   StableHlo.reshape main_v9 main_v10 (rfl : (.f32 : EltTy) = .f32) shapeCasts_S1x20000_S20000,
   StableHlo.unary main_arg0 main_v11 ((extractStridedSlice S1x20000 ![3, 0] · slices_S5x20000_S1x20000_3_0) : (⟨S5x20000, .f32⟩ : BufTy).Contents (Elt F) → (⟨S1x20000, .f32⟩ : BufTy).Contents (Elt F)),
   StableHlo.reshape main_v11 main_v12 (rfl : (.f32 : EltTy) = .f32) shapeCasts_S1x20000_S20000,
   StableHlo.unary main_arg0 main_v13 ((extractStridedSlice S1x20000 ![4, 0] · slices_S5x20000_S1x20000_4_0) : (⟨S5x20000, .f32⟩ : BufTy).Contents (Elt F) → (⟨S1x20000, .f32⟩ : BufTy).Contents (Elt F)),
   StableHlo.reshape main_v13 main_v14 (rfl : (.f32 : EltTy) = .f32) shapeCasts_S1x20000_S20000]

def ops1 : List (HloOp τ sig (Elt F)) :=
  [StableHlo.reshape main_v15_0 main_v16 (rfl : (.f32 : EltTy) = .f32) shapeCasts_S2048_S16x128,
   StableHlo.reshape main_v15_1 main_v17 (rfl : (.f32 : EltTy) = .f32) shapeCasts_S2048_S16x128,
   StableHlo.reshape main_v15_2 main_v18 (rfl : (.f32 : EltTy) = .f32) shapeCasts_S2048_S16x128,
   StableHlo.reshape main_v15_3 main_v19 (rfl : (.f32 : EltTy) = .f32) shapeCasts_S2048_S16x128,
   StableHlo.reshape main_v15_4 main_v20 (rfl : (.f32 : EltTy) = .f32) shapeCasts_S2048_S16x128]

def ops2 : List (HloOp τ sig (Elt F)) :=
  [StableHlo.unary main_v21 main_v22 ((extractStridedSlice S300x5 ![0, 0] · slices_S304x8_S300x5_0_0) : (⟨S304x8, .f32⟩ : BufTy).Contents (Elt F) → (⟨S300x5, .f32⟩ : BufTy).Contents (Elt F))]

theorem main_eq (d : Dev nD) : main (F := F) d = (StableHlo.seq ops0 >>= fun _ => (K (F := F)).run d 0 >>= fun _ => StableHlo.seq ops1 >>= fun _ =>
    SparseCore.liftProg (Q := 1) (.op (.customCall (Pipeline.entry 0) ()) .ret) >>= fun _ => StableHlo.seq ops2) := by
  simp only [main, ops0, ops1, ops2, StableHlo.seq, fn_where.body, bind_assoc, pure_bind]
  rfl

abbrev W0 : List (Ref sig .tc) := [main_v0, main_v1, main_cst, main_v2, main_v3, main_cst_0, main_call0_v0, main_call0_v1, main_v4, main_values, main_indices,
  main_v5, main_v6, main_v7, main_v8, main_v9, main_v10, main_v11, main_v12, main_v13, main_v14]
abbrev W1 : List (Ref sig .tc) := [main_v16, main_v17, main_v18, main_v19, main_v20]

theorem ops0_writes : (ops0 (F := F)).map HloOp.writes = W0.map fun w => {Proc.devRef (τ := τ) .tc w} := rfl
theorem ops1_writes : (ops1 (F := F)).map HloOp.writes = W1.map fun w => {Proc.devRef (τ := τ) .tc w} := rfl

theorem sub0 : ∀ op ∈ ops0 (F := F), op.bufs ⊆ Pipeline.ucRefs τ sig := by
  intro op hop
  refine Pipeline.sub_ucRefs op ?_
  revert op
  rw [← List.forall_iff_forall_mem]
  simp only [ops0, List.Forall]
  exact ⟨StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub ..⟩
theorem sub1 : ∀ op ∈ ops1 (F := F), op.bufs ⊆ Pipeline.ucRefs τ sig := by
  intro op hop
  refine Pipeline.sub_ucRefs op ?_
  revert op
  rw [← List.forall_iff_forall_mem]
  simp only [ops1, List.Forall]
  exact ⟨StableHlo.reshape_bufs_sub .., StableHlo.reshape_bufs_sub .., StableHlo.reshape_bufs_sub .., StableHlo.reshape_bufs_sub .., StableHlo.reshape_bufs_sub ..⟩
theorem sub2 : ∀ op ∈ ops2 (F := F), op.bufs ⊆ Pipeline.ucRefs τ sig := by
  intro op hop
  refine Pipeline.sub_ucRefs op ?_
  revert op
  rw [← List.forall_iff_forall_mem]
  simp only [ops2, List.Forall]
  exact StableHlo.unary_bufs_sub ..
theorem fresh0 : ∀ op ∈ ops0 (F := F), op.fresh = ∅ := by
  rw [← List.forall_iff_forall_mem]; simp only [ops0, List.Forall]; exact ⟨rfl, rfl, rfl, rfl, rfl, rfl, rfl, rfl, rfl, rfl, rfl, rfl, rfl, rfl, rfl, rfl, rfl, rfl, rfl, rfl, rfl⟩
theorem fresh1 : ∀ op ∈ ops1 (F := F), op.fresh = ∅ := by
  rw [← List.forall_iff_forall_mem]; simp only [ops1, List.Forall]; exact ⟨rfl, rfl, rfl, rfl, rfl⟩
theorem fresh2 : ∀ op ∈ ops2 (F := F), op.fresh = ∅ := by
  rw [← List.forall_iff_forall_mem]; simp only [ops2, List.Forall]; rfl

/-! ## What the buffers hold at each stage -/

section Stages

variable (V : Valuation τ sig (Elt F))

def V1 : Valuation τ sig (Elt F) := after ops0 V

/-- The call's tables and indices. -/
def tabs : Fin 5 → Vec F S20000 .f32 := fun
  | 0 => V1 V (Proc.devRef .tc main_v6) | 1 => V1 V (Proc.devRef .tc main_v8) | 2 => V1 V (Proc.devRef .tc main_v10)
  | 3 => V1 V (Proc.devRef .tc main_v12) | 4 => V1 V (Proc.devRef .tc main_v14)
def inds : Vec F S2048 .i32 := V1 V (Proc.devRef .tc main_indices)

/-- After the call: the five results hold the tables' rows at the indices. -/
def V2 : Valuation τ sig (Elt F) :=
  Function.update (Function.update (Function.update (Function.update (Function.update (V1 V)
    (Proc.devRef .tc main_v15_0) (gat (tabs V 0) (inds V))) (Proc.devRef .tc main_v15_1) (gat (tabs V 1) (inds V)))
    (Proc.devRef .tc main_v15_2) (gat (tabs V 2) (inds V))) (Proc.devRef .tc main_v15_3) (gat (tabs V 3) (inds V)))
    (Proc.devRef .tc main_v15_4) (gat (tabs V 4) (inds V))

def V3 : Valuation τ sig (Elt F) := after ops1 (V2 V)
def V4 : Valuation τ sig (Elt F) := Region.outV (V3 V)
def V5 : Valuation τ sig (Elt F) := after ops2 (V4 V)

abbrev callList : List (Ref sig .tc) := [main_indices, main_v6, main_v8, main_v10, main_v12, main_v14, main_v15_0, main_v15_1, main_v15_2, main_v15_3, main_v15_4]
def callRefs : Finset (DevRef τ sig) := (callList.map (Proc.devRef (τ := τ) .tc)).toFinset

theorem callRefs_sub : callRefs ⊆ Pipeline.ucRefs τ sig := by decide +kernel

theorem held_call (d : Dev nD) (W : Valuation τ sig (Elt F)) : (held (d.tc : Thread nD τ) callRefs W : sProp 𝕄)
    = iprop(((SparseCore.T d).loc main_indices ↦{fullShare} W (Proc.devRef .tc main_indices))
      ∗ ((SparseCore.T d).loc main_v6 ↦{fullShare} W (Proc.devRef .tc main_v6))
      ∗ ((SparseCore.T d).loc main_v8 ↦{fullShare} W (Proc.devRef .tc main_v8))
      ∗ ((SparseCore.T d).loc main_v10 ↦{fullShare} W (Proc.devRef .tc main_v10))
      ∗ ((SparseCore.T d).loc main_v12 ↦{fullShare} W (Proc.devRef .tc main_v12))
      ∗ ((SparseCore.T d).loc main_v14 ↦{fullShare} W (Proc.devRef .tc main_v14))
      ∗ ((SparseCore.T d).loc main_v15_0 ↦{fullShare} W (Proc.devRef .tc main_v15_0))
      ∗ ((SparseCore.T d).loc main_v15_1 ↦{fullShare} W (Proc.devRef .tc main_v15_1))
      ∗ ((SparseCore.T d).loc main_v15_2 ↦{fullShare} W (Proc.devRef .tc main_v15_2))
      ∗ ((SparseCore.T d).loc main_v15_3 ↦{fullShare} W (Proc.devRef .tc main_v15_3))
      ∗ ((SparseCore.T d).loc main_v15_4 ↦{fullShare} W (Proc.devRef .tc main_v15_4))) := by
  unfold held
  rw [show callRefs = {Proc.devRef .tc main_indices, Proc.devRef .tc main_v6, Proc.devRef .tc main_v8, Proc.devRef .tc main_v10, Proc.devRef .tc main_v12, Proc.devRef .tc main_v14,
      Proc.devRef .tc main_v15_0, Proc.devRef .tc main_v15_1, Proc.devRef .tc main_v15_2, Proc.devRef .tc main_v15_3, Proc.devRef .tc main_v15_4} from by decide +kernel]
  repeat rw [SparseCore.bigSep_insert' (by decide +kernel)]
  rw [bigSep_singleton]

theorem V2_old {b : Ref sig .tc} (hb : b ∉ [main_v15_0, main_v15_1, main_v15_2, main_v15_3, main_v15_4]) : V2 V (Proc.devRef .tc b) = V1 V (Proc.devRef .tc b) := by
  simp only [List.mem_cons, List.not_mem_nil, or_false, not_or] at hb
  obtain ⟨h0, h1, h2, h3, h4⟩ := hb
  unfold V2
  rw [Function.update_of_ne (StableHlo.devRef_ne_of_ne h4), Function.update_of_ne (StableHlo.devRef_ne_of_ne h3), Function.update_of_ne (StableHlo.devRef_ne_of_ne h2),
    Function.update_of_ne (StableHlo.devRef_ne_of_ne h1), Function.update_of_ne (StableHlo.devRef_ne_of_ne h0)]
theorem V2_out4 : V2 V (Proc.devRef .tc main_v15_4) = gat (tabs V 4) (inds V) := Function.update_self _ _ _
theorem V2_out3 : V2 V (Proc.devRef .tc main_v15_3) = gat (tabs V 3) (inds V) := by
  unfold V2; rw [Function.update_of_ne (by decide +kernel), Function.update_self]
theorem V2_out2 : V2 V (Proc.devRef .tc main_v15_2) = gat (tabs V 2) (inds V) := by
  unfold V2; rw [Function.update_of_ne (by decide +kernel), Function.update_of_ne (by decide +kernel), Function.update_self]
theorem V2_out1 : V2 V (Proc.devRef .tc main_v15_1) = gat (tabs V 1) (inds V) := by
  unfold V2; rw [Function.update_of_ne (by decide +kernel), Function.update_of_ne (by decide +kernel), Function.update_of_ne (by decide +kernel), Function.update_self]
theorem V2_out0 : V2 V (Proc.devRef .tc main_v15_0) = gat (tabs V 0) (inds V) := by
  unfold V2; rw [Function.update_of_ne (by decide +kernel), Function.update_of_ne (by decide +kernel), Function.update_of_ne (by decide +kernel), Function.update_of_ne (by decide +kernel), Function.update_self]

theorem callPre_of (d : Dev nD) : (held (d.tc : Thread nD τ) callRefs (V1 V) : sProp 𝕄) ⊢ callPre (tabs V) (inds V) d := by
  rw [held_call]
  unfold callPre
  iintro ⟨H0, H1, H2, H3, H4, H5, G0, G1, G2, G3, G4⟩
  isplitl [H0]; · iexact H0
  isplitl [H1]; · iexact H1
  isplitl [H2]; · iexact H2
  isplitl [H3]; · iexact H3
  isplitl [H4]; · iexact H4
  isplitl [H5]; · iexact H5
  isplitl [G0]; · iexists _; iexact G0
  isplitl [G1]; · iexists _; iexact G1
  isplitl [G2]; · iexists _; iexact G2
  isplitl [G3]; · iexists _; iexact G3
  iexists _; iexact G4

theorem held_of_callPost (d : Dev nD) : (callPost (tabs V) (inds V) d : sProp 𝕄) ⊢ held (d.tc : Thread nD τ) callRefs (V2 V) := by
  rw [held_call, V2_out0, V2_out1, V2_out2, V2_out3, V2_out4, V2_old V (by decide), V2_old V (by decide), V2_old V (by decide), V2_old V (by decide), V2_old V (by decide), V2_old V (by decide)]
  exact Entails.rfl

theorem rest_call (d : Dev nD) : (held (d.tc : Thread nD τ) (Pipeline.ucRefs τ sig \ callRefs) (V1 V) : sProp 𝕄)
    = held (d.tc : Thread nD τ) (Pipeline.ucRefs τ sig \ callRefs) (V2 V) := by
  refine StableHlo.held_congr _ fun b hb => ?_
  obtain ⟨h1, h2⟩ := Finset.mem_sdiff.mp hb
  have hne : ∀ r ∈ callList, b ≠ Proc.devRef .tc r := fun r hr e => h2 (by unfold callRefs; rw [List.mem_toFinset]; exact List.mem_map.mpr ⟨r, hr, e.symm⟩)
  unfold V2
  rw [Function.update_of_ne (hne _ (by decide)), Function.update_of_ne (hne _ (by decide)), Function.update_of_ne (hne _ (by decide)),
    Function.update_of_ne (hne _ (by decide)), Function.update_of_ne (hne _ (by decide))]

theorem arr_sub : Pipeline.arrRefs spec1 ⊆ Pipeline.ucRefs τ sig := by decide +kernel

theorem rest_reg (d : Dev nD) : (held (d.tc : Thread nD τ) (Pipeline.ucRefs τ sig \ Pipeline.arrRefs spec1) (V3 V) : sProp 𝕄)
    = held (d.tc : Thread nD τ) (Pipeline.ucRefs τ sig \ Pipeline.arrRefs spec1) (V4 V) := by
  refine StableHlo.held_congr _ fun b hb => ?_
  obtain ⟨h1, h2⟩ := Finset.mem_sdiff.mp hb
  unfold V4 Region.outV
  rw [Function.update_of_ne]
  rintro rfl
  exact h2 (by decide +kernel)

theorem V5_arg0 : V5 V (Proc.devRef .tc main_arg0) = V (Proc.devRef .tc main_arg0) := by
  unfold V5
  rw [StableHlo.after_unwritten [main_v22] rfl (by decide)]
  unfold V4 Region.outV
  rw [Function.update_of_ne (by decide +kernel)]
  unfold V3
  rw [StableHlo.after_unwritten W1 ops1_writes (by decide), V2_old V (by decide)]
  unfold V1
  rw [StableHlo.after_unwritten W0 ops0_writes (by decide)]

end Stages

/-! ## The indices are in the tables -/

theorem topK_lt {α : Type} (gt : α → α → BitVec 1) (x : S20000.Idx → α) (j : S2048.Idx) :
    ((Host.topK S2048 0 gt x sliceFits_S20000_S2048).2 j).toNat < 20000 := by
  unfold Host.topK Host.sort2
  dsimp only [extractStridedSlice]
  rw [dif_pos (show 0 < S20000.rank by decide)]
  dsimp only
  rw [dif_pos (show 0 < S20000.rank by decide)]
  unfold iotaInDim
  rw [BitVec.toNat_ofNat]
  refine lt_of_le_of_lt (Nat.mod_le _ _) ?_
  exact Fin.isLt (n := 20000) _

theorem inds_lt (V : Valuation τ sig (Elt F)) (x : S2048.Idx) : (inds V x).toNat < 20000 := by
  unfold inds V1
  rw [StableHlo.after_last_write (i := 10) (W0.drop 11) rfl rfl (by decide), StableHlo.unary_result]
  exact topK_lt _ _ _

/-! ## The launch's ghost state -/

abbrev EP : Emb UP (MT nD τ sig (HIx 1) (Elt F) ℕ UU ℕ) := (Emb.inl : Emb UP (UP × Counters)).trans embR

instance EP_landsIn : (EP (F := F)).LandsIn (upEmb : UEmb _ 𝕄) := by
  unfold EP embR; infer_instance

abbrev pin0 : (p : Fin 1) → Pipeline.Cfg sig Λ₀ := Pipeline.pin (pcfgs (F := F)) Region.adm

theorem pinj : Function.Injective (Pipeline.cellOf (nD := nD) (τ := τ) (pin0 (F := F))) := cellOf_inj

def u₀ : UU := (initOf (K (F := F)).hsCells (K (F := F)).hsToks, (initOf (Pipeline.cells (pin0 (F := F)) pinj) (Pipeline.launchToks (pin0 (F := F)) pinj), 1))

/-- What the launch deals the TensorCore beyond the call's handshake: its pipeline's cells, unused. -/
def G (d : Dev nD) : sProp 𝕄 :=
  iprop(Pipeline.cellsGhost (pin0 (F := F)) EP 0 d ∗ Pipeline.toksInit (pin0 (F := F)) EP 0 d)

theorem emp_const {I : Type} (s : Finset I) : (bigSep s fun _ => iprop(emp)) = (iprop(emp) : sProp 𝕄) := bigSep_emp_const s

theorem one_pipe (f : Fin 1 → Dev nD → sProp 𝕄) : (bigSep Finset.univ fun c : Dev nD => bigSep Finset.univ fun p : Fin 1 => f p c) = bigSep Finset.univ (f 0) :=
  bigSep_congr fun _ _ => bigSep_univ_of_subsingleton (0 : Fin 1)

theorem hu₀ (A : Fin 5 → Vec F S20000 .f32) (IX : Vec F S2048 .i32) : (ownU (u₀ (F := F)) : sProp 𝕄)
    ⊢ |={Set.univ}=> iprop(BI.own (EH (initOf (K (F := F)).hsCells (K (F := F)).hsToks)) ∗ (bigSep Finset.univ (G (F := F)))
        ∗ bigSep Finset.univ fun thr : Thread nD τ => bigSep Finset.univ fun q : Fin 1 => (P A IX).x q thr) := by
  unfold u₀
  iintro Hu
  ihave H := (ownU_pair (initOf (K (F := F)).hsCells (K (F := F)).hsToks) ((initOf (Pipeline.cells (pin0 (F := F)) pinj) (Pipeline.launchToks (pin0 (F := F)) pinj), 1) : UP × Counters)) $$ Hu
  icases H with ⟨HH, HR⟩
  ihave H := (own_pair_emb (embR : Emb (UP × Counters) 𝕄) _ _) $$ HR
  icases H with ⟨HP, -⟩
  imod (Pipeline.fund_ghost (pin0 (F := F)) (EP (F := F)) pinj) $$ HP with ⟨Hg, Ht⟩
  imodintro
  isplitl [HH]; · iexact HH
  isplitl [Hg Ht]
  · unfold G
    rw [bigSep_sep']
    isplitl [Hg]
    · iapply (Entails.of_eq (one_pipe fun p c => Pipeline.cellsGhost (pin0 (F := F)) EP p c)); iexact Hg
    iapply (Entails.of_eq (one_pipe fun p c => Pipeline.toksInit (pin0 (F := F)) EP p c)); iexact Ht
  rw [show (bigSep Finset.univ fun thr : Thread nD τ => bigSep Finset.univ fun q : Fin 1 => (P A IX).x q thr) = bigSep Finset.univ fun _ => iprop(emp) from
    bigSep_congr fun _ _ => bigSep_univ_of_subsingleton (0 : Fin 1), emp_const]
  iempintro

/-! ## @main on the TensorCore -/

variable (m : (ℓ : Loc nD τ sig) → Buf (Elt F) ℓ) (ρ : Dev nD → PrngReg)

/-- The buffers at launch. There is one device. -/
def W₀ : Valuation τ sig (Elt F) := fun b => m ((0 : Dev nD), b)

abbrev FIN (d : Dev nD) : sProp 𝕄 := held (d.tc : Thread nD τ) (Pipeline.ucRefs τ sig) (V5 (W₀ m))

/-- Once the call is over nothing is owed, so the region may borrow the waits. -/
theorem st_open (d : Dev nD) : ((K (F := F)).tcSt EH d 1 : sProp 𝕄)
    ⊢ iprop((∃ W, owes (d.tc : Thread nD τ) (0 : CellTallies nD τ sig (HIx 1)) W) ∗ ((∃ W, owes (d.tc : Thread nD τ) (0 : CellTallies nD τ sig (HIx 1)) W) -∗ (K (F := F)).tcSt EH d 1)) := by
  unfold SparseCore.Cfg.tcSt
  rw [(K (F := F)).Otc_end d (le_refl 1)]
  iintro ⟨⟨%W, -, HO⟩, Hrest⟩
  isplitl [HO]; · iexists W; iexact HO
  iintro ⟨%W, HO⟩
  isplitl [HO]
  · iexists W
    isplitr; swap; · iexact HO
    ipureintro
    intro p _
    rcases hp : p.2 with _ | q
    · rw [(K (F := F)).lev_none]; exact Nat.zero_le _
    · refine ((K (F := F)).lev_some_le _ q).trans ?_
      have := q.isLt
      have h8 : (8 : ℕ) * q.val + 7 ≤ 8 := by omega
      exact h8.trans (by decide)
  iexact Hrest

theorem reg_post (V : Valuation τ sig (Elt F)) (d : Dev nD) : (Region.reg V).post d
    = iprop(held (d.tc : Thread nD τ) (Pipeline.arrRefs spec1) (Region.outV V) ∗ ∃ W, owes (d.tc : Thread nD τ) (0 : CellTallies nD τ sig (HIx 1)) W) := rfl
theorem reg_pre (V : Valuation τ sig (Elt F)) (d : Dev nD) : (Region.reg V).pre d
    = iprop(held (d.tc : Thread nD τ) (Pipeline.arrRefs spec1) V ∗ ∃ W, owes (d.tc : Thread nD τ) (0 : CellTallies nD τ sig (HIx 1)) W) := rfl
theorem levAts_none : (levAts Region.L Region.lv : sProp 𝕄) = iprop(emp) := by
  unfold levAts
  rw [bigSep_congr (Ψ := fun _ => iprop(emp)) fun _ _ => BI.bigSep_empty]
  exact emp_const _

theorem region_wp (V : Valuation τ sig (Elt F)) [∀ e, Nonempty (Elt F e)] (d : Dev nD) {Φ : PUnit → sProp 𝕄} :
    iprop(((boundary (d.tc : Thread nD τ) ∗ held (d.tc : Thread nD τ) (Pipeline.arrRefs spec1) (Region.outV V) ∗ ∃ W, owes (d.tc : Thread nD τ) (0 : CellTallies nD τ sig (HIx 1)) W) -∗ Φ ⟨⟩)
      ∗ boundary (d.tc : Thread nD τ) ∗ (held (d.tc : Thread nD τ) (Pipeline.arrRefs spec1) V ∗ ∃ W, owes (d.tc : Thread nD τ) (0 : CellTallies nD τ sig (HIx 1)) W) ∗ G d)
      ⊢ wp frame (wpE ((K (F := F)).defs (D (F := F))) 𝒱 (SparseCore.T d) none) Set.univ
          (SparseCore.liftProg (Q := 1) (.op (.customCall (Pipeline.entry 0) ()) .ret)) Φ := by
  unfold G
  iintro ⟨Hk, Hb, Hpre, Hg, Ht⟩
  iapply ((K (F := F)).wp_liftProg (D (F := F)) 𝒱 (SparseCore.T d) Set.univ none _ Φ)
  iapply (Pipeline.RegionSeg.wp (pcfgs (F := F)) Region.adm (Region.dats V) none pinj (EP (F := F)) defs₀ 𝒱₀ Region.L Region.lv (Region.reg V) d none (fun u h => nomatch h) .ret Φ)
  rw [reg_post, reg_pre, levAts_none]
  isplitl [Hk]
  · iintro ⟨Hb, Hp⟩
    rw [wp_ret]
    imodintro
    iapply Hk
    isplitl [Hb]; · iexact Hb
    iexact Hp
  isplitl [Hb]; · iexact Hb
  isplitl [Hpre]; · iexact Hpre
  isplitr; · iempintro
  isplitl [Hg]; · iexact Hg
  iexact Ht

theorem callPost_held (d : Dev nD) (V : Valuation τ sig (Elt F)) :
    iprop((bigSep Finset.univ fun c : Fin ((K (F := F)).nCore 0) => (P (tabs V) (inds V)).dn 0 d c) ∗ held (d.tc : Thread nD τ) (Pipeline.ucRefs τ sig \ callRefs) (V1 V))
      ⊢ (held (d.tc : Thread nD τ) (Pipeline.ucRefs τ sig) (V2 V) : sProp 𝕄) := by
  rw [StableHlo.held_sub_split _ callRefs_sub (V2 V), rest_call]
  iintro ⟨Hd, Hr⟩
  isplitl [Hd]
  · iapply (held_of_callPost V d)
    iapply (callPost_of_dn (tabs V) (inds V) d); iexact Hd
  iexact Hr

theorem split_call (d : Dev nD) (V : Valuation τ sig (Elt F)) : (held (d.tc : Thread nD τ) (Pipeline.ucRefs τ sig) (after ops0 V) : sProp 𝕄)
    ⊢ iprop(held (d.tc : Thread nD τ) callRefs (V1 V) ∗ held (d.tc : Thread nD τ) (Pipeline.ucRefs τ sig \ callRefs) (V1 V)) :=
  Entails.of_eq (StableHlo.held_sub_split _ callRefs_sub (V1 V))

theorem split_reg (d : Dev nD) (V : Valuation τ sig (Elt F)) : (held (d.tc : Thread nD τ) (Pipeline.ucRefs τ sig) (after ops1 (V2 V)) : sProp 𝕄)
    ⊢ iprop(held (d.tc : Thread nD τ) (Pipeline.arrRefs spec1) (V3 V) ∗ held (d.tc : Thread nD τ) (Pipeline.ucRefs τ sig \ Pipeline.arrRefs spec1) (V3 V)) :=
  Entails.of_eq (StableHlo.held_sub_split _ arr_sub (V3 V))

theorem join_reg (d : Dev nD) (V : Valuation τ sig (Elt F)) :
    iprop(held (d.tc : Thread nD τ) (Pipeline.arrRefs spec1) (Region.outV (V3 V)) ∗ held (d.tc : Thread nD τ) (Pipeline.ucRefs τ sig \ Pipeline.arrRefs spec1) (V3 V))
      ⊢ (held (d.tc : Thread nD τ) (Pipeline.ucRefs τ sig) (V4 V) : sProp 𝕄) := by
  rw [rest_reg]
  exact Entails.of_eq (StableHlo.held_sub_split _ arr_sub (V4 V)).symm

theorem fin_held (d : Dev nD) (V : Valuation τ sig (Elt F)) : (held (d.tc : Thread nD τ) (Pipeline.ucRefs τ sig) (after ops2 (V4 V)) : sProp 𝕄)
    ⊢ held (d.tc : Thread nD τ) (Pipeline.ucRefs τ sig) (V5 V) := Entails.rfl

theorem st_open' (d : Dev nD) : ((K (F := F)).tcSt EH d ((0 : Fin 1).val + 1) : sProp 𝕄)
    ⊢ iprop((∃ W, owes (d.tc : Thread nD τ) (0 : CellTallies nD τ sig (HIx 1)) W) ∗ ((∃ W, owes (d.tc : Thread nD τ) (0 : CellTallies nD τ sig (HIx 1)) W) -∗ (K (F := F)).tcSt EH d 1)) :=
  st_open d

theorem hmain [∀ e, Nonempty (Elt F e)] (κ : GSem nD τ sig → ℕ) (d : Dev nD) :
    iprop((K (F := F)).ctx EH (P (tabs (W₀ m)) (inds (W₀ m))) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  obtain rfl : d = 0 := Subsingleton.elim _ _
  unfold SparseCore.Cfg.tcRes SparseCore.Cfg.tcEnd FIN
  rw [main_eq, show (unscopedBufs (0 : Dev nD) (fun b => m ((SparseCore.T (0 : Dev nD)).loc b)) : sProp 𝕄) = unscopedBufs (0 : Dev nD) (fun b => W₀ m b) from rfl]
  iintro ⟨#Hctx, Hst, ⟨Hb, Hu, Hts, -⟩, HG⟩
  ihave Hh := (Entails.of_eq (Pipeline.unscopedBufs_held (0 : Dev nD) (W₀ m))) $$ Hu
  iapply (StableHlo.wp_seq 𝒱 none Set.univ (0 : Dev nD) (Pipeline.ucRefs τ sig) _ ops0 sub0 fresh0 (W₀ m)) $$ [Hb Hh]
  · isplitl [Hb] <;> iassumption
  iintro ⟨Hb, Hh⟩
  ihave Hh := (split_call (0 : Dev nD) (W₀ m)) $$ Hh
  icases Hh with ⟨Hc, Hr⟩
  rw [wp_bind]
  iapply ((K (F := F)).wp_run (D (F := F)) 𝒱 (EH := EH) (P := P (tabs (W₀ m)) (inds (W₀ m))) κ (0 : Dev nD) 0) $$ [Hst Hc Hr Hb Hts HG]
  isplitr; · iexact Hctx
  isplitl [Hst]; · iexact Hst
  isplitl [Hc]
  · iapply (st_of_callPre (tabs (W₀ m)) (inds (W₀ m)) (0 : Dev nD))
    iapply (callPre_of (W₀ m) (0 : Dev nD)); iexact Hc
  iintro ⟨Hst, Hdn⟩
  ihave Hh := (callPost_held (0 : Dev nD) (W₀ m)) $$ [Hdn Hr]
  · isplitl [Hdn] <;> iassumption
  iapply (StableHlo.wp_seq 𝒱 none Set.univ (0 : Dev nD) (Pipeline.ucRefs τ sig) _ ops1 sub1 fresh1 (V2 (W₀ m))) $$ [Hb Hh]
  · isplitl [Hb] <;> iassumption
  iintro ⟨Hb, Hh⟩
  ihave Hh := (split_reg (0 : Dev nD) (W₀ m)) $$ Hh
  icases Hh with ⟨Ha, Hr⟩
  ihave Hst := (st_open' (F := F) (0 : Dev nD)) $$ Hst
  icases Hst with ⟨HO, Hback⟩
  rw [wp_bind]
  iapply (region_wp (V3 (W₀ m)) (0 : Dev nD)) $$ [Ha HO Hback Hr Hb Hts HG]
  isplitl [Hback Hr Hts]
  · iintro ⟨Hb, Ha, HO⟩
    ihave Hst := Hback $$ HO
    ihave Hh := (join_reg (0 : Dev nD) (W₀ m)) $$ [Ha Hr]
    · isplitl [Ha] <;> iassumption
    rw [← bind_pure (StableHlo.seq ops2)]
    iapply (StableHlo.wp_seq 𝒱 none Set.univ (0 : Dev nD) (Pipeline.ucRefs τ sig) _ ops2 sub2 fresh2 (V4 (W₀ m))) $$ [Hb Hh]
    · isplitl [Hb] <;> iassumption
    iintro ⟨Hb, Hh⟩
    rw [wp_pure]
    imodintro
    isplitl [Hst]; · iexact Hst
    isplitl [Hh]; · iapply (fin_held (0 : Dev nD) (W₀ m)); iexact Hh
    isplitl [Hb] <;> iassumption
  isplitl [Hb]; · iexact Hb
  isplitl [Ha HO]
  · isplitl [Ha] <;> iassumption
  iexact HG

/-! ## The run -/

def fq (d : Dev nD) (s' : Phys nD τ sig (Elt F)) : Prop :=
  s'.mem.mem ((d.tc : Thread nD τ).loc main_v22) = V5 (W₀ m) (Proc.devRef .tc main_v22)
    ∧ s'.mem.mem ((d.tc : Thread nD τ).loc main_arg0) = m ((d.tc : Thread nD τ).loc main_arg0)

theorem held_two (d : Dev nD) (W : Valuation τ sig (Elt F)) : (held (d.tc : Thread nD τ) (Pipeline.ucRefs τ sig) W : sProp 𝕄)
    ⊢ iprop(((d.tc : Thread nD τ).loc main_v22 ↦{fullShare} W (Proc.devRef .tc main_v22)) ∗ ((d.tc : Thread nD τ).loc main_arg0 ↦{fullShare} W (Proc.devRef .tc main_arg0))) := by
  rw [StableHlo.held_sub_split _ (show ({Proc.devRef .tc main_v22, Proc.devRef .tc main_arg0} : Finset (DevRef τ sig)) ⊆ Pipeline.ucRefs τ sig by decide +kernel) W]
  unfold held
  rw [SparseCore.bigSep_insert' (by decide +kernel), bigSep_singleton]
  exact sep_elim_left

set_option maxRecDepth 16384 in
theorem hfin (d : Dev nD) (s' : Phys nD τ sig (Elt F)) : iprop(FIN m d ∗ SI s') ⊢ (⌜fq m d s'⌝ : sProp 𝕄) := by
  obtain rfl : d = 0 := Subsingleton.elim _ _
  iintro ⟨HF, HSI⟩
  ihave HF := (held_two (0 : Dev nD) (V5 (W₀ m))) $$ HF
  icases HF with ⟨Hi, Hx⟩
  ihave H := (persistent_entails_right (SI_pointsTo_agree (st := s') (ℓ := ((0 : Dev nD).tc : Thread nD τ).loc main_v22) (I := Finset.univ) (q := fullShare) (f := V5 (W₀ m) (Proc.devRef .tc main_v22)))) $$ [HSI Hi]
  · isplitl [HSI] <;> iassumption
  icases H with ⟨%h1, HSI, -⟩
  ihave H := (SI_pointsTo_agree (st := s') (ℓ := ((0 : Dev nD).tc : Thread nD τ).loc main_arg0) (I := Finset.univ) (q := fullShare) (f := V5 (W₀ m) (Proc.devRef .tc main_arg0))) $$ [HSI Hx]
  · isplitl [HSI] <;> iassumption
  icases H with %h2
  ipureintro
  refine ⟨funext fun i => h1 i (Finset.mem_univ i), funext fun i => (h2 i (Finset.mem_univ i)).trans ?_⟩
  rw [V5_arg0]; rfl

/-- Every run ends with the result as computed, the argument as launched, and every counter at zero. -/
def QC : PUnit × MemSt nD τ sig (Elt F) → Prop := fun r => (∀ c : Dev nD,
    r.2.mem ((c.tc : Thread nD τ).loc main_v22) = V5 (W₀ m) (Proc.devRef .tc main_v22)
      ∧ r.2.mem ((c.tc : Thread nD τ).loc main_arg0) = m ((c.tc : Thread nD τ).loc main_arg0)) ∧ r.2.sem = fun _ => 0

theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (tabs (W₀ m)) (inds (W₀ m))) (A := ∅) facts v₀
    (fun q hq => match q with | 0 => nomatch hq)
    (fun q _ => match q with | 0 => tileObl _ _ (inds_lt (W₀ m)))
    (fun q _ => match q with | 0 => SparseCore.Cfg.VecSplit.of_plain (vecSplit _ _))
    m ρ main G (FIN m) (u₀ (F := F)) (sep_elim_left.trans (hu₀ _ _)) (hmain m ρ) (fq m) (hfin m) (QC m) (fun _ h hz => ⟨h, hz⟩)

end Cert.Proof.Main

end
-- ==== Proof.KOut.lean ====
/-
  The idealized kernel's result, from the five tables and the indices.
-/
module

public import proofs.«01_k».proof.Proof.Spec
public import proofs.«01_k».proof.Proof.Main

@[expose] public section

noncomputable section

namespace Cert.Proof

open Cert.KernelIdeal Cert.KernelIdeal.Gen
open Idealize.ShloMosaic
open scoped Classical

section

variable (CX CY W H SC : Vec Ideal S16x128 .f32)

/-- The five values of a candidate. -/
def fives : Fin 5 → ℕ → EReal := fun
  | 0 => fl CX | 1 => fl CY | 2 => fl W | 3 => fl H | 4 => fl SC

theorem fl_of (A : Vec Ideal S16x128 .f32) (j : ℕ) (h : j < 2048) : fl A j = A (ix2 ⟨j / 128, by omega⟩ ⟨j % 128, by omega⟩) := dif_pos h

theorem fl_x1 (j : ℕ) (h : j < 2048) : fl (x1Of CX W) j = bx1 (fives CX CY W H SC) j := by
  unfold bx1 fives
  simp only [fl_of _ j h]
  pointwise [x1Of, k1_pay8, k1_pay4, k1_pay6]
  rfl

theorem fl_y1 (j : ℕ) (h : j < 2048) : fl (y1Of CY H) j = by1 (fives CX CY W H SC) j := by
  unfold by1 fives
  simp only [fl_of _ j h]
  pointwise [y1Of, k1_pay9, k1_pay5, k1_pay7]
  rfl

theorem fl_x2 (j : ℕ) (h : j < 2048) : fl (x2Of CX W) j = bx2 (fives CX CY W H SC) j := by
  unfold bx2 fives
  simp only [fl_of _ j h]
  pointwise [x2Of, k1_pay10, k1_pay4, k1_pay6]
  rfl

theorem fl_y2 (j : ℕ) (h : j < 2048) : fl (y2Of CY H) j = by2 (fives CX CY W H SC) j := by
  unfold by2 fives
  simp only [fl_of _ j h]
  pointwise [y2Of, k1_pay11, k1_pay5, k1_pay7]
  rfl

theorem fl_ar (j : ℕ) (h : j < 2048) : fl (arOf CX CY W H) j = bar (fives CX CY W H SC) j := by
  unfold bar
  rw [← fl_x1 CX CY W H SC j h, ← fl_x2 CX CY W H SC j h, ← fl_y1 CX CY W H SC j h, ← fl_y2 CX CY W H SC j h]
  simp only [fl_of _ j h]
  unfold arOf
  generalize x1Of CX W = a
  generalize x2Of CX W = b
  generalize y1Of CY H = c
  generalize y2Of CY H = d
  pointwise [k1_pay1, k1_pay12]

/-- The kernel's order is the common one, among the candidates there are. -/
theorem greedy_fives (j : ℕ) (hj : j < 2048) :
    greedy (Ov (x1Of CX W) (y1Of CY H) (x2Of CX W) (y2Of CY H) (arOf CX CY W H)) j ↔ greedy (BOv (fives CX CY W H SC)) j := by
  refine greedy_unique (BOv (fives CX CY W H SC)) 2048 _ (fun i hi => ?_) j hj
  rw [greedy_iff]
  refine not_congr (exists_congr fun a => and_congr_right fun ha => and_congr_left fun _ => ?_)
  unfold Ov BOv biou
  rw [fl_x1 CX CY W H SC i hi, fl_x2 CX CY W H SC i hi, fl_y1 CX CY W H SC i hi, fl_y2 CX CY W H SC i hi, fl_ar CX CY W H SC i hi,
    fl_x1 CX CY W H SC a (by omega), fl_x2 CX CY W H SC a (by omega), fl_y1 CX CY W H SC a (by omega), fl_y2 CX CY W H SC a (by omega),
    fl_ar CX CY W H SC a (by omega)]

theorem val_fives (j : ℕ) (hj : j < 2048) :
    Val (x1Of CX W) (y1Of CY H) (x2Of CX W) (y2Of CY H) (arOf CX CY W H) SC j ↔ BVal (fives CX CY W H SC) j := by
  unfold Val BVal
  rw [greedy_fives CX CY W H SC j hj]
  rfl

/-- The candidates shown before row 300 are those that count. -/
theorem shown_iff (j : ℕ) (hj : j < 2048) (r : ℕ) (hr : r < 300) :
    (Shown SC (keepsOf CX CY W H SC) j ∧ cntB (Shown SC (keepsOf CX CY W H SC)) j = r)
      ↔ (BVal (fives CX CY W H SC) j ∧ cntB (BVal (fives CX CY W H SC)) j = r) := by
  obtain ⟨m, hm, hor, hK, -⟩ := stAt_inv (x1Of CX W) (y1Of CY H) (x2Of CX W) (y2Of CY H) (arOf CX CY W H) SC 16 le_rfl
  have hS : ∀ i, i < 2048 → (Shown SC (keepsOf CX CY W H SC) i ↔ i < 128 * m ∧ BVal (fives CX CY W H SC) i) := by
    intro i hi
    unfold Shown keepsOf
    rw [hK i hi, half_lt, greedy_fives CX CY W H SC i hi]
    unfold BVal
    show (conf ≤ fl SC i ∧ _) ↔ (_ ∧ conf ≤ fl SC i ∧ _)
    tauto
  by_cases hjm : j < 128 * m
  · have hc : cntB (Shown SC (keepsOf CX CY W H SC)) j = cntB (BVal (fives CX CY W H SC)) j :=
      cntB_congr j fun i hi => (hS i (by omega)).trans ⟨fun h => h.2, fun h => ⟨by omega, h⟩⟩
    rw [hc, hS j hj]
    exact ⟨fun h => ⟨h.1.2, h.2⟩, fun h => ⟨⟨hjm, h.1⟩, h.2⟩⟩
  · have h3 : 300 ≤ cntB (BVal (fives CX CY W H SC)) (128 * m) := by
      rcases hor with h | h
      · omega
      · rwa [cntB_congr (128 * m) fun i hi => val_fives CX CY W H SC i (by omega)] at h
    constructor
    · intro h
      exact absurd ((hS j hj).mp h.1).1 hjm
    · intro h
      have := cntB_mono (BVal (fives CX CY W H SC)) (Nat.le_of_not_lt hjm)
      omega

/-- What the TensorCore kernel writes in the result's 300 rows. -/
theorem nms_shows : Shows (fives CX CY W H SC)
    fun r k => nmsOut CX CY W H SC (ix2 ⟨r.val, by omega⟩ ⟨k.val, by omega⟩) := by
  intro r k
  have hp : ∀ (c : Fin 16) (l : Fin 128), k1_pay32 SC (keepsOf CX CY W H SC) (ix2 l c) = (((⟨r.val, by omega⟩ : Fin 304).val : ℝ) : EReal)
      ↔ BVal (fives CX CY W H SC) (128 * c + l) ∧ cntB (BVal (fives CX CY W H SC)) (128 * c + l) = r := by
    intro c l
    rw [pay32_apply SC (keepsOf CX CY W H SC) c l ⟨r.val, by omega⟩, ← shown_iff CX CY W H SC _ (by omega) r r.isLt]
    have := r.isLt
    constructor
    · rintro ⟨h1, h2, h3⟩; exact ⟨h1, h3⟩
    · rintro ⟨h1, h3⟩; exact ⟨h1, by omega, h3⟩
  have key : ∀ (v : FVec Ideal S128x16 .f32) (o : EReal),
      (∀ (c : Fin 16) (l : Fin 128), v (ix2 l c) = bout (fives CX CY W H SC) k (128 * c + l)) →
      o = ∑ c : Fin 16, term (k1_pay32 SC (keepsOf CX CY W H SC)) v ⟨r.val, by omega⟩ c →
      ((∀ j, j < 2048 → BVal (fives CX CY W H SC) j → cntB (BVal (fives CX CY W H SC)) j = r → o = bout (fives CX CY W H SC) k j)
      ∧ ((∀ j, j < 2048 → ¬ (BVal (fives CX CY W H SC) j ∧ cntB (BVal (fives CX CY W H SC)) j = r)) → o = 0)) := by
    intro v o hv ho
    rw [ho]
    obtain ⟨h1, h2⟩ := sum_term _ v ⟨r.val, by omega⟩ (fun j => BVal (fives CX CY W H SC) j ∧ cntB (BVal (fives CX CY W H SC)) j = r)
      (bout (fives CX CY W H SC) k) hp hv
    exact ⟨fun j hj hv hc => h1 j hj ⟨hv, hc⟩ fun i _ hi => cntB_inj hi.1 hv (hi.2.trans hc.symm), h2⟩
  clear hp
  unfold nmsOut
  generalize keepsOf CX CY W H SC = K at key ⊢
  match k with
  | 0 =>
    refine key (k1_pay34 k1_pay31 (k1_pay33 CX)) _ (fun c l => ?_) (emit0 CX CY W H SC K ⟨r.val, by omega⟩)
    rw [pay34_apply, ← fl_at CX c.val c.isLt l]; rfl
  | 1 =>
    refine key (k1_pay35 k1_pay31 CY) _ (fun c l => ?_) (emit1 CX CY W H SC K ⟨r.val, by omega⟩)
    rw [pay35_apply, ← fl_at CY c.val c.isLt l]; rfl
  | 2 =>
    refine key (k1_pay36 k1_pay31 W) _ (fun c l => ?_) (emit2 CX CY W H SC K ⟨r.val, by omega⟩)
    rw [pay36_apply, ← fl_at W c.val c.isLt l]; rfl
  | 3 =>
    refine key (k1_pay37 k1_pay31 H) _ (fun c l => ?_) (emit3 CX CY W H SC K ⟨r.val, by omega⟩)
    rw [pay37_apply, ← fl_at H c.val c.isLt l]; rfl
  | 4 =>
    refine key (k1_pay38 k1_pay31 SC) _ (fun c l => ?_) (emit4 CX CY W H SC K ⟨r.val, by omega⟩)
    rw [pay38_apply, ← fl_at SC c.val c.isLt l]; rfl

end

end Cert.Proof

end
-- ==== Proof.KIn.lean ====
/-
  The kernel's result, from its argument.
-/
module

public import proofs.«01_k».proof.Proof.Cand
public import proofs.«01_k».proof.Proof.KOut
public import Idealize.ShloMosaic.Lib.StableHlo.ReadAt

@[expose] public section

noncomputable section

namespace Cert.Proof.KI

open Cert.KernelIdeal Cert.KernelIdeal.Gen Cert.Proof.Tile Cert.Proof.Main
open Idealize.ShloMosaic Idealize.ShloMosaic.TcCoe
open Idealize.ShloMosaic.StableHlo
open scoped Classical

section

variable (V : Valuation τ sig (Elt Ideal))

/-- The argument. -/
abbrev ar : S5x20000.Idx → EReal := V (Proc.devRef .tc main_arg0)

set_option maxRecDepth 8192 in
theorem V1_v4 : (V1 V (Proc.devRef .tc main_v4) : S20000.Idx → EReal) = th (ar V) := by
  funext n
  obtain ⟨n, rfl⟩ : ∃ k : Fin 20000, n = ix1 k := ⟨n 0, by funext a; fin_cases a; rfl⟩
  simp only [V1, ops0]
  after_reads_at
  have hb : (id (constant (F := Ideal) S_ .f32 0xFF800000#32) ix0 : EReal) = ⊥ := by
    change Ideal.ofBits .f32 0xFF800000#32 = ⊥
    simp [Ideal.ofBits, Ideal.ieee, -EReal.coe_mul]
  rw [hb]
  rfl

set_option maxRecDepth 8192 in
theorem V1_inds : V1 V (Proc.devRef .tc main_indices) = (Host.topK S2048 0 (FloatOps.cmpfTotal (F := Ideal) (φ := .f32) .gt) (V1 V (Proc.devRef .tc main_v4)) sliceFits_S20000_S2048).2 := by
  simp only [V1, ops0]
  after_reads_simp

theorem inds_eq (j : Fin 2048) : inds V (ix1 j) = BitVec.ofNat 32 (pos (ar V) j j.isLt).val := by
  unfold inds
  rw [V1_inds, V1_v4]
  exact (topK_read (th (ar V)) sliceFits_S20000_S2048 (by norm_num) j).2

set_option maxRecDepth 8192 in
theorem tab_0 (n : Fin 20000) : tabs V 0 (ix1 n) = ar V (ix2 0 n) := by
  simp only [tabs, V1, ops0]
  after_reads_at

set_option maxRecDepth 8192 in
theorem tab_1 (n : Fin 20000) : tabs V 1 (ix1 n) = ar V (ix2 1 n) := by
  simp only [tabs, V1, ops0]
  after_reads_at

set_option maxRecDepth 8192 in
theorem tab_2 (n : Fin 20000) : tabs V 2 (ix1 n) = ar V (ix2 2 n) := by
  simp only [tabs, V1, ops0]
  after_reads_at

set_option maxRecDepth 8192 in
theorem tab_3 (n : Fin 20000) : tabs V 3 (ix1 n) = ar V (ix2 3 n) := by
  simp only [tabs, V1, ops0]
  after_reads_at

set_option maxRecDepth 8192 in
theorem tab_4 (n : Fin 20000) : tabs V 4 (ix1 n) = ar V (ix2 4 n) := by
  simp only [tabs, V1, ops0]
  after_reads_at

/-- The call leaves the candidates' values. -/
theorem gat_eq (f : Fin 5) (j : Fin 2048) : gat (tabs V f) (inds V) (ix1 j) = cand (ar V) f j := by
  have ht : ∀ n : Fin 20000, tabs V f (ix1 n) = ar V (ix2 f n) := by
    match f with
    | 0 => exact tab_0 V | 1 => exact tab_1 V | 2 => exact tab_2 V | 3 => exact tab_3 V | 4 => exact tab_4 V
  have hi : (⟨(inds V (ix1 j)).toNat % 20000, Nat.mod_lt _ (by decide)⟩ : Fin 20000) = pos (ar V) j j.isLt := by
    apply Fin.ext
    show (inds V (ix1 j)).toNat % 20000 = _
    rw [inds_eq, BitVec.toNat_ofNat]
    have := (pos (ar V) j j.isLt).isLt
    omega
  rw [cand_of _ _ _ j.isLt, ← ht, ← hi]
  unfold gat
  exact congrArg (tabs V f) (eq_ix1 _)

theorem V3_16 (a : Fin 16) (b : Fin 128) : (V3 V (Proc.devRef .tc main_v16) : S16x128.Idx → EReal) (ix2 a b)
    = (V2 V (Proc.devRef .tc main_v15_0) : S2048.Idx → EReal) (ix1 ⟨a * 128 + b, by omega⟩) := by
  simp only [V3, ops1]
  after_reads_at

theorem V3_17 (a : Fin 16) (b : Fin 128) : (V3 V (Proc.devRef .tc main_v17) : S16x128.Idx → EReal) (ix2 a b)
    = (V2 V (Proc.devRef .tc main_v15_1) : S2048.Idx → EReal) (ix1 ⟨a * 128 + b, by omega⟩) := by
  simp only [V3, ops1]
  after_reads_at

theorem V3_18 (a : Fin 16) (b : Fin 128) : (V3 V (Proc.devRef .tc main_v18) : S16x128.Idx → EReal) (ix2 a b)
    = (V2 V (Proc.devRef .tc main_v15_2) : S2048.Idx → EReal) (ix1 ⟨a * 128 + b, by omega⟩) := by
  simp only [V3, ops1]
  after_reads_at

theorem V3_19 (a : Fin 16) (b : Fin 128) : (V3 V (Proc.devRef .tc main_v19) : S16x128.Idx → EReal) (ix2 a b)
    = (V2 V (Proc.devRef .tc main_v15_3) : S2048.Idx → EReal) (ix1 ⟨a * 128 + b, by omega⟩) := by
  simp only [V3, ops1]
  after_reads_at

theorem V3_20 (a : Fin 16) (b : Fin 128) : (V3 V (Proc.devRef .tc main_v20) : S16x128.Idx → EReal) (ix2 a b)
    = (V2 V (Proc.devRef .tc main_v15_4) : S2048.Idx → EReal) (ix1 ⟨a * 128 + b, by omega⟩) := by
  simp only [V3, ops1]
  after_reads_at

theorem fl_eq (A : Vec Ideal S16x128 .f32) (f : Fin 5)
    (h : ∀ (a : Fin 16) (b : Fin 128), A (ix2 a b) = cand (ar V) f (a * 128 + b)) (j : ℕ) : fl A j = cand (ar V) f j := by
  by_cases hj : j < 2048
  · rw [fl_of A j hj, h]
    exact congrArg (cand (ar V) f) (by show j / 128 * 128 + j % 128 = j; omega)
  · unfold fl cand
    rw [dif_neg hj, dif_neg hj]

theorem fives_eq : fives (Region.cx (V3 V)) (Region.cy (V3 V)) (Region.cw (V3 V)) (Region.ch (V3 V)) (Region.cs (V3 V)) = cand (ar V) := by
  funext f j
  match f with
  | 0 => exact fl_eq V _ 0 (fun a b => (V3_16 V a b).trans ((congrFun (V2_out0 V) _).trans (gat_eq V 0 ⟨a * 128 + b, by omega⟩))) j
  | 1 => exact fl_eq V _ 1 (fun a b => (V3_17 V a b).trans ((congrFun (V2_out1 V) _).trans (gat_eq V 1 ⟨a * 128 + b, by omega⟩))) j
  | 2 => exact fl_eq V _ 2 (fun a b => (V3_18 V a b).trans ((congrFun (V2_out2 V) _).trans (gat_eq V 2 ⟨a * 128 + b, by omega⟩))) j
  | 3 => exact fl_eq V _ 3 (fun a b => (V3_19 V a b).trans ((congrFun (V2_out3 V) _).trans (gat_eq V 3 ⟨a * 128 + b, by omega⟩))) j
  | 4 => exact fl_eq V _ 4 (fun a b => (V3_20 V a b).trans ((congrFun (V2_out4 V) _).trans (gat_eq V 4 ⟨a * 128 + b, by omega⟩))) j

theorem V5_22 (r : Fin 300) (k : Fin 5) : (V5 V (Proc.devRef .tc main_v22) : S300x5.Idx → EReal) (ix2 r k)
    = (V4 V (Proc.devRef .tc main_v21) : S304x8.Idx → EReal) (ix2 ⟨r.val, by omega⟩ ⟨k.val, by omega⟩) := by
  simp only [V5, ops2]
  after_reads_at

theorem V4_21 : V4 V (Proc.devRef .tc main_v21) = nmsOut (Region.cx (V3 V)) (Region.cy (V3 V)) (Region.cw (V3 V)) (Region.ch (V3 V)) (Region.cs (V3 V)) := by
  unfold V4
  exact Region.outV_21 _

theorem shows_of (C : Fin 5 → ℕ → EReal) (N : S304x8.Idx → EReal) (CX CY W H SC : Vec Ideal S16x128 .f32) (hN : N = nmsOut CX CY W H SC)
    (hC : fives CX CY W H SC = C) (o : S300x5.Idx → EReal) (ho : ∀ (r : Fin 300) (k : Fin 5), o (ix2 r k) = N (ix2 ⟨r.val, by omega⟩ ⟨k.val, by omega⟩)) :
    Shows C fun r k => o (ix2 r k) := by
  subst hN hC
  simp only [ho]
  exact nms_shows CX CY W H SC

/-- The result shows what it should. -/
theorem res_shows : Shows (cand (ar V)) fun r k => (V5 V (Proc.devRef .tc main_v22) : S300x5.Idx → EReal) (ix2 r k) :=
  shows_of _ _ _ _ _ _ _ (V4_21 V) (fives_eq V) _ (V5_22 V)

end

end Cert.Proof.KI

end
-- ==== Proof.RPre.lean ====
/-
  What the reference's stretch before the loop leaves: the best candidates, their boxes and their overlaps.
-/
module

public import proofs.«01_k».proof.Proof.Spec
public import proofs.«01_k».proof.Proof.Sort
public import proofs.«01_k».proof.Proof.Gen.ReferenceIdeal.Run
public import Idealize.ShloMosaic.Lib.Pointwise
public import Idealize.ShloMosaic.Lib.StableHlo.ReadAt
public import Idealize.ShloMosaic.Lib.Routing.Ops

@[expose] public section

noncomputable section

namespace Cert.Proof.R

open Cert.ReferenceIdeal Cert.ReferenceIdeal.Gen Cert.ReferenceIdeal.Value
open Idealize.ShloMosaic Idealize.ShloMosaic.TcCoe
open Idealize.ShloMosaic.StableHlo
open scoped Classical

section

variable (V : Valuation τ sig (Elt Ideal))

/-- Two. -/
def two : EReal := Ideal.ofBits .f32 0x40000000#32

abbrev segA : List (HloOp τ sig (Elt Ideal)) := hostOps0_2.take 11
abbrev segB1 : List (HloOp τ sig (Elt Ideal)) := (hostOps0_2.drop 11).take 8
abbrev segB2 : List (HloOp τ sig (Elt Ideal)) := (hostOps0_2.drop 19).take 12
abbrev segC : List (HloOp τ sig (Elt Ideal)) := hostOps0_2.drop 31

theorem seg_cut : (hostOps0_2 : List (HloOp τ sig (Elt Ideal))) = segA ++ (segB1 ++ (segB2 ++ segC)) := rfl

set_option maxRecDepth 8192 in
set_option maxHeartbeats 1700000 in
theorem read_values  : after segA V (Proc.devRef .tc main_values) = (Host.topK S2048 0 (FloatOps.cmpfTotal (F := Ideal) (φ := .f32) .gt) (V (Proc.devRef .tc main_v5)) sliceFits_S20000_S2048).1 := by
  simp only [segA, hostOps0_2, List.take_succ_cons, List.take_zero]
  after_reads_simp

set_option maxRecDepth 8192 in
set_option maxHeartbeats 1700000 in
theorem read_v12 (x : S20000.Idx → EReal) (hx : V (Proc.devRef .tc main_v5) = x) (j : Fin 2048) (f : Fin 5) : (after segA V (Proc.devRef .tc main_v12) : S2048x5.Idx → EReal) (ix2 j f)
      = (V (Proc.devRef .tc main_v0) : S20000x5.Idx → EReal) (ix2 (sortedFrom (gtAt x) ⟨j.val, by omega⟩) f) := by
  simp only [segA, hostOps0_2, List.take_succ_cons, List.take_zero]
  after_reads_at
  rw [hx]
  refine Routing.gather_row _ rfl rfl rfl rfl rfl _ _ j f (sortedFrom (gtAt x) ⟨j.val, by omega⟩) ?_ (by norm_num)
  pointwise
  rw [(topK_read x sliceFits_S20000_S2048 (by norm_num) j).2]
  exact wrap_nat _ 20000 (by omega)

set_option maxRecDepth 8192 in
set_option maxHeartbeats 1700000 in
theorem read_v18_0 (j : Fin 2048) : (after segB1 V (Proc.devRef .tc main_v18) : S2048x2.Idx → EReal) (ix2 j 0)
      = @HSub.hSub EReal EReal EReal _ ((V (Proc.devRef .tc main_v12) : S2048x5.Idx → EReal) (ix2 j 0)) (Ideal.div ((V (Proc.devRef .tc main_v12) : S2048x5.Idx → EReal) (ix2 j 2)) two) := by
  simp only [segB1, hostOps0_2, List.drop_succ_cons, List.drop_zero, List.take_succ_cons, List.take_zero]
  after_reads_at
  rfl

set_option maxRecDepth 8192 in
set_option maxHeartbeats 1700000 in
theorem read_v18_1 (j : Fin 2048) : (after segB1 V (Proc.devRef .tc main_v18) : S2048x2.Idx → EReal) (ix2 j 1)
      = @HSub.hSub EReal EReal EReal _ ((V (Proc.devRef .tc main_v12) : S2048x5.Idx → EReal) (ix2 j 1)) (Ideal.div ((V (Proc.devRef .tc main_v12) : S2048x5.Idx → EReal) (ix2 j 3)) two) := by
  simp only [segB1, hostOps0_2, List.drop_succ_cons, List.drop_zero, List.take_succ_cons, List.take_zero]
  after_reads_at
  rfl

set_option maxRecDepth 8192 in
set_option maxHeartbeats 1700000 in
theorem read_v19_0 (j : Fin 2048) : (after segB1 V (Proc.devRef .tc main_v19) : S2048x2.Idx → EReal) (ix2 j 0)
      = @HAdd.hAdd EReal EReal EReal _ ((V (Proc.devRef .tc main_v12) : S2048x5.Idx → EReal) (ix2 j 0)) (Ideal.div ((V (Proc.devRef .tc main_v12) : S2048x5.Idx → EReal) (ix2 j 2)) two) := by
  simp only [segB1, hostOps0_2, List.drop_succ_cons, List.drop_zero, List.take_succ_cons, List.take_zero]
  after_reads_at
  rfl

set_option maxRecDepth 8192 in
set_option maxHeartbeats 1700000 in
theorem read_v19_1 (j : Fin 2048) : (after segB1 V (Proc.devRef .tc main_v19) : S2048x2.Idx → EReal) (ix2 j 1)
      = @HAdd.hAdd EReal EReal EReal _ ((V (Proc.devRef .tc main_v12) : S2048x5.Idx → EReal) (ix2 j 1)) (Ideal.div ((V (Proc.devRef .tc main_v12) : S2048x5.Idx → EReal) (ix2 j 3)) two) := by
  simp only [segB1, hostOps0_2, List.drop_succ_cons, List.drop_zero, List.take_succ_cons, List.take_zero]
  after_reads_at
  rfl

set_option maxRecDepth 8192 in
set_option maxHeartbeats 1700000 in
theorem read_v22 (j : Fin 2048) : (after segB2 V (Proc.devRef .tc main_v22) : S2048.Idx → EReal) (ix1 j) = (V (Proc.devRef .tc main_v18) : S2048x2.Idx → EReal) (ix2 j 0) := by
  simp only [segB2, hostOps0_2, List.drop_succ_cons, List.drop_zero, List.take_succ_cons, List.take_zero]
  after_reads_at
  rfl

set_option maxRecDepth 8192 in
set_option maxHeartbeats 1700000 in
theorem read_v24 (j : Fin 2048) : (after segB2 V (Proc.devRef .tc main_v24) : S2048.Idx → EReal) (ix1 j) = (V (Proc.devRef .tc main_v18) : S2048x2.Idx → EReal) (ix2 j 1) := by
  simp only [segB2, hostOps0_2, List.drop_succ_cons, List.drop_zero, List.take_succ_cons, List.take_zero]
  after_reads_at
  rfl

set_option maxRecDepth 8192 in
set_option maxHeartbeats 1700000 in
theorem read_v26 (j : Fin 2048) : (after segB2 V (Proc.devRef .tc main_v26) : S2048.Idx → EReal) (ix1 j) = (V (Proc.devRef .tc main_v19) : S2048x2.Idx → EReal) (ix2 j 0) := by
  simp only [segB2, hostOps0_2, List.drop_succ_cons, List.drop_zero, List.take_succ_cons, List.take_zero]
  after_reads_at
  rfl

set_option maxRecDepth 8192 in
set_option maxHeartbeats 1700000 in
theorem read_v28 (j : Fin 2048) : (after segB2 V (Proc.devRef .tc main_v28) : S2048.Idx → EReal) (ix1 j) = (V (Proc.devRef .tc main_v19) : S2048x2.Idx → EReal) (ix2 j 1) := by
  simp only [segB2, hostOps0_2, List.drop_succ_cons, List.drop_zero, List.take_succ_cons, List.take_zero]
  after_reads_at
  rfl

set_option maxRecDepth 8192 in
set_option maxHeartbeats 1700000 in
theorem read_v31 (j : Fin 2048) : (after segB2 V (Proc.devRef .tc main_v31) : S2048.Idx → EReal) (ix1 j)
      = @HMul.hMul EReal EReal EReal _ (@HSub.hSub EReal EReal EReal _ ((V (Proc.devRef .tc main_v19) : S2048x2.Idx → EReal) (ix2 j 0)) ((V (Proc.devRef .tc main_v18) : S2048x2.Idx → EReal) (ix2 j 0))) (@HSub.hSub EReal EReal EReal _ ((V (Proc.devRef .tc main_v19) : S2048x2.Idx → EReal) (ix2 j 1)) ((V (Proc.devRef .tc main_v18) : S2048x2.Idx → EReal) (ix2 j 1))) := by
  simp only [segB2, hostOps0_2, List.drop_succ_cons, List.drop_zero, List.take_succ_cons, List.take_zero]
  after_reads_at
  rfl

/-- The overlap's parts, from the vectors of the corners and of the areas. -/
def vinter (i j : Fin 2048) : EReal :=
  max (@HSub.hSub EReal EReal EReal _ (min ((V (Proc.devRef .tc main_v26) : S2048.Idx → EReal) (ix1 i)) ((V (Proc.devRef .tc main_v26) : S2048.Idx → EReal) (ix1 j)))
    (max ((V (Proc.devRef .tc main_v22) : S2048.Idx → EReal) (ix1 i)) ((V (Proc.devRef .tc main_v22) : S2048.Idx → EReal) (ix1 j)))) 0
  * max (@HSub.hSub EReal EReal EReal _ (min ((V (Proc.devRef .tc main_v28) : S2048.Idx → EReal) (ix1 i)) ((V (Proc.devRef .tc main_v28) : S2048.Idx → EReal) (ix1 j)))
    (max ((V (Proc.devRef .tc main_v24) : S2048.Idx → EReal) (ix1 i)) ((V (Proc.devRef .tc main_v24) : S2048.Idx → EReal) (ix1 j)))) 0

def vunion (i j : Fin 2048) : EReal :=
  @HAdd.hAdd EReal EReal EReal _ ((V (Proc.devRef .tc main_v31) : S2048.Idx → EReal) (ix1 i)) ((V (Proc.devRef .tc main_v31) : S2048.Idx → EReal) (ix1 j)) - vinter V i j

set_option maxRecDepth 8192 in
set_option maxHeartbeats 1700000 in
theorem read_v66 (i j : Fin 2048) : (after segC V (Proc.devRef .tc main_v66) : S2048x2048.Idx → BitVec 1) (ix2 i j) = BitVec.ofBool (decide (0 < vunion V i j)) := by
  simp only [segC, hostOps0_2, List.drop_succ_cons, List.drop_zero, List.take_succ_cons, List.take_zero]
  after_reads_at
  unfold vunion vinter
  rfl

set_option maxRecDepth 8192 in
set_option maxHeartbeats 1700000 in
theorem read_v67 (i j : Fin 2048) : (after segC V (Proc.devRef .tc main_v67) : S2048x2048.Idx → EReal) (ix2 i j) = Ideal.div (vinter V i j) (vunion V i j) := by
  simp only [segC, hostOps0_2, List.drop_succ_cons, List.drop_zero, List.take_succ_cons, List.take_zero]
  after_reads_at
  unfold vunion vinter
  rfl

set_option maxRecDepth 8192 in
set_option maxHeartbeats 1700000 in
theorem read_cst_8  : (after segC V (Proc.devRef .tc main_cst_8) : S_.Idx → EReal) = fun _ => (0 : EReal) := by
  simp only [segC, hostOps0_2, List.drop_succ_cons, List.drop_zero, List.take_succ_cons, List.take_zero]
  after_reads_simp
  funext i
  exact Ideal.ofBits_zero_f32

end

end Cert.Proof.R

end
-- ==== Proof.RMid.lean ====
/-
  What the reference holds on entry to its loop.
-/
module

public import proofs.«01_k».proof.Proof.Cand
public import proofs.«01_k».proof.Proof.RPre

@[expose] public section

noncomputable section

namespace Cert.Proof.R

open Cert.ReferenceIdeal Cert.ReferenceIdeal.Gen Cert.ReferenceIdeal.Value
open Idealize.ShloMosaic Idealize.ShloMosaic.TcCoe
open Idealize.ShloMosaic.StableHlo
open scoped Classical

section

variable (V : Valuation τ sig (Elt Ideal))

theorem keep_A_cst : after segA V (Proc.devRef .tc main_cst) = V (Proc.devRef .tc main_cst) := by
  simp only [segA, hostOps0_2, List.take_succ_cons, List.take_zero]
  after_reads_simp

theorem keep_B1_v12 : after segB1 V (Proc.devRef .tc main_v12) = V (Proc.devRef .tc main_v12) := by
  simp only [segB1, hostOps0_2, List.drop_succ_cons, List.drop_zero, List.take_succ_cons, List.take_zero]
  after_reads_simp

theorem keep_C_v12 : after segC V (Proc.devRef .tc main_v12) = V (Proc.devRef .tc main_v12) := by
  simp only [segC, hostOps0_2, List.drop_succ_cons, List.drop_zero, List.take_succ_cons, List.take_zero]
  after_reads_simp

/-- The thresholded scores. -/
theorem read_v5 : (after hostOps0_1 (after hostOps0 V) (Proc.devRef .tc main_v5) : S20000.Idx → EReal) = th (V (Proc.devRef .tc main_arg0) : S5x20000.Idx → EReal) := by
  funext n
  obtain ⟨n, rfl⟩ : ∃ k : Fin 20000, n = ix1 k := ⟨n 0, by funext a; fin_cases a; rfl⟩
  simp only [hostOps0, hostOps0_1]
  after_reads_at
  have hb : (id (constant (F := Ideal) S_ .f32 0xFF800000#32) ix0 : EReal) = ⊥ := by
    change Ideal.ofBits .f32 0xFF800000#32 = ⊥
    simp [Ideal.ofBits, Ideal.ieee, -EReal.coe_mul]
  rw [hb]
  rfl

theorem read_v0 (n : Fin 20000) (f : Fin 5) : (after hostOps0 V (Proc.devRef .tc main_v0) : S20000x5.Idx → EReal) (ix2 n f) = (V (Proc.devRef .tc main_arg0) : S5x20000.Idx → EReal) (ix2 f n) := by
  simp only [hostOps0]
  after_reads_at

theorem read_cst : (after hostOps0 V (Proc.devRef .tc main_cst) : S4.Idx → EReal) = fun i => Ideal.ofBits .f32 (lit0 (S4.rowMajor i)) := by
  simp only [hostOps0]
  after_reads_simp
  rfl

theorem read_v68 (i j : Fin 2048) (p : BitVec 1) (q z : EReal) (hp : (V (Proc.devRef .tc main_v66) : S2048x2048.Idx → BitVec 1) (ix2 i j) = p)
   (hq : (V (Proc.devRef .tc main_v67) : S2048x2048.Idx → EReal) (ix2 i j) = q) (hz : (V (Proc.devRef .tc main_cst_8) : S_.Idx → EReal) = fun _ => z) :
   (after hostOps0_4 (after hostOps0_3 V) (Proc.devRef .tc main_v71_0) : S2048x2048.Idx → EReal) (ix2 i j) = Scalar.select p q z := by
  simp only [hostOps0_3, hostOps0_4]
  after_reads_at
  change Scalar.select ((V (Proc.devRef .tc main_v66) : S2048x2048.Idx → BitVec 1) (ix2 i j)) ((V (Proc.devRef .tc main_v67) : S2048x2048.Idx → EReal) (ix2 i j))
    ((V (Proc.devRef .tc main_cst_8) : S_.Idx → EReal) _) = _
  rw [hp, hq, hz]

theorem read_71_1 : (after hostOps0_4 V (Proc.devRef .tc main_v71_1) : S2048.Idx → BitVec 32) = fun i => BitVec.ofNat 32 (i 0).val := by
  simp only [hostOps0_4]
  after_reads_simp
  rfl
theorem read_71_3 : (after hostOps0_4 V (Proc.devRef .tc main_v71_3) : S_.Idx → BitVec 32) = fun i => BitVec.ofNat 32 0 := by
  simp only [hostOps0_4]
  after_reads_simp
  rfl
theorem read_71_4 : (after hostOps0_4 V (Proc.devRef .tc main_v71_4) : S2048.Idx → BitVec 1) = fun i => 1#1 := by
  simp only [hostOps0_4]
  after_reads_simp
  rfl

end

end Cert.Proof.R

end
-- ==== Proof.RIn.lean ====
/-
  The reference's values on entry to its loop, from its argument.
-/
module

public import proofs.«01_k».proof.Proof.RMid

@[expose] public section

noncomputable section

namespace Cert.Proof.R

open Cert.ReferenceIdeal Cert.ReferenceIdeal.Gen Cert.ReferenceIdeal.Value
open Idealize.ShloMosaic Idealize.ShloMosaic.TcCoe
open Idealize.ShloMosaic.StableHlo
open scoped Classical

section

variable (V : Valuation τ sig (Elt Ideal))

/-- The argument. -/
abbrev ar : S5x20000.Idx → EReal := V (Proc.devRef .tc main_arg0)

/-- The contents at the cuts of the stretch before the loop. -/
abbrev U0 : Valuation τ sig (Elt Ideal) := after hostOps0_1 (after hostOps0 V)
abbrev UA : Valuation τ sig (Elt Ideal) := after segA (U0 V)
abbrev UB : Valuation τ sig (Elt Ideal) := after segB1 (UA V)
abbrev UD : Valuation τ sig (Elt Ideal) := after segB2 (UB V)
abbrev UC : Valuation τ sig (Elt Ideal) := after segC (UD V)

theorem pre_cut : afterL preI V = after hostOps0_4 (after hostOps0_3 (UC V)) := by
  simp only [preI, afterL_cons, afterL_nil]
  rw [seg_cut, after_append, after_append, after_append]

theorem keep_B2_v12 : after segB2 V (Proc.devRef .tc main_v12) = V (Proc.devRef .tc main_v12) := by
  simp only [segB2, hostOps0_2, List.drop_succ_cons, List.drop_zero, List.take_succ_cons, List.take_zero]
  after_reads_simp

theorem keep_values : after (segB1 ++ (segB2 ++ segC)) V (Proc.devRef .tc main_values) = V (Proc.devRef .tc main_values) := by
  simp only [segB1, segB2, segC, hostOps0_2, List.drop_succ_cons, List.drop_zero, List.take_succ_cons, List.take_zero, List.cons_append, List.nil_append]
  after_reads_simp

theorem U0_v0 (n : Fin 20000) (f : Fin 5) : (U0 V (Proc.devRef .tc main_v0) : S20000x5.Idx → EReal) (ix2 n f) = ar V (ix2 f n) := by
  unfold U0
  rw [after_of_writes_sub (r := main_v0) hostOps0_1 _ hostOps0_1_writes (by decide +kernel)]
  exact read_v0 V n f

theorem UA_v12 (j : Fin 2048) (f : Fin 5) : (UA V (Proc.devRef .tc main_v12) : S2048x5.Idx → EReal) (ix2 j f) = cand (ar V) f j := by
  rw [cand_of _ _ _ j.isLt]
  exact (read_v12 (U0 V) _ (read_v5 V) j f).trans (U0_v0 V _ f)

theorem UA_values (j : Fin 2048) : (UA V (Proc.devRef .tc main_values) : S2048.Idx → EReal) (ix1 j) = sc (ar V) j := by
  unfold UA
  rw [read_values, show (U0 V (Proc.devRef .tc main_v5)) = th (ar V) from read_v5 V]
  exact (topK_read (th (ar V)) sliceFits_S20000_S2048 (by norm_num) j).1

theorem UB_18_0 (j : Fin 2048) : (UB V (Proc.devRef .tc main_v18) : S2048x2.Idx → EReal) (ix2 j 0) = bx1 (cand (ar V)) j := by
  refine (read_v18_0 (UA V) j).trans ?_
  rw [UA_v12, UA_v12]
  unfold two
  rw [div_two]
  rfl

theorem UB_18_1 (j : Fin 2048) : (UB V (Proc.devRef .tc main_v18) : S2048x2.Idx → EReal) (ix2 j 1) = by1 (cand (ar V)) j := by
  refine (read_v18_1 (UA V) j).trans ?_
  rw [UA_v12, UA_v12]
  unfold two
  rw [div_two]
  rfl

theorem UB_19_0 (j : Fin 2048) : (UB V (Proc.devRef .tc main_v19) : S2048x2.Idx → EReal) (ix2 j 0) = bx2 (cand (ar V)) j := by
  refine (read_v19_0 (UA V) j).trans ?_
  rw [UA_v12, UA_v12]
  unfold two
  rw [div_two]
  rfl

theorem UB_19_1 (j : Fin 2048) : (UB V (Proc.devRef .tc main_v19) : S2048x2.Idx → EReal) (ix2 j 1) = by2 (cand (ar V)) j := by
  refine (read_v19_1 (UA V) j).trans ?_
  rw [UA_v12, UA_v12]
  unfold two
  rw [div_two]
  rfl

theorem UD_22 (j : Fin 2048) : (UD V (Proc.devRef .tc main_v22) : S2048.Idx → EReal) (ix1 j) = bx1 (cand (ar V)) j :=
  (read_v22 (UB V) j).trans (UB_18_0 V j)

theorem UD_24 (j : Fin 2048) : (UD V (Proc.devRef .tc main_v24) : S2048.Idx → EReal) (ix1 j) = by1 (cand (ar V)) j :=
  (read_v24 (UB V) j).trans (UB_18_1 V j)

theorem UD_26 (j : Fin 2048) : (UD V (Proc.devRef .tc main_v26) : S2048.Idx → EReal) (ix1 j) = bx2 (cand (ar V)) j :=
  (read_v26 (UB V) j).trans (UB_19_0 V j)

theorem UD_28 (j : Fin 2048) : (UD V (Proc.devRef .tc main_v28) : S2048.Idx → EReal) (ix1 j) = by2 (cand (ar V)) j :=
  (read_v28 (UB V) j).trans (UB_19_1 V j)

theorem UD_31 (j : Fin 2048) : (UD V (Proc.devRef .tc main_v31) : S2048.Idx → EReal) (ix1 j) = bar (cand (ar V)) j := by
  refine (read_v31 (UB V) j).trans ?_
  rw [UB_18_0, UB_18_1, UB_19_0, UB_19_1]
  rfl

theorem UD_inter (i j : Fin 2048) : vinter (UD V) i j
    = max (min (bx2 (cand (ar V)) i) (bx2 (cand (ar V)) j) - max (bx1 (cand (ar V)) i) (bx1 (cand (ar V)) j)) 0
      * max (min (by2 (cand (ar V)) i) (by2 (cand (ar V)) j) - max (by1 (cand (ar V)) i) (by1 (cand (ar V)) j)) 0 := by
  unfold vinter
  rw [UD_22, UD_22, UD_24, UD_24, UD_26, UD_26, UD_28, UD_28]

theorem UD_union (i j : Fin 2048) : vunion (UD V) i j = bar (cand (ar V)) i + bar (cand (ar V)) j
    - max (min (bx2 (cand (ar V)) i) (bx2 (cand (ar V)) j) - max (bx1 (cand (ar V)) i) (bx1 (cand (ar V)) j)) 0
      * max (min (by2 (cand (ar V)) i) (by2 (cand (ar V)) j) - max (by1 (cand (ar V)) i) (by1 (cand (ar V)) j)) 0 := by
  unfold vunion
  rw [UD_inter, UD_31, UD_31]

theorem select_prop (P : Prop) [Decidable P] (a b : EReal) : Scalar.select (BitVec.ofBool (decide P)) a b = if P then a else b := by
  by_cases h : P
  · simp [h, Scalar.select]
  · simp [h, Scalar.select]

/-- The overlaps. -/
theorem pre_mat (i j : Fin 2048) : (afterL preI V (Proc.devRef .tc main_v71_0) : S2048x2048.Idx → EReal) (ix2 i j) = biou (cand (ar V)) i j := by
  rw [pre_cut]
  refine (read_v68 (UC V) i j _ _ _ (read_v66 (UD V) i j) (read_v67 (UD V) i j) (read_cst_8 (UD V))).trans ?_
  rw [select_prop, UD_inter, UD_union]
  rfl

theorem pre_values (j : Fin 2048) : (afterL preI V (Proc.devRef .tc main_values) : S2048.Idx → EReal) (ix1 j) = sc (ar V) j := by
  rw [pre_cut, after_of_writes_sub (r := main_values) hostOps0_4 _ hostOps0_4_writes (by decide +kernel),
    after_of_writes_sub (r := main_values) hostOps0_3 _ hostOps0_3_writes (by decide +kernel)]
  unfold UC UD UB
  rw [← after_append, ← after_append, keep_values]
  exact UA_values V j

theorem pre_v12 (j : Fin 2048) (f : Fin 5) : (afterL preI V (Proc.devRef .tc main_v12) : S2048x5.Idx → EReal) (ix2 j f) = cand (ar V) f j := by
  rw [pre_cut, after_of_writes_sub (r := main_v12) hostOps0_4 _ hostOps0_4_writes (by decide +kernel),
    after_of_writes_sub (r := main_v12) hostOps0_3 _ hostOps0_3_writes (by decide +kernel)]
  unfold UC UD UB
  rw [keep_C_v12, keep_B2_v12, keep_B1_v12]
  exact UA_v12 V j f

theorem pre_cst : (afterL preI V (Proc.devRef .tc main_cst) : S4.Idx → EReal) = fun i => Ideal.ofBits .f32 (lit0 (S4.rowMajor i)) := by
  simp only [preI, afterL_cons, afterL_nil]
  rw [after_of_writes_sub (r := main_cst) hostOps0_4 _ hostOps0_4_writes (by decide +kernel),
    after_of_writes_sub (r := main_cst) hostOps0_3 _ hostOps0_3_writes (by decide +kernel),
    after_of_writes_sub (r := main_cst) hostOps0_2 _ hostOps0_2_writes (by decide +kernel),
    after_of_writes_sub (r := main_cst) hostOps0_1 _ hostOps0_1_writes (by decide +kernel)]
  exact read_cst V

theorem pre_cst_0 : (afterL preI V (Proc.devRef .tc main_cst_0) : S4.Idx → EReal) = fun i => Ideal.ofBits .f32 (lit1 (S4.rowMajor i)) := by
  simp only [preI, afterL_cons, afterL_nil]
  rw [after_of_writes_sub (r := main_cst_0) hostOps0_4 _ hostOps0_4_writes (by decide +kernel),
    after_of_writes_sub (r := main_cst_0) hostOps0_3 _ hostOps0_3_writes (by decide +kernel),
    after_of_writes_sub (r := main_cst_0) hostOps0_2 _ hostOps0_2_writes (by decide +kernel),
    after_of_writes_sub (r := main_cst_0) hostOps0_1 _ hostOps0_1_writes (by decide +kernel)]
  simp only [hostOps0]
  after_reads_simp
  rfl

end

end Cert.Proof.R

end
-- ==== Proof.RLoop.lean ====
/-
  One trip of the reference's loop on the keeps, and all of them.
-/
module

public import proofs.«01_k».proof.Proof.Spec
public import proofs.«01_k».proof.Proof.Gen.ReferenceIdeal.Run
public import Idealize.ShloMosaic.Lib.Pointwise
public import Idealize.ShloMosaic.Lib.Routing.Ops
public import Idealize.ShloMosaic.Lib.Routing.OpsOrder

@[expose] public section

noncomputable section

namespace Cert.Proof.R

open Cert.ReferenceIdeal Cert.ReferenceIdeal.Gen Cert.ReferenceIdeal.Value
open Idealize.ShloMosaic Idealize.ShloMosaic.TcCoe
open Idealize.ShloMosaic.StableHlo
open scoped Classical

/-- A scatter of one value at one index replaces the value there. -/
theorem scatter_one {α : Type} (x : S2048.Idx → α) (idx : IVec S1 32) (u : S_.Idx → α) (j : Fin 2048) :
    Host.scatter scatter_S2048_S1_S__n_0_0_0 (fun _ b => b) x idx u (ix1 j)
      = if (idx (ix1 0)).toInt = (j.val : Int) then u (Shape.Idx.first h_S_) else x (ix1 j) := by
  rw [Routing.scatter_at]
  have h1 : S_.numel = 1 := by decide
  have hl : ∀ (n : ℕ) (hn : n = 1) (g : α → Fin n → α) (a : α), (List.finRange n).foldl g a = g a ⟨0, by omega⟩ := by
    intro n hn g a
    subst hn
    rfl
  rw [hl _ h1]
  have hu : ∀ i : S_.Idx, i = Shape.Idx.first h_S_ := fun i => funext fun a => a.elim0
  rw [hu (S_.rowMajor.symm _)]
  have hst : scatter_S2048_S1_S__n_0_0_0.start (Shape.Idx.first h_S_) idx 0 = (idx (ix1 0)).toInt := by
    unfold ScatterDims.start
    rw [dif_pos (show (0 : Fin 1) ∈ scatter_S2048_S1_S__n_0_0_0.scatterDimsToOperandDims from List.mem_singleton.mpr rfl)]
    congr 2
    funext b
    obtain rfl : b = 0 := Subsingleton.elim _ _
    exact Subsingleton.elim (α := Fin 1) _ _
  have hw : scatter_S2048_S1_S__n_0_0_0.window (Shape.Idx.first h_S_) 0 = 0 := by
    unfold ScatterDims.window
    rw [dif_neg]
    intro h
    exact absurd h (by decide)
  have key : scatter_S2048_S1_S__n_0_0_0.resultIdx? (Shape.Idx.first h_S_) idx = some (ix1 j) ↔ (idx (ix1 0)).toInt = (j.val : Int) := by
    unfold ScatterDims.resultIdx?
    constructor
    · intro h
      split_ifs at h with hc
      have h0 := congrArg Fin.val (congrFun (Option.some.inj h) 0)
      have hc0 := hc 0
      rw [hst, hw] at hc0
      simp only [hst, hw] at h0
      change _ = j.val at h0
      omega
    · intro h
      have hj := j.isLt
      have hc : ∀ a, 0 ≤ scatter_S2048_S1_S__n_0_0_0.start (Shape.Idx.first h_S_) idx a + scatter_S2048_S1_S__n_0_0_0.window (Shape.Idx.first h_S_) a
          ∧ scatter_S2048_S1_S__n_0_0_0.start (Shape.Idx.first h_S_) idx a + scatter_S2048_S1_S__n_0_0_0.window (Shape.Idx.first h_S_) a < S2048.size a := by
        intro a
        obtain rfl : a = 0 := Subsingleton.elim _ _
        rw [hst, hw, h]
        change _ ∧ _ < (2048 : ℤ)
        omega
      rw [dif_pos hc]
      congr 1
      funext a
      obtain rfl : a = 0 := Subsingleton.elim _ _
      refine Fin.ext ?_
      simp only [hst, hw, h]
      change _ = j.val
      omega
  simp only [key]

/-- One element of a vector, at a start inside it. -/
theorem slice_one {α : Type} (K : S2048.Idx → α) (st : Fin 1 → ℤ) (k : ℕ) (hk : k < 2048) (hs : st 0 = k) :
    shapeCast S_ (Host.dynamicSlice S1 K st sliceFits_S2048_S1) shapeCasts_S1_S_ = fun _ => K (ix1 ⟨k, hk⟩) := by
  funext i
  pointwise
  congr 2
  refine Fin.ext ?_
  exact Host.clampedStart_of_le (s := S2048) (t := S1) rfl st 0 k hs (by show k + 1 ≤ 2048; omega)

/-- One row of a square, at a start inside it. -/
theorem slice_row {α : Type} (A : S2048x2048.Idx → α) (st : Fin 2 → ℤ) (k : ℕ) (hk : k < 2048) (hs : st 0 = k) (hs1 : st 1 = 0) :
    shapeCast S2048 (Host.dynamicSlice S1x2048 A st sliceFits_S2048x2048_S1x2048) shapeCasts_S1x2048_S2048 = fun i => A (ix2 ⟨k, hk⟩ (i 0)) := by
  funext i
  pointwise
  have c0 : Host.clampedStart S2048x2048 S1x2048 rfl st 0 = k :=
    Host.clampedStart_of_le (s := S2048x2048) (t := S1x2048) rfl st 0 k hs (by show k + 1 ≤ 2048; omega)
  have c1 : Host.clampedStart S2048x2048 S1x2048 rfl st 1 = 0 :=
    Host.clampedStart_of_le (s := S2048x2048) (t := S1x2048) rfl st 1 0 hs1 (by show 0 + 2048 ≤ 2048; omega)
  simp only [c0, c1, Nat.zero_add]
  rfl

/-- What a trip puts at candidate `k`: kept before, and no earlier kept candidate overlaps it. -/
theorem trip_keep (V0 : Valuation τ sig (Elt Ideal)) (k : ℕ) (hk : k < 2048)
    (h3 : V0 (Proc.devRef .tc main_v71_3) = (fun _ => BitVec.ofNat 32 k : S_.Idx → BitVec 32))
    (h1 : V0 (Proc.devRef .tc main_v71_1) = (fun i => BitVec.ofNat 32 (i 0).val : S2048.Idx → BitVec 32)) (j : Fin 2048) :
    ((step_main_v71_4 V0 : S2048.Idx → BitVec 1) (ix1 j) = 1#1) ↔
      if j.val = k then (V0 (Proc.devRef .tc main_v71_4) : S2048.Idx → BitVec 1) (ix1 ⟨k, hk⟩) = 1#1
        ∧ ¬ ∃ i : Fin 2048, i.val < k ∧ tau < (V0 (Proc.devRef .tc main_v71_0) : S2048x2048.Idx → EReal) (ix2 ⟨k, hk⟩ i)
          ∧ (V0 (Proc.devRef .tc main_v71_4) : S2048.Idx → BitVec 1) (ix1 i) = 1#1
      else (V0 (Proc.devRef .tc main_v71_4) : S2048.Idx → BitVec 1) (ix1 j) = 1#1 := by
  unfold step_main_v71_4 res_main_while0b_v113
  rw [h3, h1]
  generalize V0 (Proc.devRef .tc main_v71_4) = K
  generalize V0 (Proc.devRef .tc main_v71_0) = A
  change S2048.Idx → BitVec 1 at K
  change S2048x2048.Idx → EReal at A
  simp only [id]
  have hw := (congrArg BitVec.toInt (wrap_nat k 2048 (by omega))).trans (toInt_nat k (by omega))
  rw [slice_one K _ k hk hw, slice_row A _ k hk hw rfl, scatter_one]
  pointwise
  rw [wrap_nat k 2048 (by omega), toInt_nat k (by omega)]
  by_cases hjk : j.val = k
  · rw [if_pos (by omega), if_pos hjk]
    have hor : ∀ (a b : BitVec 1), IntOp.andi a (~~~ b) = 1#1 ↔ a = 1#1 ∧ ¬ b = 1#1 := by decide
    have hand : ∀ (a b : BitVec 1), IntOp.andi a b = 1#1 ↔ a = 1#1 ∧ b = 1#1 := by decide
    rw [hor, Routing.fold_ori]
    refine and_congr_right fun _ => not_congr (exists_congr fun i => ?_)
    rw [hand, hand, slt_nat i.val k (by omega) (by omega)]
    have hb : ∀ b : Bool, BitVec.ofBool b = 1#1 ↔ b = true := by decide
    rw [hb, hb]
    constructor
    · rintro ⟨-, ⟨h1, h2⟩, h3⟩; exact ⟨of_decide_eq_true h3, of_decide_eq_true h1, h2⟩
    · rintro ⟨h3, h1, h2⟩; exact ⟨Finset.mem_univ _, ⟨decide_eq_true h1, h2⟩, decide_eq_true h3⟩
  · rw [if_neg (by omega), if_neg hjk]

/-- The carried buffers before trip `k`: the overlaps and the numbers unchanged, the trip's number, and the keeps decided below `k`. -/
theorem iter_keep (V0 : Valuation τ sig (Elt Ideal)) (M : ℕ → ℕ → Prop)
    (hM : ∀ i j : Fin 2048, tau < (V0 (Proc.devRef .tc main_v71_0) : S2048x2048.Idx → EReal) (ix2 i j) ↔ M i j)
    (h3 : V0 (Proc.devRef .tc main_v71_3) = (fun _ => BitVec.ofNat 32 0 : S_.Idx → BitVec 32))
    (h1 : V0 (Proc.devRef .tc main_v71_1) = (fun i => BitVec.ofNat 32 (i 0).val : S2048.Idx → BitVec 32))
    (h4 : ∀ j : Fin 2048, (V0 (Proc.devRef .tc main_v71_4) : S2048.Idx → BitVec 1) (ix1 j) = 1#1) (k : ℕ) (hk : k ≤ 2048) :
    (STEP^[k] V0) (Proc.devRef .tc main_v71_0) = V0 (Proc.devRef .tc main_v71_0)
      ∧ (STEP^[k] V0) (Proc.devRef .tc main_v71_1) = V0 (Proc.devRef .tc main_v71_1)
      ∧ (STEP^[k] V0) (Proc.devRef .tc main_v71_3) = (fun _ => BitVec.ofNat 32 k : S_.Idx → BitVec 32)
      ∧ ∀ j : Fin 2048, ((STEP^[k] V0) (Proc.devRef .tc main_v71_4) : S2048.Idx → BitVec 1) (ix1 j) = 1#1 ↔ (j.val < k → greedy M j) := by
  induction k with
  | zero => exact ⟨rfl, rfl, h3, fun j => ⟨fun _ h => absurd h (by omega), fun _ => h4 j⟩⟩
  | succ k ih =>
    obtain ⟨i0, i1, i3, i4⟩ := ih (by omega)
    rw [Function.iterate_succ_apply', STEP_main_v71_0, STEP_main_v71_1, STEP_main_v71_3, STEP_main_v71_4]
    refine ⟨i0, i1, ?_, fun j => ?_⟩
    · unfold step_main_v71_3
      rw [i3]
      funext i
      pointwise
      show BitVec.ofNat 32 k + BitVec.ofNat 32 1 = _
      rw [← BitVec.ofNat_add]
    · rw [trip_keep _ k (by omega) i3 (i1.trans h1) j, i0]
      by_cases hjk : j.val = k
      · rw [if_pos hjk, i4, hjk]
        have e : (∃ i : Fin 2048, i.val < k ∧ tau < (V0 (Proc.devRef .tc main_v71_0) : S2048x2048.Idx → EReal) (ix2 ⟨k, by omega⟩ i)
            ∧ ((STEP^[k] V0) (Proc.devRef .tc main_v71_4) : S2048.Idx → BitVec 1) (ix1 i) = 1#1) ↔ ∃ i, i < k ∧ M k i ∧ greedy M i := by
          constructor
          · rintro ⟨i, hi, ht, hK⟩
            exact ⟨i, hi, (hM _ _).mp ht, (i4 i).mp hK hi⟩
          · rintro ⟨i, hi, ht, hK⟩
            exact ⟨⟨i, by omega⟩, hi, (hM _ _).mpr ht, (i4 _).mpr fun _ => hK⟩
        rw [e]
        constructor
        · intro h _
          exact (greedy_iff M k).mpr h.2
        · intro h
          exact ⟨fun h => absurd h (by simp), (greedy_iff M k).mp (h (by omega))⟩
      · rw [if_neg hjk, i4]
        exact ⟨fun h hj => h (by omega), fun h hj => h (by omega)⟩

end Cert.Proof.R

end
-- ==== Proof.RThru.lean ====
/-
  What the reference holds after its loop.
-/
module

public import proofs.«01_k».proof.Proof.RIn
public import proofs.«01_k».proof.Proof.RLoop

@[expose] public section

noncomputable section

namespace Cert.Proof.R

open Cert.ReferenceIdeal Cert.ReferenceIdeal.Gen Cert.ReferenceIdeal.Value
open Idealize.ShloMosaic Idealize.ShloMosaic.TcCoe
open Idealize.ShloMosaic.StableHlo
open scoped Classical

section

variable (m : (ℓ : Loc nD τ sig) → Buf (Elt Ideal) ℓ)

/-- The contents after the loop. -/
def X (c : Dev nD) : Valuation τ sig (Elt Ideal) := after condOps (atK m 2048 c)

theorem final_eq (c : Dev nD) : finalContents condOps preI bodyI postI 2048 m c = afterL postI (X m c) := rfl

/-- A buffer the loop doesn't write. -/
theorem atK_old (c : Dev nD) {b : Ref sig .tc} (h : b ∉ while0Ops0_W) (h' : b ∉ condOps_W) :
    ∀ k, atK m k c (Proc.devRef .tc b) = entryContents preI m c (Proc.devRef .tc b)
  | 0 => rfl
  | k + 1 => (after_of_writes_sub (r := b) (while0Ops0 (F := Ideal)) _ while0Ops0_writes h).trans
      ((after_of_writes_sub (r := b) (condOps (F := Ideal)) _ condOps_writes h').trans (atK_old c h h' k))

theorem X_old (c : Dev nD) {b : Ref sig .tc} (h : b ∉ while0Ops0_W) (h' : b ∉ condOps_W) :
    X m c (Proc.devRef .tc b) = entryContents preI m c (Proc.devRef .tc b) :=
  (after_of_writes_sub (r := b) (condOps (F := Ideal)) _ condOps_writes h').trans (atK_old m c h h' 2048)

/-- The argument as launched. -/
abbrev arg (c : Dev nD) : S5x20000.Idx → EReal := m ((c.tc : Thread nD τ).loc main_arg0)

theorem entry_eq (c : Dev nD) : ∃ V : Valuation τ sig (Elt Ideal), entryContents preI m c = afterL preI V ∧ ar V = arg m c :=
  ⟨_, rfl, rfl⟩

theorem X_values (c : Dev nD) (j : Fin 2048) : (X m c (Proc.devRef .tc main_values) : S2048.Idx → EReal) (ix1 j) = sc (arg m c) j := by
  obtain ⟨V, e, ea⟩ := entry_eq m c
  rw [X_old m c (b := main_values) (by decide +kernel) (by decide +kernel), e, ← ea]
  exact pre_values V j

theorem X_v12 (c : Dev nD) (j : Fin 2048) (f : Fin 5) : (X m c (Proc.devRef .tc main_v12) : S2048x5.Idx → EReal) (ix2 j f) = cand (arg m c) f j := by
  obtain ⟨V, e, ea⟩ := entry_eq m c
  rw [X_old m c (b := main_v12) (by decide +kernel) (by decide +kernel), e, ← ea]
  exact pre_v12 V j f

theorem X_cst (c : Dev nD) : (X m c (Proc.devRef .tc main_cst) : S4.Idx → EReal) = fun i => Ideal.ofBits .f32 (lit0 (S4.rowMajor i)) := by
  obtain ⟨V, e, ea⟩ := entry_eq m c
  rw [X_old m c (b := main_cst) (by decide +kernel) (by decide +kernel), e]
  exact pre_cst V

theorem X_cst_0 (c : Dev nD) : (X m c (Proc.devRef .tc main_cst_0) : S4.Idx → EReal) = fun i => Ideal.ofBits .f32 (lit1 (S4.rowMajor i)) := by
  obtain ⟨V, e, ea⟩ := entry_eq m c
  rw [X_old m c (b := main_cst_0) (by decide +kernel) (by decide +kernel), e]
  exact pre_cst_0 V

/-- Which candidates are kept. -/
theorem X_keep (c : Dev nD) (j : Fin 2048) : (X m c (Proc.devRef .tc main_v71_4) : S2048.Idx → BitVec 1) (ix1 j) = 1#1 ↔ greedy (BOv (cand (arg m c))) j := by
  obtain ⟨V, e, ea⟩ := entry_eq m c
  have hx : X m c (Proc.devRef .tc main_v71_4) = atK m 2048 c (Proc.devRef .tc main_v71_4) :=
    after_of_writes_sub (r := main_v71_4) (condOps (F := Ideal)) _ condOps_writes (by decide +kernel)
  have ha : atK m 2048 c (Proc.devRef .tc main_v71_4) = (STEP^[2048] (entryContents preI m c)) (Proc.devRef .tc main_v71_4) :=
    atK_agree m c 2048 _ (by decide +kernel)
  rw [hx, ha, e, ← ea]
  have hi := (iter_keep (afterL preI V) (BOv (cand (ar V))) (fun i j => by rw [pre_mat]; rfl) ?_ ?_ ?_ 2048 le_rfl).2.2.2 j
  · rw [hi]
    exact ⟨fun h => h j.isLt, fun h _ => h⟩
  · rw [pre_cut]; exact read_71_3 _
  · rw [pre_cut]; exact read_71_1 _
  · intro j; rw [pre_cut]; exact congrFun (read_71_4 _) _

end

end Cert.Proof.R

end
-- ==== Proof.RPost.lean ====
/-
  What the reference's stretch after the loop leaves: the best kept candidates, their boxes in the detector's coordinates.
-/
module

public import proofs.«01_k».proof.Proof.Cand
public import proofs.«01_k».proof.Proof.Gen.ReferenceIdeal.Run
public import Idealize.ShloMosaic.Lib.Pointwise
public import Idealize.ShloMosaic.Lib.StableHlo.ReadAt
public import Idealize.ShloMosaic.Lib.Routing.Ops

@[expose] public section

noncomputable section

namespace Cert.Proof.R

open Cert.ReferenceIdeal Cert.ReferenceIdeal.Gen Cert.ReferenceIdeal.Value
open Idealize.ShloMosaic Idealize.ShloMosaic.TcCoe
open Idealize.ShloMosaic.StableHlo
open scoped Classical

section

variable (V : Valuation τ sig (Elt Ideal))

theorem select_and (b : BitVec 1) (P : Prop) [Decidable P] (x y : EReal) :
    Scalar.select (IntOp.andi b (BitVec.ofBool (decide P))) x y = if b = 1#1 ∧ P then x else y := by
  have hb : b = 1#1 ∨ b = 0#1 := by
    revert b; decide
  rcases hb with rfl | rfl <;> by_cases h : P <;> simp [h, Scalar.select, IntOp.andi]

abbrev segP0 : List (HloOp τ sig (Elt Ideal)) := hostOps0_7.take 11
abbrev segP1 : List (HloOp τ sig (Elt Ideal)) := (hostOps0_7.drop 11).take 8
abbrev segP2 : List (HloOp τ sig (Elt Ideal)) := (hostOps0_7.drop 19).take 17
abbrev segP3 : List (HloOp τ sig (Elt Ideal)) := (hostOps0_7.drop 36).take 2
abbrev segP4 : List (HloOp τ sig (Elt Ideal)) := hostOps0_7.drop 38

theorem post_cut7 : (hostOps0_7 : List (HloOp τ sig (Elt Ideal))) = segP0 ++ (segP1 ++ (segP2 ++ (segP3 ++ segP4))) := rfl

set_option maxRecDepth 8192 in
set_option maxHeartbeats 1700000 in
theorem keep_P1_values_14  :
    after segP1 V (Proc.devRef .tc main_values_14) = V (Proc.devRef .tc main_values_14) := by
  simp only [segP1, hostOps0_7, List.drop_succ_cons, List.drop_zero, List.take_succ_cons, List.take_zero]
  after_reads_simp

set_option maxRecDepth 8192 in
set_option maxHeartbeats 1700000 in
theorem keep_P2_values_14  :
    after segP2 V (Proc.devRef .tc main_values_14) = V (Proc.devRef .tc main_values_14) := by
  simp only [segP2, hostOps0_7, List.drop_succ_cons, List.drop_zero, List.take_succ_cons, List.take_zero]
  after_reads_simp

set_option maxRecDepth 8192 in
set_option maxHeartbeats 1700000 in
theorem keep_P3_values_14  :
    after segP3 V (Proc.devRef .tc main_values_14) = V (Proc.devRef .tc main_values_14) := by
  simp only [segP3, hostOps0_7, List.drop_succ_cons, List.drop_zero, List.take_succ_cons, List.take_zero]
  after_reads_simp

set_option maxRecDepth 8192 in
set_option maxHeartbeats 1700000 in
theorem keep_P1_v82  :
    after segP1 V (Proc.devRef .tc main_v82) = V (Proc.devRef .tc main_v82) := by
  simp only [segP1, hostOps0_7, List.drop_succ_cons, List.drop_zero, List.take_succ_cons, List.take_zero]
  after_reads_simp

set_option maxRecDepth 8192 in
set_option maxHeartbeats 1700000 in
theorem keep_P2_v82  :
    after segP2 V (Proc.devRef .tc main_v82) = V (Proc.devRef .tc main_v82) := by
  simp only [segP2, hostOps0_7, List.drop_succ_cons, List.drop_zero, List.take_succ_cons, List.take_zero]
  after_reads_simp

set_option maxRecDepth 8192 in
set_option maxHeartbeats 1700000 in
theorem keep_P1_cst  :
    after segP1 V (Proc.devRef .tc main_cst) = V (Proc.devRef .tc main_cst) := by
  simp only [segP1, hostOps0_7, List.drop_succ_cons, List.drop_zero, List.take_succ_cons, List.take_zero]
  after_reads_simp

set_option maxRecDepth 8192 in
set_option maxHeartbeats 1700000 in
theorem keep_P1_cst_0  :
    after segP1 V (Proc.devRef .tc main_cst_0) = V (Proc.devRef .tc main_cst_0) := by
  simp only [segP1, hostOps0_7, List.drop_succ_cons, List.drop_zero, List.take_succ_cons, List.take_zero]
  after_reads_simp

set_option maxRecDepth 8192 in
set_option maxHeartbeats 1700000 in
theorem keep_P0_cst  :
    after segP0 V (Proc.devRef .tc main_cst) = V (Proc.devRef .tc main_cst) := by
  simp only [segP0, hostOps0_7, List.drop_succ_cons, List.drop_zero, List.take_succ_cons, List.take_zero]
  after_reads_simp

set_option maxRecDepth 8192 in
set_option maxHeartbeats 1700000 in
theorem keep_P0_cst_0  :
    after segP0 V (Proc.devRef .tc main_cst_0) = V (Proc.devRef .tc main_cst_0) := by
  simp only [segP0, hostOps0_7, List.drop_succ_cons, List.drop_zero, List.take_succ_cons, List.take_zero]
  after_reads_simp

set_option maxRecDepth 8192 in
set_option maxHeartbeats 1700000 in
theorem read_v75 (j : Fin 2048) :
    (after hostOps0_6 (after hostOps0_5 V) (Proc.devRef .tc main_v75) : S2048.Idx → EReal) (ix1 j)
      = if (V (Proc.devRef .tc main_v71_4) : S2048.Idx → BitVec 1) (ix1 j) = 1#1 ∧ conf ≤ (V (Proc.devRef .tc main_values) : S2048.Idx → EReal) (ix1 j) then (V (Proc.devRef .tc main_values) : S2048.Idx → EReal) (ix1 j) else (⊥ : EReal) := by
  simp only [hostOps0_6, hostOps0_5]
  after_reads_at
  have hb : (id (constant (F := Ideal) S_ .f32 0xFF800000#32) ix0 : EReal) = ⊥ := by
    change Ideal.ofBits .f32 0xFF800000#32 = ⊥
    simp [Ideal.ofBits, Ideal.ieee, -EReal.coe_mul]
  rw [hb]
  exact select_and _ _ _ _

set_option maxRecDepth 8192 in
set_option maxHeartbeats 1700000 in
theorem read_v82 (y : S2048.Idx → EReal) (hy : V (Proc.devRef .tc main_v75) = y) (r : Fin 300) (f : Fin 5) :
    (after segP0 V (Proc.devRef .tc main_v82) : S300x5.Idx → EReal) (ix2 r f)
      = (V (Proc.devRef .tc main_v12) : S2048x5.Idx → EReal) (ix2 (sortedFrom (gtAt y) ⟨r.val, by omega⟩) f) := by
  simp only [segP0, hostOps0_7, List.drop_succ_cons, List.drop_zero, List.take_succ_cons, List.take_zero]
  after_reads_at
  rw [hy]
  refine Routing.gather_row _ rfl rfl rfl rfl rfl _ _ r f (sortedFrom (gtAt y) ⟨r.val, by omega⟩) ?_ (by norm_num)
  pointwise
  rw [(topK_read y sliceFits_S2048_S300 (by norm_num) r).2]
  exact wrap_nat _ 2048 (by omega)

set_option maxRecDepth 8192 in
set_option maxHeartbeats 1700000 in
theorem read_values_14 (y : S2048.Idx → EReal) (hy : V (Proc.devRef .tc main_v75) = y) (r : Fin 300) :
    (after segP0 V (Proc.devRef .tc main_values_14) : S300.Idx → EReal) (ix1 r) = y (ix1 (sortedFrom (gtAt y) ⟨r.val, by omega⟩)) := by
  simp only [segP0, hostOps0_7, List.drop_succ_cons, List.drop_zero, List.take_succ_cons, List.take_zero]
  after_reads_at
  rw [hy]
  exact (topK_read y sliceFits_S2048_S300 (by norm_num) r).1

set_option maxRecDepth 8192 in
set_option maxHeartbeats 1700000 in
theorem read_v88_0 (r : Fin 300) :
    (after segP1 V (Proc.devRef .tc main_v88) : S300x2.Idx → EReal) (ix2 r 0)
      = @HSub.hSub EReal EReal EReal _ ((V (Proc.devRef .tc main_v82) : S300x5.Idx → EReal) (ix2 r 0)) (Ideal.div ((V (Proc.devRef .tc main_v82) : S300x5.Idx → EReal) (ix2 r 2)) (Ideal.ofBits .f32 0x40000000#32)) := by
  simp only [segP1, hostOps0_7, List.drop_succ_cons, List.drop_zero, List.take_succ_cons, List.take_zero]
  after_reads_at

set_option maxRecDepth 8192 in
set_option maxHeartbeats 1700000 in
theorem read_v88_1 (r : Fin 300) :
    (after segP1 V (Proc.devRef .tc main_v88) : S300x2.Idx → EReal) (ix2 r 1)
      = @HSub.hSub EReal EReal EReal _ ((V (Proc.devRef .tc main_v82) : S300x5.Idx → EReal) (ix2 r 1)) (Ideal.div ((V (Proc.devRef .tc main_v82) : S300x5.Idx → EReal) (ix2 r 3)) (Ideal.ofBits .f32 0x40000000#32)) := by
  simp only [segP1, hostOps0_7, List.drop_succ_cons, List.drop_zero, List.take_succ_cons, List.take_zero]
  after_reads_at

set_option maxRecDepth 8192 in
set_option maxHeartbeats 1700000 in
theorem read_v89_0 (r : Fin 300) :
    (after segP1 V (Proc.devRef .tc main_v89) : S300x2.Idx → EReal) (ix2 r 0)
      = @HAdd.hAdd EReal EReal EReal _ ((V (Proc.devRef .tc main_v82) : S300x5.Idx → EReal) (ix2 r 0)) (Ideal.div ((V (Proc.devRef .tc main_v82) : S300x5.Idx → EReal) (ix2 r 2)) (Ideal.ofBits .f32 0x40000000#32)) := by
  simp only [segP1, hostOps0_7, List.drop_succ_cons, List.drop_zero, List.take_succ_cons, List.take_zero]
  after_reads_at

set_option maxRecDepth 8192 in
set_option maxHeartbeats 1700000 in
theorem read_v89_1 (r : Fin 300) :
    (after segP1 V (Proc.devRef .tc main_v89) : S300x2.Idx → EReal) (ix2 r 1)
      = @HAdd.hAdd EReal EReal EReal _ ((V (Proc.devRef .tc main_v82) : S300x5.Idx → EReal) (ix2 r 1)) (Ideal.div ((V (Proc.devRef .tc main_v82) : S300x5.Idx → EReal) (ix2 r 3)) (Ideal.ofBits .f32 0x40000000#32)) := by
  simp only [segP1, hostOps0_7, List.drop_succ_cons, List.drop_zero, List.take_succ_cons, List.take_zero]
  after_reads_at

/-- A corner in the detector's coordinates, and a scale. -/
def corner (a s : EReal) : EReal := a * s + 1

def scaleAt (k : Fin 4) : EReal := Ideal.div ((V (Proc.devRef .tc main_cst_0) : S4.Idx → EReal) (ix1 k)) ((V (Proc.devRef .tc main_cst) : S4.Idx → EReal) (ix1 k))

set_option maxRecDepth 8192 in
set_option maxHeartbeats 1700000 in
theorem read_v101_0 (r : Fin 300) :
    (after segP2 V (Proc.devRef .tc main_v101) : S300x2.Idx → EReal) (ix2 r 0)
      = Ideal.div (corner ((V (Proc.devRef .tc main_v88) : S300x2.Idx → EReal) (ix2 r 0)) (scaleAt V 0)
        + corner ((V (Proc.devRef .tc main_v89) : S300x2.Idx → EReal) (ix2 r 0)) (scaleAt V 2)) (Ideal.ofBits .f32 0x40000000#32) := by
  simp only [segP2, hostOps0_7, List.drop_succ_cons, List.drop_zero, List.take_succ_cons, List.take_zero]
  after_reads_at
  rfl

set_option maxRecDepth 8192 in
set_option maxHeartbeats 1700000 in
theorem read_v104_0 (r : Fin 300) :
    (after segP2 V (Proc.devRef .tc main_v104) : S300x2.Idx → EReal) (ix2 r 0)
      = corner ((V (Proc.devRef .tc main_v89) : S300x2.Idx → EReal) (ix2 r 0)) (scaleAt V 2)
        - corner ((V (Proc.devRef .tc main_v88) : S300x2.Idx → EReal) (ix2 r 0)) (scaleAt V 0) := by
  simp only [segP2, hostOps0_7, List.drop_succ_cons, List.drop_zero, List.take_succ_cons, List.take_zero]
  after_reads_at
  rfl

set_option maxRecDepth 8192 in
set_option maxHeartbeats 1700000 in
theorem read_v101_1 (r : Fin 300) :
    (after segP2 V (Proc.devRef .tc main_v101) : S300x2.Idx → EReal) (ix2 r 1)
      = Ideal.div (corner ((V (Proc.devRef .tc main_v88) : S300x2.Idx → EReal) (ix2 r 1)) (scaleAt V 1)
        + corner ((V (Proc.devRef .tc main_v89) : S300x2.Idx → EReal) (ix2 r 1)) (scaleAt V 3)) (Ideal.ofBits .f32 0x40000000#32) := by
  simp only [segP2, hostOps0_7, List.drop_succ_cons, List.drop_zero, List.take_succ_cons, List.take_zero]
  after_reads_at
  rfl

set_option maxRecDepth 8192 in
set_option maxHeartbeats 1700000 in
theorem read_v104_1 (r : Fin 300) :
    (after segP2 V (Proc.devRef .tc main_v104) : S300x2.Idx → EReal) (ix2 r 1)
      = corner ((V (Proc.devRef .tc main_v89) : S300x2.Idx → EReal) (ix2 r 1)) (scaleAt V 3)
        - corner ((V (Proc.devRef .tc main_v88) : S300x2.Idx → EReal) (ix2 r 1)) (scaleAt V 1) := by
  simp only [segP2, hostOps0_7, List.drop_succ_cons, List.drop_zero, List.take_succ_cons, List.take_zero]
  after_reads_at
  rfl

set_option maxRecDepth 8192 in
set_option maxHeartbeats 1700000 in
theorem read_v105_0 (r : Fin 300) :
    (after segP3 V (Proc.devRef .tc main_v105) : S300x4.Idx → EReal) (ix2 r 0) = (V (Proc.devRef .tc main_v101) : S300x2.Idx → EReal) (ix2 r 0) := by
  simp only [segP3, hostOps0_7, List.drop_succ_cons, List.drop_zero, List.take_succ_cons, List.take_zero]
  after_reads_at

set_option maxRecDepth 8192 in
set_option maxHeartbeats 1700000 in
theorem read_v105_1 (r : Fin 300) :
    (after segP3 V (Proc.devRef .tc main_v105) : S300x4.Idx → EReal) (ix2 r 1) = (V (Proc.devRef .tc main_v101) : S300x2.Idx → EReal) (ix2 r 1) := by
  simp only [segP3, hostOps0_7, List.drop_succ_cons, List.drop_zero, List.take_succ_cons, List.take_zero]
  after_reads_at

set_option maxRecDepth 8192 in
set_option maxHeartbeats 1700000 in
theorem read_v105_2 (r : Fin 300) :
    (after segP3 V (Proc.devRef .tc main_v105) : S300x4.Idx → EReal) (ix2 r 2) = (V (Proc.devRef .tc main_v104) : S300x2.Idx → EReal) (ix2 r 0) := by
  simp only [segP3, hostOps0_7, List.drop_succ_cons, List.drop_zero, List.take_succ_cons, List.take_zero]
  after_reads_at

set_option maxRecDepth 8192 in
set_option maxHeartbeats 1700000 in
theorem read_v105_3 (r : Fin 300) :
    (after segP3 V (Proc.devRef .tc main_v105) : S300x4.Idx → EReal) (ix2 r 3) = (V (Proc.devRef .tc main_v104) : S300x2.Idx → EReal) (ix2 r 1) := by
  simp only [segP3, hostOps0_7, List.drop_succ_cons, List.drop_zero, List.take_succ_cons, List.take_zero]
  after_reads_at

set_option maxRecDepth 8192 in
set_option maxHeartbeats 1700000 in
theorem read_v106 (r : Fin 300) :
    (after segP3 V (Proc.devRef .tc main_v106) : S300x1.Idx → EReal) (ix2 r 0) = (V (Proc.devRef .tc main_v82) : S300x5.Idx → EReal) (ix2 r 4) := by
  simp only [segP3, hostOps0_7, List.drop_succ_cons, List.drop_zero, List.take_succ_cons, List.take_zero]
  after_reads_at

set_option maxRecDepth 8192 in
set_option maxHeartbeats 1700000 in
theorem read_v111_0 (r : Fin 300) :
    (after hostOps0_8 (after segP4 V) (Proc.devRef .tc main_v111) : S300x5.Idx → EReal) (ix2 r 0)
      = if conf ≤ (V (Proc.devRef .tc main_values_14) : S300.Idx → EReal) (ix1 r) then (V (Proc.devRef .tc main_v105) : S300x4.Idx → EReal) (ix2 r 0) else (0 : EReal) := by
  rw [← after_append]
  simp only [segP4, hostOps0_7, hostOps0_8, List.drop_succ_cons, List.drop_zero, List.cons_append, List.nil_append]
  after_reads_at
  rw [show (id (constant (F := Ideal) S_ .f32 0x00000000#32) ix0 : EReal) = 0 from Ideal.ofBits_zero_f32]
  rfl

set_option maxRecDepth 8192 in
set_option maxHeartbeats 1700000 in
theorem read_v111_1 (r : Fin 300) :
    (after hostOps0_8 (after segP4 V) (Proc.devRef .tc main_v111) : S300x5.Idx → EReal) (ix2 r 1)
      = if conf ≤ (V (Proc.devRef .tc main_values_14) : S300.Idx → EReal) (ix1 r) then (V (Proc.devRef .tc main_v105) : S300x4.Idx → EReal) (ix2 r 1) else (0 : EReal) := by
  rw [← after_append]
  simp only [segP4, hostOps0_7, hostOps0_8, List.drop_succ_cons, List.drop_zero, List.cons_append, List.nil_append]
  after_reads_at
  rw [show (id (constant (F := Ideal) S_ .f32 0x00000000#32) ix0 : EReal) = 0 from Ideal.ofBits_zero_f32]
  rfl

set_option maxRecDepth 8192 in
set_option maxHeartbeats 1700000 in
theorem read_v111_2 (r : Fin 300) :
    (after hostOps0_8 (after segP4 V) (Proc.devRef .tc main_v111) : S300x5.Idx → EReal) (ix2 r 2)
      = if conf ≤ (V (Proc.devRef .tc main_values_14) : S300.Idx → EReal) (ix1 r) then (V (Proc.devRef .tc main_v105) : S300x4.Idx → EReal) (ix2 r 2) else (0 : EReal) := by
  rw [← after_append]
  simp only [segP4, hostOps0_7, hostOps0_8, List.drop_succ_cons, List.drop_zero, List.cons_append, List.nil_append]
  after_reads_at
  rw [show (id (constant (F := Ideal) S_ .f32 0x00000000#32) ix0 : EReal) = 0 from Ideal.ofBits_zero_f32]
  rfl

set_option maxRecDepth 8192 in
set_option maxHeartbeats 1700000 in
theorem read_v111_3 (r : Fin 300) :
    (after hostOps0_8 (after segP4 V) (Proc.devRef .tc main_v111) : S300x5.Idx → EReal) (ix2 r 3)
      = if conf ≤ (V (Proc.devRef .tc main_values_14) : S300.Idx → EReal) (ix1 r) then (V (Proc.devRef .tc main_v105) : S300x4.Idx → EReal) (ix2 r 3) else (0 : EReal) := by
  rw [← after_append]
  simp only [segP4, hostOps0_7, hostOps0_8, List.drop_succ_cons, List.drop_zero, List.cons_append, List.nil_append]
  after_reads_at
  rw [show (id (constant (F := Ideal) S_ .f32 0x00000000#32) ix0 : EReal) = 0 from Ideal.ofBits_zero_f32]
  rfl

set_option maxRecDepth 8192 in
set_option maxHeartbeats 1700000 in
theorem read_v111_4 (r : Fin 300) :
    (after hostOps0_8 (after segP4 V) (Proc.devRef .tc main_v111) : S300x5.Idx → EReal) (ix2 r 4)
      = if conf ≤ (V (Proc.devRef .tc main_values_14) : S300.Idx → EReal) (ix1 r) then (V (Proc.devRef .tc main_v106) : S300x1.Idx → EReal) (ix2 r 0) else (0 : EReal) := by
  rw [← after_append]
  simp only [segP4, hostOps0_7, hostOps0_8, List.drop_succ_cons, List.drop_zero, List.cons_append, List.nil_append]
  after_reads_at
  rw [show (id (constant (F := Ideal) S_ .f32 0x00000000#32) ix0 : EReal) = 0 from Ideal.ofBits_zero_f32]
  rfl

end

end Cert.Proof.R

end
-- ==== Proof.RFin.lean ====
/-
  The reference's result, from its argument.
-/
module

public import proofs.«01_k».proof.Proof.RThru
public import proofs.«01_k».proof.Proof.RPost

@[expose] public section

noncomputable section

namespace Cert.Proof.R

open Cert.ReferenceIdeal Cert.ReferenceIdeal.Gen Cert.ReferenceIdeal.Value
open Idealize.ShloMosaic Idealize.ShloMosaic.TcCoe
open Idealize.ShloMosaic.StableHlo
open scoped Classical

/-! ## The box's arithmetic -/

theorem half_real : half = ((1 / 2 : ℝ) : EReal) := by
  unfold half
  simp [Ideal.ofBits, Ideal.ieee, -EReal.coe_mul]
  norm_num

theorem sx_real : sx = ((3 / 2 : ℝ) : EReal) := by
  unfold sx
  simp [Ideal.ofBits, Ideal.ieee, -EReal.coe_mul]
  norm_num

theorem sy_real : sy = ((135 / 128 : ℝ) : EReal) := by
  unfold sy
  simp [Ideal.ofBits, Ideal.ieee, -EReal.coe_mul]
  norm_num

theorem real_div (a b : ℝ) (h : b ≠ 0) : Ideal.div (a : EReal) (b : EReal) = ((a / b : ℝ) : EReal) := by
  rw [Ideal.div, if_neg (by exact_mod_cast h), div_eq_mul_inv, EReal.coe_mul, EReal.coe_inv]

theorem scale_x : Ideal.div (Ideal.ofBits .f32 0x44F00000#32) (Ideal.ofBits .f32 0x44A00000#32) = sx := by
  rw [show Ideal.ofBits .f32 0x44F00000#32 = ((1920 : ℝ) : EReal) by simp [Ideal.ofBits, Ideal.ieee, -EReal.coe_mul]; norm_num,
    show Ideal.ofBits .f32 0x44A00000#32 = ((1280 : ℝ) : EReal) by simp [Ideal.ofBits, Ideal.ieee, -EReal.coe_mul]; norm_num,
    real_div _ _ (by norm_num), sx_real]
  norm_num

theorem scale_y : Ideal.div (Ideal.ofBits .f32 0x44870000#32) (Ideal.ofBits .f32 0x44800000#32) = sy := by
  rw [show Ideal.ofBits .f32 0x44870000#32 = ((1080 : ℝ) : EReal) by simp [Ideal.ofBits, Ideal.ieee, -EReal.coe_mul]; norm_num,
    show Ideal.ofBits .f32 0x44800000#32 = ((1024 : ℝ) : EReal) by simp [Ideal.ofBits, Ideal.ieee, -EReal.coe_mul]; norm_num,
    real_div _ _ (by norm_num), sy_real]
  norm_num

/-- The middle of the two moved corners is the moved middle. -/
theorem middle (c w s : ℝ) :
    Ideal.div (corner ((c : EReal) - (w : EReal) * half) (s : EReal) + corner ((c : EReal) + (w : EReal) * half) (s : EReal)) (Ideal.ofBits .f32 0x40000000#32)
      = (c : EReal) * (s : EReal) + 1 := by
  rw [div_two, half_real]
  unfold corner
  have h : ((c - w * (1 / 2)) * s + 1 + ((c + w * (1 / 2)) * s + 1)) * (1 / 2) = c * s + 1 := by ring
  exact_mod_cast congrArg (fun t : ℝ => (t : EReal)) h

/-- The two moved corners are the moved width apart. -/
theorem width (c w s : ℝ) :
    corner ((c : EReal) + (w : EReal) * half) (s : EReal) - corner ((c : EReal) - (w : EReal) * half) (s : EReal) = (w : EReal) * (s : EReal) := by
  rw [half_real]
  unfold corner
  have h : ((c + w * (1 / 2)) * s + 1) - ((c - w * (1 / 2)) * s + 1) = w * s := by ring
  exact_mod_cast congrArg (fun t : ℝ => (t : EReal)) h

/-! ## The result -/

section

variable (m : (ℓ : Loc nD τ sig) → Buf (Elt Ideal) ℓ) (c : Dev nD)

/-- The contents before the last selection's values are read, and at the cuts after it. -/
abbrev Y0 : Valuation τ sig (Elt Ideal) := after hostOps0_6 (after hostOps0_5 (X m c))
abbrev Y1 : Valuation τ sig (Elt Ideal) := after segP0 (Y0 m c)
abbrev Y2 : Valuation τ sig (Elt Ideal) := after segP1 (Y1 m c)
abbrev Y3 : Valuation τ sig (Elt Ideal) := after segP2 (Y2 m c)
abbrev Y4 : Valuation τ sig (Elt Ideal) := after segP3 (Y3 m c)

theorem final_cut : finalContents condOps preI bodyI postI 2048 m c = after hostOps0_8 (after segP4 (Y4 m c)) := by
  rw [final_eq]
  simp only [postI, afterL_cons, afterL_nil]
  rw [post_cut7, after_append, after_append, after_append, after_append]

variable (V : Valuation τ sig (Elt Ideal))
theorem keep_5 : after hostOps0_6 (after hostOps0_5 V) (Proc.devRef .tc main_v12) = V (Proc.devRef .tc main_v12)
    ∧ after hostOps0_6 (after hostOps0_5 V) (Proc.devRef .tc main_cst) = V (Proc.devRef .tc main_cst)
    ∧ after hostOps0_6 (after hostOps0_5 V) (Proc.devRef .tc main_cst_0) = V (Proc.devRef .tc main_cst_0) := by
  simp only [hostOps0_5, hostOps0_6]
  refine ⟨?_, ?_, ?_⟩ <;> after_reads_simp

/-- The kept candidates' scores, the others at the bottom. -/
abbrev ks : S2048.Idx → EReal := Y0 m c (Proc.devRef .tc main_v75)

/-- The candidate that row `r` shows, if it counts. -/
abbrev at_ (r : Fin 300) : Fin 2048 := sortedFrom (gtAt (ks m c)) ⟨r.val, by omega⟩

theorem sc_eq (x : S5x20000.Idx → EReal) (j : Fin 2048) (h : conf ≤ cand x 4 j) : sc x j = cand x 4 j := by
  rw [cand_of x 4 j j.isLt] at h ⊢
  unfold sc th
  exact if_pos h

theorem ks_eq (j : Fin 2048) : ks m c (ix1 j) = if BVal (cand (arg m c)) j then cand (arg m c) 4 j else ⊥ := by
  refine (read_v75 (X m c) j).trans ?_
  rw [X_values]
  by_cases h : BVal (cand (arg m c)) j
  · rw [if_pos ⟨(X_keep m c j).mpr h.2, (sc_ge _ j).mpr h.1⟩, if_pos h, sc_eq _ _ h.1]
  · rw [if_neg (fun e => h ⟨(sc_ge _ j).mp e.2, (X_keep m c j).mp e.1⟩), if_neg h]

theorem ks_ge (j : Fin 2048) : conf ≤ ks m c (ix1 j) ↔ BVal (cand (arg m c)) j := by
  rw [ks_eq]
  by_cases h : BVal (cand (arg m c)) j
  · rw [if_pos h]; exact ⟨fun _ => h, fun _ => h.1⟩
  · rw [if_neg h]; exact ⟨fun e => absurd e (not_le.mpr bot_lt_conf), fun e => absurd e h⟩

theorem place (r : Fin 300) :
    (BVal (cand (arg m c)) (at_ m c r) → cntB (BVal (cand (arg m c))) (at_ m c r) = r)
      ∧ ∀ j : Fin 2048, BVal (cand (arg m c)) j → cntB (BVal (cand (arg m c))) j = r → at_ m c r = j :=
  top_place (fun j => ks m c (ix1 j)) (gtAt (ks m c)) (gtAt_iff (ks m c)) (BVal (cand (arg m c)))
  (fun a b hab ha hb => by
    show ks m c (ix1 b) ≤ ks m c (ix1 a)
    rw [ks_eq, ks_eq, if_pos ha, if_pos hb, ← sc_eq _ _ ha.1, ← sc_eq _ _ hb.1]
    exact sc_desc _ a b hab)
  (fun a b ha hb => by
    show ks m c (ix1 b) < ks m c (ix1 a)
    rw [ks_eq, ks_eq, if_pos ha, if_neg hb]
    exact lt_of_lt_of_le bot_lt_conf ha.1) (⟨r.val, by omega⟩ : Fin 2048)

theorem Y1_v82 (r : Fin 300) (f : Fin 5) : (Y1 m c (Proc.devRef .tc main_v82) : S300x5.Idx → EReal) (ix2 r f) = cand (arg m c) f (at_ m c r) := by
  refine (read_v82 (Y0 m c) (ks m c) rfl r f).trans ?_
  rw [show Y0 m c (Proc.devRef .tc main_v12) = X m c (Proc.devRef .tc main_v12) from (keep_5 (X m c)).1]
  exact X_v12 m c _ f

theorem Y4_values (r : Fin 300) : (Y4 m c (Proc.devRef .tc main_values_14) : S300.Idx → EReal) (ix1 r) = ks m c (ix1 (at_ m c r)) := by
  rw [show Y4 m c (Proc.devRef .tc main_values_14) = Y1 m c (Proc.devRef .tc main_values_14) from
    (keep_P3_values_14 _).trans ((keep_P2_values_14 _).trans (keep_P1_values_14 _))]
  exact read_values_14 (Y0 m c) (ks m c) rfl r

theorem Y2_scale (k : Fin 4) : scaleAt (Y2 m c) k = Ideal.div (Ideal.ofBits .f32 (lit1 k)) (Ideal.ofBits .f32 (lit0 k)) := by
  unfold scaleAt
  rw [show Y2 m c (Proc.devRef .tc main_cst) = X m c (Proc.devRef .tc main_cst) from (keep_P1_cst _).trans ((keep_P0_cst _).trans (keep_5 (X m c)).2.1),
    show Y2 m c (Proc.devRef .tc main_cst_0) = X m c (Proc.devRef .tc main_cst_0) from (keep_P1_cst_0 _).trans ((keep_P0_cst_0 _).trans (keep_5 (X m c)).2.2),
    X_cst, X_cst_0]
  have hk : S4.rowMajor (ix1 k) = k := by fin_cases k <;> rfl
  show Ideal.div (Ideal.ofBits .f32 (lit1 (S4.rowMajor (ix1 k)))) (Ideal.ofBits .f32 (lit0 (S4.rowMajor (ix1 k)))) = _
  rw [hk]

theorem Y2_88_0 (r : Fin 300) : (Y2 m c (Proc.devRef .tc main_v88) : S300x2.Idx → EReal) (ix2 r 0)
    = (cand (arg m c) 0 (at_ m c r) - cand (arg m c) 2 (at_ m c r) * half : EReal) := by
  refine (read_v88_0 (Y1 m c) r).trans ?_
  rw [Y1_v82, Y1_v82, div_two]

theorem Y2_88_1 (r : Fin 300) : (Y2 m c (Proc.devRef .tc main_v88) : S300x2.Idx → EReal) (ix2 r 1)
    = (cand (arg m c) 1 (at_ m c r) - cand (arg m c) 3 (at_ m c r) * half : EReal) := by
  refine (read_v88_1 (Y1 m c) r).trans ?_
  rw [Y1_v82, Y1_v82, div_two]

theorem Y2_89_0 (r : Fin 300) : (Y2 m c (Proc.devRef .tc main_v89) : S300x2.Idx → EReal) (ix2 r 0)
    = (cand (arg m c) 0 (at_ m c r) + cand (arg m c) 2 (at_ m c r) * half : EReal) := by
  refine (read_v89_0 (Y1 m c) r).trans ?_
  rw [Y1_v82, Y1_v82, div_two]

theorem Y2_89_1 (r : Fin 300) : (Y2 m c (Proc.devRef .tc main_v89) : S300x2.Idx → EReal) (ix2 r 1)
    = (cand (arg m c) 1 (at_ m c r) + cand (arg m c) 3 (at_ m c r) * half : EReal) := by
  refine (read_v89_1 (Y1 m c) r).trans ?_
  rw [Y1_v82, Y1_v82, div_two]

/-- The argument is finite. -/
def Fin_ (x : S5x20000.Idx → EReal) : Prop := ∀ i, ∃ a : ℝ, x i = (a : EReal)

theorem cand_real (x : S5x20000.Idx → EReal) (hx : Fin_ x) (f : Fin 5) (j : Fin 2048) : ∃ a : ℝ, cand x f j = (a : EReal) := by
  rw [cand_of x f j j.isLt]
  exact hx _

theorem Y3_101_0 (hx : Fin_ (arg m c)) (r : Fin 300) : (Y3 m c (Proc.devRef .tc main_v101) : S300x2.Idx → EReal) (ix2 r 0)
    = bout (cand (arg m c)) 0 (at_ m c r) := by
  refine (read_v101_0 (Y2 m c) r).trans ?_
  obtain ⟨a, ha⟩ := cand_real _ hx 0 (at_ m c r)
  obtain ⟨w, hw⟩ := cand_real _ hx 2 (at_ m c r)
  unfold bout
  rw [Y2_88_0, Y2_89_0, Y2_scale, Y2_scale, show Ideal.div (Ideal.ofBits .f32 (lit1 0)) (Ideal.ofBits .f32 (lit0 0)) = sx from scale_x,
    show Ideal.div (Ideal.ofBits .f32 (lit1 2)) (Ideal.ofBits .f32 (lit0 2)) = sx from scale_x, sx_real, ha, hw]
  exact middle _ _ _

theorem Y3_104_0 (hx : Fin_ (arg m c)) (r : Fin 300) : (Y3 m c (Proc.devRef .tc main_v104) : S300x2.Idx → EReal) (ix2 r 0)
    = bout (cand (arg m c)) 2 (at_ m c r) := by
  refine (read_v104_0 (Y2 m c) r).trans ?_
  obtain ⟨a, ha⟩ := cand_real _ hx 0 (at_ m c r)
  obtain ⟨w, hw⟩ := cand_real _ hx 2 (at_ m c r)
  unfold bout
  rw [Y2_88_0, Y2_89_0, Y2_scale, Y2_scale, show Ideal.div (Ideal.ofBits .f32 (lit1 0)) (Ideal.ofBits .f32 (lit0 0)) = sx from scale_x,
    show Ideal.div (Ideal.ofBits .f32 (lit1 2)) (Ideal.ofBits .f32 (lit0 2)) = sx from scale_x, sx_real, ha, hw]
  exact width _ _ _

theorem Y3_101_1 (hx : Fin_ (arg m c)) (r : Fin 300) : (Y3 m c (Proc.devRef .tc main_v101) : S300x2.Idx → EReal) (ix2 r 1)
    = bout (cand (arg m c)) 1 (at_ m c r) := by
  refine (read_v101_1 (Y2 m c) r).trans ?_
  obtain ⟨a, ha⟩ := cand_real _ hx 1 (at_ m c r)
  obtain ⟨w, hw⟩ := cand_real _ hx 3 (at_ m c r)
  unfold bout
  rw [Y2_88_1, Y2_89_1, Y2_scale, Y2_scale, show Ideal.div (Ideal.ofBits .f32 (lit1 1)) (Ideal.ofBits .f32 (lit0 1)) = sy from scale_y,
    show Ideal.div (Ideal.ofBits .f32 (lit1 3)) (Ideal.ofBits .f32 (lit0 3)) = sy from scale_y, sy_real, ha, hw]
  exact middle _ _ _

theorem Y3_104_1 (hx : Fin_ (arg m c)) (r : Fin 300) : (Y3 m c (Proc.devRef .tc main_v104) : S300x2.Idx → EReal) (ix2 r 1)
    = bout (cand (arg m c)) 3 (at_ m c r) := by
  refine (read_v104_1 (Y2 m c) r).trans ?_
  obtain ⟨a, ha⟩ := cand_real _ hx 1 (at_ m c r)
  obtain ⟨w, hw⟩ := cand_real _ hx 3 (at_ m c r)
  unfold bout
  rw [Y2_88_1, Y2_89_1, Y2_scale, Y2_scale, show Ideal.div (Ideal.ofBits .f32 (lit1 1)) (Ideal.ofBits .f32 (lit0 1)) = sy from scale_y,
    show Ideal.div (Ideal.ofBits .f32 (lit1 3)) (Ideal.ofBits .f32 (lit0 3)) = sy from scale_y, sy_real, ha, hw]
  exact width _ _ _

/-- The result, a number of a row. -/
def res (r : Fin 300) (k : Fin 5) : EReal := (finalContents condOps preI bodyI postI 2048 m c (Proc.devRef .tc main_v111) : S300x5.Idx → EReal) (ix2 r k)

theorem res_eq (hx : Fin_ (arg m c)) (r : Fin 300) (k : Fin 5) :
    res m c r k = if BVal (cand (arg m c)) (at_ m c r) then bout (cand (arg m c)) k (at_ m c r) else 0 := by
  unfold res
  rw [final_cut]
  have hv : (conf ≤ (Y4 m c (Proc.devRef .tc main_values_14) : S300.Idx → EReal) (ix1 r)) = BVal (cand (arg m c)) (at_ m c r) := by
    rw [Y4_values]; exact propext (ks_ge m c _)
  match k with
  | 0 =>
    refine (read_v111_0 (Y4 m c) r).trans ?_
    simp only [hv]
    exact congrArg (fun t : EReal => if BVal (cand (arg m c)) (at_ m c r) then t else 0)
      ((read_v105_0 (Y3 m c) r).trans (Y3_101_0 m c hx r))
  | 1 =>
    refine (read_v111_1 (Y4 m c) r).trans ?_
    simp only [hv]
    exact congrArg (fun t : EReal => if BVal (cand (arg m c)) (at_ m c r) then t else 0)
      ((read_v105_1 (Y3 m c) r).trans (Y3_101_1 m c hx r))
  | 2 =>
    refine (read_v111_2 (Y4 m c) r).trans ?_
    simp only [hv]
    exact congrArg (fun t : EReal => if BVal (cand (arg m c)) (at_ m c r) then t else 0)
      ((read_v105_2 (Y3 m c) r).trans (Y3_104_0 m c hx r))
  | 3 =>
    refine (read_v111_3 (Y4 m c) r).trans ?_
    simp only [hv]
    exact congrArg (fun t : EReal => if BVal (cand (arg m c)) (at_ m c r) then t else 0)
      ((read_v105_3 (Y3 m c) r).trans (Y3_104_1 m c hx r))
  | 4 =>
    refine (read_v111_4 (Y4 m c) r).trans ?_
    simp only [hv]
    exact congrArg (fun t : EReal => if BVal (cand (arg m c)) (at_ m c r) then t else 0)
      ((read_v106 (Y3 m c) r).trans ((congrFun ((keep_P2_v82 _).trans (keep_P1_v82 _)) _).trans (Y1_v82 m c r 4)))

/-- The result shows what it should. -/
theorem res_shows (hx : Fin_ (arg m c)) : Shows (cand (arg m c)) (res m c) := by
  intro r k
  refine ⟨fun j hj hv hc => ?_, fun h => ?_⟩
  · have e : at_ m c r = ⟨j, hj⟩ := (place m c r).2 ⟨j, hj⟩ hv hc
    rw [res_eq m c hx, e, if_pos hv]
  · rw [res_eq m c hx, if_neg fun hv => h _ (at_ m c r).isLt ⟨hv, (place m c r).1 hv⟩]

end

end Cert.Proof.R

end
-- ==== Proof.Frames.lean ====
/-
  The frames: the two kernels' from the whole program's run, the reference's from its fold.
-/
module

public import proofs.«01_k».proof.Proof.Main
public import proofs.«01_k».proof.Proof.Gen.Kernel
public import proofs.«01_k».proof.Proof.Gen.ReferenceIdeal.Run
public import proofs.«01_k».proof.Defs

@[expose] public section

noncomputable section

namespace Cert.Proof.Frames

open Idealize.ShloMosaic Idealize.ShloMosaic.TcCoe Idealize.SL.Sem
open Idealize.ShloMosaic.StableHlo

/-! ## The kernel -/

theorem frame_ki : Cert.quiescent_KernelIdeal := fun m ρ _ =>
  (θ_run Cert.KernelIdeal.defs _ _).mono (fun _ h => ⟨fun c => (h.1 c).2, h.2⟩) (Main.run_main (F := Ideal) m ρ)

/-- The kernel's frame read at the ideal program's text. -/
def QK : Prop :=
  ∀ (m : (ℓ : Loc Cert.KernelIdeal.nD Cert.KernelIdeal.τ Cert.KernelIdeal.sig) → Buf (Elt Bits) ℓ) (g : Dev Cert.KernelIdeal.nD → PrngReg), True →
    θ_run (Cert.KernelIdeal.defs (F := Bits)) (Cert.KernelIdeal.threads (F := Bits)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

theorem qk : QK := fun m ρ _ =>
  (θ_run Cert.KernelIdeal.defs _ _).mono (fun _ h => ⟨fun c => (h.1 c).2, h.2⟩) (Main.run_main (F := Bits) m ρ)

/-- The two printed programs are one text. -/
theorem k_eq : QK = Cert.quiescent_Kernel := by
  sl_kernel_rfl

theorem frame_k : Cert.quiescent_Kernel := k_eq ▸ qk

/-! ## The reference -/

open Cert.ReferenceIdeal Cert.ReferenceIdeal.Gen Cert.ReferenceIdeal.Value

variable {F : FTy → Type} [FloatOps F]

/-- No stretch after the loop writes the argument. -/
theorem post_arg0 (V : Valuation τ sig (Elt F)) : afterL (postI (F := F)) V (Proc.devRef .tc main_arg0) = V (Proc.devRef .tc main_arg0) := by
  rw [afterL_eq_after_flatten]
  refine after_of_forall_not_mem _ V fun op hop => ?_
  obtain ⟨l, hl, ho⟩ := List.mem_flatten.mp hop
  fin_cases hl <;> fin_cases ho <;> exact fun h => devRef_ne_of_ne (by decide) (Finset.mem_singleton.mp h)

/-- No stretch before the loop writes the argument. -/
theorem pre_arg0 (V : Valuation τ sig (Elt F)) : afterL (preI (F := F)) V (Proc.devRef .tc main_arg0) = V (Proc.devRef .tc main_arg0) := by
  simp only [preI, afterL_cons, afterL_nil]
  rw [after_of_writes_sub (r := main_arg0) hostOps0_4 _ hostOps0_4_writes (by decide +kernel),
    after_of_writes_sub (r := main_arg0) hostOps0_3 _ hostOps0_3_writes (by decide +kernel),
    after_of_writes_sub (r := main_arg0) hostOps0_2 _ hostOps0_2_writes (by decide +kernel),
    after_of_writes_sub (r := main_arg0) hostOps0_1 _ hostOps0_1_writes (by decide +kernel),
    after_of_writes_sub (r := main_arg0) hostOps0 _ hostOps0_writes (by decide +kernel)]

variable (m : (ℓ : Loc nD τ sig) → Buf (Elt F) ℓ) (ρ : Dev nD → PrngReg)

theorem atK_arg0 (c : Dev nD) : ∀ k, atK m k c (Proc.devRef .tc main_arg0) = entryContents preI m c (Proc.devRef .tc main_arg0)
  | 0 => rfl
  | k + 1 => (after_of_writes_sub (while0Ops0 (F := F)) _ while0Ops0_writes (by decide +kernel)).trans
      ((after_of_writes_sub (condOps (F := F)) _ condOps_writes (by decide +kernel)).trans (atK_arg0 c k))

theorem fold_arg0 (c : Dev nD) : finalContents condOps preI bodyI postI 2048 m c (Proc.devRef .tc main_arg0) = m ((c.tc : Thread nD τ).loc main_arg0) :=
  (post_arg0 _).trans ((after_of_writes_sub (condOps (F := F)) _ condOps_writes (by decide +kernel)).trans ((atK_arg0 m c 2048).trans (pre_arg0 _)))

theorem frame_ri : Cert.quiescent_ReferenceIdeal := fun m ρ _ =>
  (θ_run Cert.ReferenceIdeal.defs _ _).mono (fun r h => ⟨fun c => (h c main_arg0 (by decide)).trans (fold_arg0 m c),
      Idealize.ShloMosaic.sem_eq_zero_of_no_sems (by decide) r.2⟩)
    (run_fold (F := Ideal) m ρ)

end Cert.Proof.Frames

end
-- ==== Proof.Final.lean ====
/-
  The two results are equal.
-/
module

public import proofs.«01_k».proof.Proof.KIn
public import proofs.«01_k».proof.Proof.RFin
public import proofs.«01_k».proof.Proof.Frames
public import proofs.«01_k».proof.Defs
public import Idealize.ShloMosaic.Lib.ReduceAll

@[expose] public section

noncomputable section

namespace Cert.Proof.Final

open Idealize.ShloMosaic Idealize.ShloMosaic.TcCoe Idealize.SL.Sem
open Idealize.ShloMosaic.StableHlo
open scoped Classical

theorem pre_facts : Cert.Pre_finite.Facts where
  bcast_S_S5x20000 := by decide
  reducesTo_S5x20000_S_d0_1 := by decide
  h_S_ := by decide

local instance : Cert.Pre_finite.Facts := pre_facts

/-- The precondition says every number of the argument is finite. -/
theorem finite_of (x : Cert.ReferenceIdeal.S5x20000.Idx → EReal) (h : Cert.Pre_finite.fn (F := Ideal) x = fun _ => 1#1) : R.Fin_ x := by
  intro i
  have h0 := congrFun h ix0
  unfold Cert.Pre_finite.fn at h0
  haveI : Subsingleton Cert.Pre_finite.S_.Idx := ⟨fun a b => funext fun d => d.elim0⟩
  have h1 := Host.reduce_andi_all _ _ _ _ _ h0 i
  have htop : Ideal.ofBits .f32 0x7F800000#32 = ⊤ := by simp [Ideal.ofBits, Ideal.ieee]
  have h2 : Ideal.cmp .olt (max (x i) (-(x i))) (Ideal.ofBits .f32 0x7F800000#32) = 1#1 := h1
  rw [htop] at h2
  by_cases hlt : max (x i) (-(x i)) < ⊤
  · rw [max_lt_iff] at hlt
    refine ⟨(x i).toReal, (EReal.coe_toReal hlt.1.ne ?_).symm⟩
    intro e
    rw [e] at hlt
    exact absurd hlt.2 (by simp)
  · unfold Ideal.cmp at h2
    simp [hlt] at h2

/-- The two programs' results agree. -/
theorem agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.ReferenceIdeal.nD)
    (he : R.arg m' c = KI.ar (Main.W₀ m)) (hx : R.Fin_ (R.arg m' c)) :
    (finalContents Cert.ReferenceIdeal.Value.condOps Cert.ReferenceIdeal.Value.preI Cert.ReferenceIdeal.Value.bodyI Cert.ReferenceIdeal.Value.postI 2048 m' c
        (Proc.devRef .tc Cert.ReferenceIdeal.main_v111) : Cert.ReferenceIdeal.S300x5.Idx → EReal)
      = (Main.V5 (Main.W₀ m) (Proc.devRef .tc Cert.KernelIdeal.main_v22) : Cert.KernelIdeal.S300x5.Idx → EReal) := by
  have hk := KI.res_shows (Main.W₀ m)
  have hr := R.res_shows m' c hx
  rw [he] at hr
  have e := shows_unique _ _ _ hr hk
  funext i
  obtain ⟨r, k, rfl⟩ : ∃ (r : Fin 300) (k : Fin 5), i = ix2 r k := ⟨i 0, i 1, eq_ix2 i⟩
  exact congrFun (congrFun e r) k

theorem algebraic : Cert.algebraic_KernelIdeal_ReferenceIdeal_pre_finite := by
  intro m g m' g' hpre hargs
  refine ⟨fun _ => Main.V5 (Main.W₀ m) (Proc.devRef .tc Cert.KernelIdeal.main_v22), ?_, ?_⟩
  · exact (θ_run Cert.KernelIdeal.defs _ _).mono (fun _ h => h.1) (Main.run_main (F := Ideal) m g)
  · refine (θ_run Cert.ReferenceIdeal.defs _ _).mono (fun r h c => ⟨?_, (h c Cert.ReferenceIdeal.main_arg0 (by decide)).trans (Frames.fold_arg0 m' c)⟩)
      (Cert.ReferenceIdeal.Value.run_fold (F := Ideal) m' g')
    obtain rfl : c = (0 : Fin 1) := Subsingleton.elim _ _
    have he : R.arg m' (0 : Fin 1) = KI.ar (Main.W₀ m) := hargs (0 : Fin 1)
    refine (h (0 : Fin 1) Cert.ReferenceIdeal.main_v111 (by decide)).trans (agree m m' (0 : Fin 1) he ?_)
    rw [he]
    exact finite_of _ (hpre (0 : Fin 1))

end Cert.Proof.Final

end
-- ==== Proof.lean ====
/-
  The certificate: the frames of the kernel, of its reading over the extended reals and of the reference, and the
  equality of the two results over the extended reals.
-/
module

public import proofs.«01_k».proof.Proof.Final

@[expose] public section

noncomputable section

namespace Cert.Proof

/-- All the claims of Defs.lean. -/
theorem claim : Cert.Claim := ⟨Cert.Kernel.Gen.facts, Cert.KernelIdeal.Gen.facts, Cert.ReferenceIdeal.Gen.facts, Final.pre_facts,
  Frames.frame_k, Frames.frame_ki, fun m g _ => Frames.frame_ki m g trivial, Frames.frame_ri, fun m g _ => Frames.frame_ri m g trivial, trivial,
  Final.algebraic⟩

end Cert.Proof

end
